-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11)) (v1 : (c : Dev Cert.Kernel5Ideal.nD) → Buf (Elt Ideal) ((c.tc : Thread Cert.Kernel5Ideal.nD Cert.Kernel5Ideal.τ).loc Cert.Kernel5Ideal.main_v14)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_v14) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v73) = v1 c
          ∧ r.2.mem ((c.tc : Thread Cert.Reference5Ideal.nD Cert.Reference5Ideal.τ).loc Cert.Reference5Ideal.main_v63) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v14) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S16400x1024 : Shape := ⟨2, ![16400, 1024]⟩
abbrev S2816x1024 : Shape := ⟨2, ![2816, 1024]⟩
abbrev S16400x5632 : Shape := ⟨2, ![16400, 5632]⟩
abbrev S3x5632 : Shape := ⟨2, ![3, 5632]⟩
abbrev S_ : Shape := ⟨0, ![]⟩

class Facts : Prop where
  bcast_S_S16400x1024 : S_.BroadcastsInDim S16400x1024 (![] : Fin 0 → Fin S16400x1024.rank)
  reducesTo_S16400x1024_S_d0_1 : S16400x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16400x5632 : S_.BroadcastsInDim S16400x5632 (![] : Fin 0 → Fin S16400x5632.rank)
  reducesTo_S16400x5632_S_d0_1 : S16400x5632.ReducesTo [0, 1] S_
  bcast_S_S3x5632 : S_.BroadcastsInDim S3x5632 (![] : Fin 0 → Fin S3x5632.rank)
  reducesTo_S3x5632_S_d0_1 : S3x5632.ReducesTo [0, 1] S_

variable [Facts]

def fn_part1 {F : FTy → Type} [FloatOps F] (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  main_v18

def fn {F : FTy → Type} [FloatOps F] (main_arg0 : FVec F S16400x1024 .f32) (main_arg1 : FVec F S2816x1024 .f32) (main_arg2 : FVec F S16400x5632 .f32) (main_arg3 : FVec F S3x5632 .f32) : IVec S_ 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_c : IVec S_ 1 := constantI S_ 1 1#1
  let main_v3 : IVec S_ 1 := (fun x v => Host.reduce IntOp.andi x v reducesTo_S16400x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16400x5632 .f32 := Host.absf main_arg2
  let main_cst_2 : FVec F S_ .f32 := constant S_ .f32 0x7F800000#32
  let main_v10 : FVec F S16400x5632 .f32 := broadcastInDim S16400x5632 ![] bcast_S_S16400x5632 main_cst_2
  let main_v11 : IVec S16400x5632 1 := cmpf .olt main_v9 main_v10
  let main_c_3 : IVec S_ 1 := constantI S_ 1 1#1
  let main_v12 : IVec S_ 1 := (fun x v => Host.reduce IntOp.andi x v reducesTo_S16400x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_v13 main_v16
-- ==== Kernel.lean ====
abbrev S16400x1024 : Shape := ⟨2, ![16400, 1024]⟩
abbrev S2816x1024 : Shape := ⟨2, ![2816, 1024]⟩
abbrev S16400x5632 : Shape := ⟨2, ![16400, 5632]⟩
abbrev S3x5632 : Shape := ⟨2, ![3, 5632]⟩
abbrev S1024x2816 : Shape := ⟨2, ![1024, 2816]⟩
abbrev S41x8x50x1024 : Shape := ⟨4, ![41, 8, 50, 1024]⟩
abbrev S41x50x8x1024 : Shape := ⟨4, ![41, 50, 8, 1024]⟩
abbrev S41x8x50x5632 : Shape := ⟨4, ![41, 8, 50, 5632]⟩
abbrev S41x50x8x5632 : Shape := ⟨4, ![41, 50, 8, 5632]⟩
abbrev S400x1024 : Shape := ⟨2, ![400, 1024]⟩
abbrev S400x5632 : Shape := ⟨2, ![400, 5632]⟩
abbrev S8x5632 : Shape := ⟨2, ![8, 5632]⟩
abbrev S16x5632 : Shape := ⟨2, ![16, 5632]⟩
abbrev S400x2816 : Shape := ⟨2, ![400, 2816]⟩
abbrev S8x2816 : Shape := ⟨2, ![8, 2816]⟩
abbrev S384x2816 : Shape := ⟨2, ![384, 2816]⟩
abbrev S392x2816 : Shape := ⟨2, ![392, 2816]⟩
abbrev S1x2816 : Shape := ⟨2, ![1, 2816]⟩
abbrev S2816 : Shape := ⟨1, ![2816]⟩
abbrev S16x2816 : Shape := ⟨2, ![16, 2816]⟩

abbrev nBuf : Space → Nat
  | .hbm => 21
  | .vmem => 16
  | .smem => 0
  | _ => 0

abbrev bufTy : (tb : Table) → Fin (tcTables nBuf tb) → BufTy
  | .hbm, ⟨0, _⟩ => ⟨S16400x1024, .f32⟩
  | .hbm, ⟨1, _⟩ => ⟨S2816x1024, .f32⟩
  | .hbm, ⟨2, _⟩ => ⟨S16400x5632, .f32⟩
  | .hbm, ⟨3, _⟩ => ⟨S3x5632, .f32⟩
  | .hbm, ⟨4, _⟩ => ⟨S2816x1024, .bf16⟩
  | .hbm, ⟨5, _⟩ => ⟨S1024x2816, .bf16⟩
  | .hbm, ⟨6, _⟩ => ⟨S41x8x50x1024, .f32⟩
  | .hbm, ⟨7, _⟩ => ⟨S41x50x8x1024, .f32⟩
  | .hbm, ⟨8, _⟩ => ⟨S16400x1024, .f32⟩
  | .hbm, ⟨9, _⟩ => ⟨S41x8x50x5632, .f32⟩
  | .hbm, ⟨10, _⟩ => ⟨S41x50x8x5632, .f32⟩
  | .hbm, ⟨11, _⟩ => ⟨S16400x5632, .f32⟩
  | .hbm, ⟨12, _⟩ => ⟨S16400x5632, .bf16⟩
  | .hbm, ⟨13, _⟩ => ⟨S16400x1024, .bf16⟩
  | .hbm, ⟨14, _⟩ => ⟨S3x5632, .f32⟩
  | .hbm, ⟨15, _⟩ => ⟨S41x50x8x5632, .bf16⟩
  | .hbm, ⟨16, _⟩ => ⟨S41x8x50x5632, .bf16⟩
  | .hbm, ⟨17, _⟩ => ⟨S16400x5632, .bf16⟩
  | .hbm, ⟨18, _⟩ => ⟨S41x50x8x1024, .bf16⟩
  | .hbm, ⟨19, _⟩ => ⟨S41x8x50x1024, .bf16⟩
  | .hbm, ⟨20, _⟩ => ⟨S16400x1024, .bf16⟩
  | .local _ .vmem, ⟨0, _⟩ => ⟨S400x1024, .f32⟩
  | .local _ .vmem, ⟨1, _⟩ => ⟨S400x1024, .f32⟩
  | .local _ .vmem, ⟨2, _⟩ => ⟨S1024x2816, .bf16⟩
  | .local _ .vmem, ⟨3, _⟩ => ⟨S400x5632, .f32⟩
  | .local _ .vmem, ⟨4, _⟩ => ⟨S400x5632, .f32⟩
  | .local _ .vmem, ⟨5, _⟩ => ⟨S8x5632, .f32⟩
  | .local _ .vmem, ⟨6, _⟩ => ⟨S8x5632, .f32⟩
  | .local _ .vmem, ⟨7, _⟩ => ⟨S8x5632, .f32⟩
  | .local _ .vmem, ⟨8, _⟩ => ⟨S8x5632, .f32⟩
  | .local _ .vmem, ⟨9, _⟩ => ⟨S3x5632, .f32⟩
  | .local _ .vmem, ⟨10, _⟩ => ⟨S400x5632, .bf16⟩
  | .local _ .vmem, ⟨11, _⟩ => ⟨S400x5632, .bf16⟩
  | .local _ .vmem, ⟨12, _⟩ => ⟨S400x1024, .bf16⟩
  | .local _ .vmem, ⟨13, _⟩ => ⟨S400x1024, .bf16⟩
  | .local _ .vmem, ⟨14, _⟩ => ⟨S3x5632, .f32⟩
  | .local _ .vmem, ⟨15, _⟩ => ⟨S16x5632, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c40_i32 : BitVec 32 := 40#32
  let v0 : BitVec 32 := Scalar.subi c40_i32 arg0
  let c50_i32 : BitVec 32 := 50#32
  let v1 : BitVec 32 := Scalar.muli v0 c50_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c40_i32 : BitVec 32 := 40#32
  let v0 : BitVec 32 := Scalar.subi c40_i32 arg0
  let c50_i32 : BitVec 32 := 50#32
  let v1 : BitVec 32 := Scalar.muli v0 c50_i32
  let c2_i32 : BitVec 32 := 2#32
  let v2 : BitVec 32 := Scalar.subi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16400x1024 : Shape := ⟨2, ![16400, 1024]⟩
abbrev S2816x1024 : Shape := ⟨2, ![2816, 1024]⟩
abbrev S16400x5632 : Shape := ⟨2, ![16400, 5632]⟩
abbrev S3x5632 : Shape := ⟨2, ![3, 5632]⟩
abbrev S1x16400x5632 : Shape := ⟨3, ![1, 16400, 5632]⟩
abbrev S_ : Shape := ⟨0, ![]⟩
abbrev S1x2x5632 : Shape := ⟨3, ![1, 2, 5632]⟩
abbrev S1x16402x5632 : Shape := ⟨3, ![1, 16402, 5632]⟩
abbrev S1x5632 : Shape := ⟨2, ![1, 5632]⟩
abbrev S5632 : Shape := ⟨1, ![5632]⟩
abbrev S1x1x5632 : Shape := ⟨3, ![1, 1, 5632]⟩
abbrev S1x16400x2816 : Shape := ⟨3, ![1, 16400, 2816]⟩
abbrev S1x16400x1024 : Shape := ⟨3, ![1, 16400, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S2816x1024, .f32⟩
  | .hbm, ⟨2, _⟩ => ⟨S16400x5632, .f32⟩
  | .hbm, ⟨3, _⟩ => ⟨S3x5632, .f32⟩
  | .hbm, ⟨4, _⟩ => ⟨S1x16400x5632, .f32⟩
  | .hbm, ⟨5, _⟩ => ⟨S_, .f32⟩
  | .hbm, ⟨6, _⟩ => ⟨S1x2x5632, .f32⟩
  | .hbm, ⟨7, _⟩ => ⟨S1x16402x5632, .f32⟩
  | .hbm, ⟨8, _⟩ => ⟨S_, .f32⟩
  | .hbm, ⟨9, _⟩ => ⟨S1x2x5632, .f32⟩
  | .hbm, ⟨10, _⟩ => ⟨S1x16400x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x16400x5632, .f32⟩
  | .hbm, ⟨15, _⟩ => ⟨S1x16400x5632, .f32⟩
  | .hbm, ⟨16, _⟩ => ⟨S1x16400x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x16400x5632, .f32⟩
  | .hbm, ⟨21, _⟩ => ⟨S1x16400x5632, .f32⟩
  | .hbm, ⟨22, _⟩ => ⟨S1x16400x5632, .f32⟩
  | .hbm, ⟨23, _⟩ => ⟨S1x16400x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x16400x5632, .f32⟩
  | .hbm, ⟨28, _⟩ => ⟨S1x16400x5632, .f32⟩
  | .hbm, ⟨29, _⟩ => ⟨S1x16400x5632, .f32⟩
  | .hbm, ⟨30, _⟩ => ⟨S1x16400x2816, .f32⟩
  | .hbm, ⟨31, _⟩ => ⟨S1x16400x2816, .f32⟩
  | .hbm, ⟨32, _⟩ => ⟨S1x16400x2816, .f32⟩
  | .hbm, ⟨33, _⟩ => ⟨S1x16400x2816, .f32⟩
  | .hbm, ⟨34, _⟩ => ⟨S_, .f32⟩
  | .hbm, ⟨35, _⟩ => ⟨S1x16400x2816, .f32⟩
  | .hbm, ⟨36, _⟩ => ⟨S1x16400x2816, .f32⟩
  | .hbm, ⟨37, _⟩ => ⟨S_, .f32⟩
  | .hbm, ⟨38, _⟩ => ⟨S1x16400x2816, .f32⟩
  | .hbm, ⟨39, _⟩ => ⟨S1x16400x2816, .f32⟩
  | .hbm, ⟨40, _⟩ => ⟨S_, .f32⟩
  | .hbm, ⟨41, _⟩ => ⟨S1x16400x2816, .f32⟩
  | .hbm, ⟨42, _⟩ => ⟨S1x16400x2816, .f32⟩
  | .hbm, ⟨43, _⟩ => ⟨S1x16400x2816, .f32⟩
  | .hbm, ⟨44, _⟩ => ⟨S1x16400x2816, .f32⟩
  | .hbm, ⟨45, _⟩ => ⟨S1x16400x2816, .f32⟩
  | .hbm, ⟨46, _⟩ => ⟨S1x16400x1024, .f32⟩
  | .hbm, ⟨47, _⟩ => ⟨S16400x1024, .f32⟩
  | .hbm, ⟨48, _⟩ => ⟨S1x16400x1024, .f32⟩
  | .hbm, ⟨49, _⟩ => ⟨S1x16400x2816, .f32⟩
  | .hbm, ⟨50, _⟩ => ⟨S1x16400x2816, .f32⟩
  | .hbm, ⟨51, _⟩ => ⟨S1x16400x2816, .f32⟩
  | .hbm, ⟨52, _⟩ => ⟨S1x16400x2816, .f32⟩
  | .hbm, ⟨53, _⟩ => ⟨S1x16400x2816, .f32⟩
  | .hbm, ⟨54, _⟩ => ⟨S1x16400x2816, .f32⟩
  | .hbm, ⟨55, _⟩ => ⟨S1x16400x2816, .f32⟩
  | .hbm, ⟨56, _⟩ => ⟨S1x16400x5632, .f32⟩
  | .hbm, ⟨57, _⟩ => ⟨S1x16400x5632, .f32⟩
  | .hbm, ⟨58, _⟩ => ⟨S_, .f32⟩
  | .hbm, ⟨59, _⟩ => ⟨S1x5632, .f32⟩
  | .hbm, ⟨60, _⟩ => ⟨S1x1x5632, .f32⟩
  | .hbm, ⟨61, _⟩ => ⟨S1x16400x5632, .f32⟩
  | .hbm, ⟨62, _⟩ => ⟨S1x16400x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S3x5632, .f32⟩
  | .hbm, ⟨68, _⟩ => ⟨S_, .f32⟩
  | .hbm, ⟨69, _⟩ => ⟨S1x16402x5632, .f32⟩
  | .hbm, ⟨70, _⟩ => ⟨S1x16400x5632, .f32⟩
  | .hbm, ⟨71, _⟩ => ⟨S_, .f32⟩
  | .hbm, ⟨72, _⟩ => ⟨S1x5632, .f32⟩
  | .hbm, ⟨73, _⟩ => ⟨S1x1x5632, .f32⟩
  | .hbm, ⟨74, _⟩ => ⟨S1x16400x5632, .f32⟩
  | .hbm, ⟨75, _⟩ => ⟨S1x16400x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S3x5632, .f32⟩
  | .hbm, ⟨82, _⟩ => ⟨S_, .f32⟩
  | .hbm, ⟨83, _⟩ => ⟨S1x16402x5632, .f32⟩
  | .hbm, ⟨84, _⟩ => ⟨S1x16402x5632, .f32⟩
  | .hbm, ⟨85, _⟩ => ⟨S1x16400x5632, .f32⟩
  | .hbm, ⟨86, _⟩ => ⟨S_, .f32⟩
  | .hbm, ⟨87, _⟩ => ⟨S1x5632, .f32⟩
  | .hbm, ⟨88, _⟩ => ⟨S1x1x5632, .f32⟩
  | .hbm, ⟨89, _⟩ => ⟨S1x16400x5632, .f32⟩
  | .hbm, ⟨90, _⟩ => ⟨S1x16400x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S_, .f32⟩
  | .hbm, ⟨98, _⟩ => ⟨S1x16402x5632, .f32⟩
  | .hbm, ⟨99, _⟩ => ⟨S1x16402x5632, .f32⟩
  | .hbm, ⟨100, _⟩ => ⟨S1x2x5632, .f32⟩
  | .hbm, ⟨101, _⟩ => ⟨S1x16400x5632, .f32⟩
  | .hbm, ⟨102, _⟩ => ⟨S_, .f32⟩
  | .hbm, ⟨103, _⟩ => ⟨S16400x5632, .f32⟩
  | .hbm, ⟨104, _⟩ => ⟨S16400x5632, .bf16⟩
  | .hbm, ⟨105, _⟩ => ⟨S16400x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v26_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v26_1 : Ref sig .tc := ⟨.hbm, 43, rfl⟩
abbrev main_v26_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Kernel2.lean ====
abbrev S16400x5632 : Shape := ⟨2, ![16400, 5632]⟩
abbrev S1024x5632 : Shape := ⟨2, ![1024, 5632]⟩
abbrev S16400x1024 : Shape := ⟨2, ![16400, 1024]⟩
abbrev S1024 : Shape := ⟨1, ![1024]⟩
abbrev S5632x1024 : Shape := ⟨2, ![5632, 1024]⟩
abbrev S1x1024 : Shape := ⟨2, ![1, 1024]⟩
abbrev S656x5632 : Shape := ⟨2, ![656, 5632]⟩
abbrev S656x1024 : Shape := ⟨2, ![656, 1024]⟩
abbrev S656 : Shape := ⟨1, ![656]⟩
abbrev S656x1 : Shape := ⟨2, ![656, 1]⟩

abbrev nBuf : Space → Nat
  | .hbm => 10
  | .vmem => 11
  | .smem => 0
  | _ => 0

abbrev bufTy : (tb : Table) → Fin (tcTables nBuf tb) → BufTy
  | .hbm, ⟨0, _⟩ => ⟨S16400x5632, .bf16⟩
  | .hbm, ⟨1, _⟩ => ⟨S1024x5632, .f32⟩
  | .hbm, ⟨2, _⟩ => ⟨S16400x1024, .f32⟩
  | .hbm, ⟨3, _⟩ => ⟨S1024, .f32⟩
  | .hbm, ⟨4, _⟩ => ⟨S16400x1024, .f32⟩
  | .hbm, ⟨5, _⟩ => ⟨S1024x5632, .bf16⟩
  | .hbm, ⟨6, _⟩ => ⟨S5632x1024, .bf16⟩
  | .hbm, ⟨7, _⟩ => ⟨S1x1024, .f32⟩
  | .hbm, ⟨8, _⟩ => ⟨S16400x1024, .f32⟩
  | .hbm, ⟨9, _⟩ => ⟨S1x1024, .f32⟩
  | .local _ .vmem, ⟨0, _⟩ => ⟨S656x5632, .bf16⟩
  | .local _ .vmem, ⟨1, _⟩ => ⟨S656x5632, .bf16⟩
  | .local _ .vmem, ⟨2, _⟩ => ⟨S5632x1024, .bf16⟩
  | .local _ .vmem, ⟨3, _⟩ => ⟨S656x1024, .f32⟩
  | .local _ .vmem, ⟨4, _⟩ => ⟨S656x1024, .f32⟩
  | .local _ .vmem, ⟨5, _⟩ => ⟨S1x1024, .f32⟩
  | .local _ .vmem, ⟨6, _⟩ => ⟨S656x1024, .f32⟩
  | .local _ .vmem, ⟨7, _⟩ => ⟨S656x1024, .f32⟩
  | .local _ .vmem, ⟨8, _⟩ => ⟨S656x1024, .f32⟩
  | .local _ .vmem, ⟨9, _⟩ => ⟨S656x1024, .f32⟩
  | .local _ .vmem, ⟨10, _⟩ => ⟨S1x1024, .f32⟩
  | _, _ => ⟨S16400x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S656x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S656x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S656x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S656x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S16400x5632 : Shape := ⟨2, ![16400, 5632]⟩
abbrev S1024x5632 : Shape := ⟨2, ![1024, 5632]⟩
abbrev S16400x1024 : Shape := ⟨2, ![16400, 1024]⟩
abbrev S1024 : Shape := ⟨1, ![1024]⟩
abbrev S1x16400x1024 : Shape := ⟨3, ![1, 16400, 1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x16400x5632 : Shape := ⟨3, ![1, 16400, 5632]⟩
abbrev S1x1024 : Shape := ⟨2, ![1, 1024]⟩
abbrev S16400 : Shape := ⟨1, ![16400]⟩

abbrev nBuf : Space → Nat
  | .hbm => 61
  | .vmem => 0
  | .smem => 0
  | _ => 0

abbrev bufTy : (tb : Table) → Fin (tcTables nBuf tb) → BufTy
  | .hbm, ⟨0, _⟩ => ⟨S16400x5632, .bf16⟩
  | .hbm, ⟨1, _⟩ => ⟨S1024x5632, .f32⟩
  | .hbm, ⟨2, _⟩ => ⟨S16400x1024, .f32⟩
  | .hbm, ⟨3, _⟩ => ⟨S1024, .f32⟩
  | .hbm, ⟨4, _⟩ => ⟨S16400x1024, .f32⟩
  | .hbm, ⟨5, _⟩ => ⟨S1x16400x1024, .f32⟩
  | .hbm, ⟨6, _⟩ => ⟨S1x16400x1024, .f32⟩
  | .hbm, ⟨7, _⟩ => ⟨S_, .f32⟩
  | .hbm, ⟨8, _⟩ => ⟨S1x16400, .f32⟩
  | .hbm, ⟨9, _⟩ => ⟨S1x16400x1, .f32⟩
  | .hbm, ⟨10, _⟩ => ⟨S_, .f32⟩
  | .hbm, ⟨11, _⟩ => ⟨S1x16400x1, .f32⟩
  | .hbm, ⟨12, _⟩ => ⟨S1x16400x1, .f32⟩
  | .hbm, ⟨13, _⟩ => ⟨S_, .f32⟩
  | .hbm, ⟨14, _⟩ => ⟨S1x16400x1, .f32⟩
  | .hbm, ⟨15, _⟩ => ⟨S1x16400x1, .f32⟩
  | .hbm, ⟨16, _⟩ => ⟨S1x16400x1, .f32⟩
  | .hbm, ⟨17, _⟩ => ⟨S1x16400x1, .f32⟩
  | .hbm, ⟨18, _⟩ => ⟨S_, .f32⟩
  | .hbm, ⟨19, _⟩ => ⟨S1x16400x1, .f32⟩
  | .hbm, ⟨20, _⟩ => ⟨S1x16400x1, .f32⟩
  | .hbm, ⟨21, _⟩ => ⟨S1x16400x1024, .f32⟩
  | .hbm, ⟨22, _⟩ => ⟨S1x16400x1024, .f32⟩
  | .hbm, ⟨23, _⟩ => ⟨S1x1x1024, .f32⟩
  | .hbm, ⟨24, _⟩ => ⟨S1x16400x1024, .f32⟩
  | .hbm, ⟨25, _⟩ => ⟨S1x16400x1024, .f32⟩
  | .hbm, ⟨26, _⟩ => ⟨S1x16400x5632, .f32⟩
  | .hbm, ⟨27, _⟩ => ⟨S16400x5632, .f32⟩
  | .hbm, ⟨28, _⟩ => ⟨S16400x5632, .f32⟩
  | .hbm, ⟨29, _⟩ => ⟨S1x16400x5632, .f32⟩
  | .hbm, ⟨30, _⟩ => ⟨S1x16400x1024, .f32⟩
  | .hbm, ⟨31, _⟩ => ⟨S1x16400x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x16400x1024, .f32⟩
  | .hbm, ⟨36, _⟩ => ⟨S1x16400x1024, .f32⟩
  | .hbm, ⟨37, _⟩ => ⟨S_, .f32⟩
  | .hbm, ⟨38, _⟩ => ⟨S1024, .f32⟩
  | .hbm, ⟨39, _⟩ => ⟨S1x16400x1024, .f32⟩
  | .hbm, ⟨40, _⟩ => ⟨S_, .f32⟩
  | .hbm, ⟨41, _⟩ => ⟨S1x16400, .f32⟩
  | .hbm, ⟨42, _⟩ => ⟨S1x16400x1, .f32⟩
  | .hbm, ⟨43, _⟩ => ⟨S1x16400x1024, .f32⟩
  | .hbm, ⟨44, _⟩ => ⟨S1x16400x1024, .f32⟩
  | .hbm, ⟨45, _⟩ => ⟨S1x16400x1, .f32⟩
  | .hbm, ⟨46, _⟩ => ⟨S_, .f32⟩
  | .hbm, ⟨47, _⟩ => ⟨S1x16400x1, .f32⟩
  | .hbm, ⟨48, _⟩ => ⟨S1x16400x1, .f32⟩
  | .hbm, ⟨49, _⟩ => ⟨S_, .f32⟩
  | .hbm, ⟨50, _⟩ => ⟨S16400, .f32⟩
  | .hbm, ⟨51, _⟩ => ⟨S1x16400, .f32⟩
  | .hbm, ⟨52, _⟩ => ⟨S1x16400x1024, .f32⟩
  | .hbm, ⟨53, _⟩ => ⟨S1x16400x1024, .f32⟩
  | .hbm, ⟨54, _⟩ => ⟨S1x16400x1024, .f32⟩
  | .hbm, ⟨55, _⟩ => ⟨S1x16400x1024, .f32⟩
  | .hbm, ⟨56, _⟩ => ⟨S1x16400x1024, .f32⟩
  | .hbm, ⟨57, _⟩ => ⟨S_, .f32⟩
  | .hbm, ⟨58, _⟩ => ⟨S16400x1024, .f32⟩
  | .hbm, ⟨59, _⟩ => ⟨S16400x1024, .f32⟩
  | .hbm, ⟨60, _⟩ => ⟨S1x1024, .f32⟩
  | _, _ => ⟨S16400x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S16400x5632 : Shape := ⟨2, ![16400, 5632]⟩
abbrev S16400x1024 : Shape := ⟨2, ![16400, 1024]⟩
abbrev S5632x1024 : Shape := ⟨2, ![5632, 1024]⟩
abbrev S3280x1408 : Shape := ⟨2, ![3280, 1408]⟩
abbrev S3280x1024 : Shape := ⟨2, ![3280, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16400x5632, .bf16⟩
  | .hbm, ⟨1, _⟩ => ⟨S16400x1024, .bf16⟩
  | .hbm, ⟨2, _⟩ => ⟨S5632x1024, .f32⟩
  | .local _ .vmem, ⟨0, _⟩ => ⟨S3280x1408, .bf16⟩
  | .local _ .vmem, ⟨1, _⟩ => ⟨S3280x1408, .bf16⟩
  | .local _ .vmem, ⟨2, _⟩ => ⟨S3280x1024, .bf16⟩
  | .local _ .vmem, ⟨3, _⟩ => ⟨S3280x1024, .bf16⟩
  | .local _ .vmem, ⟨4, _⟩ => ⟨S1408x1024, .f32⟩
  | .local _ .vmem, ⟨5, _⟩ => ⟨S1408x1024, .f32⟩
  | _, _ => ⟨S16400x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16400x5632 : Shape := ⟨2, ![16400, 5632]⟩
abbrev S16400x1024 : Shape := ⟨2, ![16400, 1024]⟩
abbrev S_ : Shape := ⟨0, ![]⟩
abbrev S1024x5632 : Shape := ⟨2, ![1024, 5632]⟩
abbrev S1x16400x1024 : Shape := ⟨3, ![1, 16400, 1024]⟩
abbrev S1x16400x5632 : Shape := ⟨3, ![1, 16400, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16400x5632, .bf16⟩
  | .hbm, ⟨1, _⟩ => ⟨S16400x1024, .bf16⟩
  | .hbm, ⟨2, _⟩ => ⟨S_, .f32⟩
  | .hbm, ⟨3, _⟩ => ⟨S1024x5632, .f32⟩
  | .hbm, ⟨4, _⟩ => ⟨S16400x1024, .f32⟩
  | .hbm, ⟨5, _⟩ => ⟨S1x16400x1024, .f32⟩
  | .hbm, ⟨6, _⟩ => ⟨S1x16400x5632, .f32⟩
  | .hbm, ⟨7, _⟩ => ⟨S16400x5632, .f32⟩
  | .hbm, ⟨8, _⟩ => ⟨S16400x5632, .f32⟩
  | .hbm, ⟨9, _⟩ => ⟨S1x16400x5632, .f32⟩
  | .hbm, ⟨10, _⟩ => ⟨S5632x1024, .f32⟩
  | .hbm, ⟨11, _⟩ => ⟨S1024x5632, .f32⟩
  | .hbm, ⟨12, _⟩ => ⟨S5632x1024, .f32⟩
  | _, _ => ⟨S16400x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S16400x2816 : Shape := ⟨2, ![16400, 2816]⟩
abbrev S16400x1024 : Shape := ⟨2, ![16400, 1024]⟩
abbrev S2816x1024 : Shape := ⟨2, ![2816, 1024]⟩
abbrev S3280x1408 : Shape := ⟨2, ![3280, 1408]⟩
abbrev S3280x1024 : Shape := ⟨2, ![3280, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16400x2816, .bf16⟩
  | .hbm, ⟨1, _⟩ => ⟨S16400x1024, .bf16⟩
  | .hbm, ⟨2, _⟩ => ⟨S2816x1024, .f32⟩
  | .local _ .vmem, ⟨0, _⟩ => ⟨S3280x1408, .bf16⟩
  | .local _ .vmem, ⟨1, _⟩ => ⟨S3280x1408, .bf16⟩
  | .local _ .vmem, ⟨2, _⟩ => ⟨S3280x1024, .bf16⟩
  | .local _ .vmem, ⟨3, _⟩ => ⟨S3280x1024, .bf16⟩
  | .local _ .vmem, ⟨4, _⟩ => ⟨S1408x1024, .f32⟩
  | .local _ .vmem, ⟨5, _⟩ => ⟨S1408x1024, .f32⟩
  | _, _ => ⟨S16400x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16400x2816 : Shape := ⟨2, ![16400, 2816]⟩
abbrev S16400x1024 : Shape := ⟨2, ![16400, 1024]⟩
abbrev S_ : Shape := ⟨0, ![]⟩
abbrev S2816x1024 : Shape := ⟨2, ![2816, 1024]⟩
abbrev S1x16400x2816 : Shape := ⟨3, ![1, 16400, 2816]⟩
abbrev S1x16400x1024 : Shape := ⟨3, ![1, 16400, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S16400x2816, .bf16⟩
  | .hbm, ⟨1, _⟩ => ⟨S16400x1024, .bf16⟩
  | .hbm, ⟨2, _⟩ => ⟨S_, .f32⟩
  | .hbm, ⟨3, _⟩ => ⟨S2816x1024, .f32⟩
  | .hbm, ⟨4, _⟩ => ⟨S16400x2816, .f32⟩
  | .hbm, ⟨5, _⟩ => ⟨S1x16400x2816, .f32⟩
  | .hbm, ⟨6, _⟩ => ⟨S1x16400x1024, .f32⟩
  | .hbm, ⟨7, _⟩ => ⟨S16400x1024, .f32⟩
  | .hbm, ⟨8, _⟩ => ⟨S16400x1024, .f32⟩
  | .hbm, ⟨9, _⟩ => ⟨S1x16400x1024, .f32⟩
  | .hbm, ⟨10, _⟩ => ⟨S1024x2816, .f32⟩
  | .hbm, ⟨11, _⟩ => ⟨S2816x1024, .f32⟩
  | _, _ => ⟨S16400x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16400x1024 : Shape := ⟨2, ![16400, 1024]⟩
abbrev S1024x1024 : Shape := ⟨2, ![1024, 1024]⟩
abbrev S16400x3072 : Shape := ⟨2, ![16400, 3072]⟩
abbrev S3x1024 : Shape := ⟨2, ![3, 1024]⟩
abbrev S41x8x50x1024 : Shape := ⟨4, ![41, 8, 50, 1024]⟩
abbrev S41x50x8x1024 : Shape := ⟨4, ![41, 50, 8, 1024]⟩
abbrev S41x8x50x3072 : Shape := ⟨4, ![41, 8, 50, 3072]⟩
abbrev S41x50x8x3072 : Shape := ⟨4, ![41, 50, 8, 3072]⟩
abbrev S400x1024 : Shape := ⟨2, ![400, 1024]⟩
abbrev S400x3072 : Shape := ⟨2, ![400, 3072]⟩
abbrev S8x3072 : Shape := ⟨2, ![8, 3072]⟩
abbrev S16x1024 : Shape := ⟨2, ![16, 1024]⟩
abbrev S1x256 : Shape := ⟨2, ![1, 256]⟩
abbrev S1024x256 : Shape := ⟨2, ![1024, 256]⟩
abbrev S400x256 : Shape := ⟨2, ![400, 256]⟩
abbrev S8x256 : Shape := ⟨2, ![8, 256]⟩
abbrev S384x256 : Shape := ⟨2, ![384, 256]⟩
abbrev S392x256 : Shape := ⟨2, ![392, 256]⟩
abbrev S256 : Shape := ⟨1, ![256]⟩
abbrev S16x256 : Shape := ⟨2, ![16, 256]⟩

abbrev nBuf : Space → Nat
  | .hbm => 21
  | .vmem => 16
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x3072, .f32⟩
  | .hbm, ⟨3, _⟩ => ⟨S3x1024, .f32⟩
  | .hbm, ⟨4, _⟩ => ⟨S1024x1024, .bf16⟩
  | .hbm, ⟨5, _⟩ => ⟨S1024x1024, .bf16⟩
  | .hbm, ⟨6, _⟩ => ⟨S41x8x50x1024, .f32⟩
  | .hbm, ⟨7, _⟩ => ⟨S41x50x8x1024, .f32⟩
  | .hbm, ⟨8, _⟩ => ⟨S16400x1024, .f32⟩
  | .hbm, ⟨9, _⟩ => ⟨S41x8x50x3072, .f32⟩
  | .hbm, ⟨10, _⟩ => ⟨S41x50x8x3072, .f32⟩
  | .hbm, ⟨11, _⟩ => ⟨S16400x3072, .f32⟩
  | .hbm, ⟨12, _⟩ => ⟨S16400x3072, .bf16⟩
  | .hbm, ⟨13, _⟩ => ⟨S16400x1024, .bf16⟩
  | .hbm, ⟨14, _⟩ => ⟨S3x1024, .f32⟩
  | .hbm, ⟨15, _⟩ => ⟨S41x50x8x3072, .bf16⟩
  | .hbm, ⟨16, _⟩ => ⟨S41x8x50x3072, .bf16⟩
  | .hbm, ⟨17, _⟩ => ⟨S16400x3072, .bf16⟩
  | .hbm, ⟨18, _⟩ => ⟨S41x50x8x1024, .bf16⟩
  | .hbm, ⟨19, _⟩ => ⟨S41x8x50x1024, .bf16⟩
  | .hbm, ⟨20, _⟩ => ⟨S16400x1024, .bf16⟩
  | .local _ .vmem, ⟨0, _⟩ => ⟨S400x1024, .f32⟩
  | .local _ .vmem, ⟨1, _⟩ => ⟨S400x1024, .f32⟩
  | .local _ .vmem, ⟨2, _⟩ => ⟨S1024x1024, .bf16⟩
  | .local _ .vmem, ⟨3, _⟩ => ⟨S400x3072, .f32⟩
  | .local _ .vmem, ⟨4, _⟩ => ⟨S400x3072, .f32⟩
  | .local _ .vmem, ⟨5, _⟩ => ⟨S8x3072, .f32⟩
  | .local _ .vmem, ⟨6, _⟩ => ⟨S8x3072, .f32⟩
  | .local _ .vmem, ⟨7, _⟩ => ⟨S8x3072, .f32⟩
  | .local _ .vmem, ⟨8, _⟩ => ⟨S8x3072, .f32⟩
  | .local _ .vmem, ⟨9, _⟩ => ⟨S3x1024, .f32⟩
  | .local _ .vmem, ⟨10, _⟩ => ⟨S400x3072, .bf16⟩
  | .local _ .vmem, ⟨11, _⟩ => ⟨S400x3072, .bf16⟩
  | .local _ .vmem, ⟨12, _⟩ => ⟨S400x1024, .bf16⟩
  | .local _ .vmem, ⟨13, _⟩ => ⟨S400x1024, .bf16⟩
  | .local _ .vmem, ⟨14, _⟩ => ⟨S3x1024, .f32⟩
  | .local _ .vmem, ⟨15, _⟩ => ⟨S16x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c40_i32 : BitVec 32 := 40#32
  let v0 : BitVec 32 := Scalar.subi c40_i32 arg0
  let c50_i32 : BitVec 32 := 50#32
  let v1 : BitVec 32 := Scalar.muli v0 c50_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c40_i32 : BitVec 32 := 40#32
  let v0 : BitVec 32 := Scalar.subi c40_i32 arg0
  let c50_i32 : BitVec 32 := 50#32
  let v1 : BitVec 32 := Scalar.muli v0 c50_i32
  let c2_i32 : BitVec 32 := 2#32
  let v2 : BitVec 32 := Scalar.subi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c40_i32 : BitVec 32 := 40#32
  let v0 : BitVec 32 := Scalar.subi c40_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S16400x1024 : Shape := ⟨2, ![16400, 1024]⟩
abbrev S1024x1024 : Shape := ⟨2, ![1024, 1024]⟩
abbrev S16400x3072 : Shape := ⟨2, ![16400, 3072]⟩
abbrev S3x1024 : Shape := ⟨2, ![3, 1024]⟩
abbrev S1x16400x3072 : Shape := ⟨3, ![1, 16400, 3072]⟩
abbrev S1x16400x1024 : Shape := ⟨3, ![1, 16400, 1024]⟩
abbrev S_ : Shape := ⟨0, ![]⟩
abbrev S1x2x1024 : Shape := ⟨3, ![1, 2, 1024]⟩
abbrev S1x16402x1024 : Shape := ⟨3, ![1, 16402, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024x1024, .f32⟩
  | .hbm, ⟨2, _⟩ => ⟨S16400x3072, .f32⟩
  | .hbm, ⟨3, _⟩ => ⟨S3x1024, .f32⟩
  | .hbm, ⟨4, _⟩ => ⟨S1x16400x3072, .f32⟩
  | .hbm, ⟨5, _⟩ => ⟨S1x16400x1024, .f32⟩
  | .hbm, ⟨6, _⟩ => ⟨S1x16400x1024, .f32⟩
  | .hbm, ⟨7, _⟩ => ⟨S1x16400x1024, .f32⟩
  | .hbm, ⟨8, _⟩ => ⟨S1x16400x1024, .f32⟩
  | .hbm, ⟨9, _⟩ => ⟨S_, .f32⟩
  | .hbm, ⟨10, _⟩ => ⟨S1x2x1024, .f32⟩
  | .hbm, ⟨11, _⟩ => ⟨S1x16402x1024, .f32⟩
  | .hbm, ⟨12, _⟩ => ⟨S_, .f32⟩
  | .hbm, ⟨13, _⟩ => ⟨S1x2x1024, .f32⟩
  | .hbm, ⟨14, _⟩ => ⟨S1x16400x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S1x16400x1024, .f32⟩
  | .hbm, ⟨19, _⟩ => ⟨S1x16400x1024, .f32⟩
  | .hbm, ⟨20, _⟩ => ⟨S1x16400x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S1x16400x1024, .f32⟩
  | .hbm, ⟨25, _⟩ => ⟨S1x16400x1024, .f32⟩
  | .hbm, ⟨26, _⟩ => ⟨S1x16400x1024, .f32⟩
  | .hbm, ⟨27, _⟩ => ⟨S1x16400x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S1x16400x1024, .f32⟩
  | .hbm, ⟨32, _⟩ => ⟨S1x16400x1024, .f32⟩
  | .hbm, ⟨33, _⟩ => ⟨S1x16400x1024, .f32⟩
  | .hbm, ⟨34, _⟩ => ⟨S1x16400x1024, .f32⟩
  | .hbm, ⟨35, _⟩ => ⟨S1x16400x1024, .f32⟩
  | .hbm, ⟨36, _⟩ => ⟨S16400x1024, .f32⟩
  | .hbm, ⟨37, _⟩ => ⟨S1x16400x1024, .f32⟩
  | .hbm, ⟨38, _⟩ => ⟨S1x16400x1024, .f32⟩
  | .hbm, ⟨39, _⟩ => ⟨S1x16400x1024, .f32⟩
  | .hbm, ⟨40, _⟩ => ⟨S1x16400x1024, .f32⟩
  | .hbm, ⟨41, _⟩ => ⟨S1x16400x1024, .f32⟩
  | .hbm, ⟨42, _⟩ => ⟨S_, .f32⟩
  | .hbm, ⟨43, _⟩ => ⟨S1x1024, .f32⟩
  | .hbm, ⟨44, _⟩ => ⟨S1x1x1024, .f32⟩
  | .hbm, ⟨45, _⟩ => ⟨S1x16400x1024, .f32⟩
  | .hbm, ⟨46, _⟩ => ⟨S1x16400x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S_, .f32⟩
  | .hbm, ⟨53, _⟩ => ⟨S1x16402x1024, .f32⟩
  | .hbm, ⟨54, _⟩ => ⟨S1x16400x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x16400x1024, .f32⟩
  | .hbm, ⟨59, _⟩ => ⟨S1x16400x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S_, .f32⟩
  | .hbm, ⟨67, _⟩ => ⟨S1x16402x1024, .f32⟩
  | .hbm, ⟨68, _⟩ => ⟨S1x16402x1024, .f32⟩
  | .hbm, ⟨69, _⟩ => ⟨S1x16400x1024, .f32⟩
  | .hbm, ⟨70, _⟩ => ⟨S_, .f32⟩
  | .hbm, ⟨71, _⟩ => ⟨S1x1024, .f32⟩
  | .hbm, ⟨72, _⟩ => ⟨S1x1x1024, .f32⟩
  | .hbm, ⟨73, _⟩ => ⟨S1x16400x1024, .f32⟩
  | .hbm, ⟨74, _⟩ => ⟨S1x16400x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S_, .f32⟩
  | .hbm, ⟨82, _⟩ => ⟨S1x16402x1024, .f32⟩
  | .hbm, ⟨83, _⟩ => ⟨S1x16402x1024, .f32⟩
  | .hbm, ⟨84, _⟩ => ⟨S1x2x1024, .f32⟩
  | .hbm, ⟨85, _⟩ => ⟨S1x16400x1024, .f32⟩
  | .hbm, ⟨86, _⟩ => ⟨S1x16400x1024, .f32⟩
  | .hbm, ⟨87, _⟩ => ⟨S1x16400x1024, .f32⟩
  | .hbm, ⟨88, _⟩ => ⟨S1x16400x3072, .f32⟩
  | .hbm, ⟨89, _⟩ => ⟨S_, .f32⟩
  | .hbm, ⟨90, _⟩ => ⟨S16400x3072, .f32⟩
  | .hbm, ⟨91, _⟩ => ⟨S16400x3072, .bf16⟩
  | .hbm, ⟨92, _⟩ => ⟨S16400x1024, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Kernel6.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S41x8x50x1024 : Shape := ⟨4, ![41, 8, 50, 1024]⟩
abbrev S41x50x8x1024 : Shape := ⟨4, ![41, 50, 8, 1024]⟩
abbrev S1x1024 : Shape := ⟨2, ![1, 1024]⟩
abbrev S16400x5632 : Shape := ⟨2, ![16400, 5632]⟩
abbrev S16400x2816 : Shape := ⟨2, ![16400, 2816]⟩
abbrev S400x1024 : Shape := ⟨2, ![400, 1024]⟩
abbrev S400x5632 : Shape := ⟨2, ![400, 5632]⟩
abbrev S400x2816 : Shape := ⟨2, ![400, 2816]⟩
abbrev S16x5632 : Shape := ⟨2, ![16, 5632]⟩
abbrev S400 : Shape := ⟨1, ![400]⟩
abbrev S400x1 : Shape := ⟨2, ![400, 1]⟩
abbrev S1024x2816 : Shape := ⟨2, ![1024, 2816]⟩
abbrev S1x2816 : Shape := ⟨2, ![1, 2816]⟩
abbrev S8x2816 : Shape := ⟨2, ![8, 2816]⟩
abbrev S384x2816 : Shape := ⟨2, ![384, 2816]⟩
abbrev S392x2816 : Shape := ⟨2, ![392, 2816]⟩
abbrev S16x2816 : Shape := ⟨2, ![16, 2816]⟩
abbrev S41x50x8x5632 : Shape := ⟨4, ![41, 50, 8, 5632]⟩
abbrev S41x8x50x5632 : Shape := ⟨4, ![41, 8, 50, 5632]⟩
abbrev S41x50x8x2816 : Shape := ⟨4, ![41, 50, 8, 2816]⟩
abbrev S41x8x50x2816 : Shape := ⟨4, ![41, 8, 50, 2816]⟩

abbrev nBuf : Space → Nat
  | .hbm => 21
  | .vmem => 12
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S41x8x50x1024, .f32⟩
  | .hbm, ⟨5, _⟩ => ⟨S41x50x8x1024, .f32⟩
  | .hbm, ⟨6, _⟩ => ⟨S16400x1024, .f32⟩
  | .hbm, ⟨7, _⟩ => ⟨S1x1024, .f32⟩
  | .hbm, ⟨8, _⟩ => ⟨S1024x5632, .bf16⟩
  | .hbm, ⟨9, _⟩ => ⟨S16400x1024, .bf16⟩
  | .hbm, ⟨10, _⟩ => ⟨S16400x5632, .f32⟩
  | .hbm, ⟨11, _⟩ => ⟨S16400x2816, .bf16⟩
  | .hbm, ⟨12, _⟩ => ⟨S41x50x8x1024, .bf16⟩
  | .hbm, ⟨13, _⟩ => ⟨S41x8x50x1024, .bf16⟩
  | .hbm, ⟨14, _⟩ => ⟨S16400x1024, .bf16⟩
  | .hbm, ⟨15, _⟩ => ⟨S41x50x8x5632, .f32⟩
  | .hbm, ⟨16, _⟩ => ⟨S41x8x50x5632, .f32⟩
  | .hbm, ⟨17, _⟩ => ⟨S16400x5632, .f32⟩
  | .hbm, ⟨18, _⟩ => ⟨S41x50x8x2816, .bf16⟩
  | .hbm, ⟨19, _⟩ => ⟨S41x8x50x2816, .bf16⟩
  | .hbm, ⟨20, _⟩ => ⟨S16400x2816, .bf16⟩
  | .local _ .vmem, ⟨0, _⟩ => ⟨S400x1024, .f32⟩
  | .local _ .vmem, ⟨1, _⟩ => ⟨S400x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S400x1024, .bf16⟩
  | .local _ .vmem, ⟨6, _⟩ => ⟨S400x1024, .bf16⟩
  | .local _ .vmem, ⟨7, _⟩ => ⟨S400x5632, .f32⟩
  | .local _ .vmem, ⟨8, _⟩ => ⟨S400x5632, .f32⟩
  | .local _ .vmem, ⟨9, _⟩ => ⟨S400x2816, .bf16⟩
  | .local _ .vmem, ⟨10, _⟩ => ⟨S400x2816, .bf16⟩
  | .local _ .vmem, ⟨11, _⟩ => ⟨S16x5632, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16400x1024 : Shape := ⟨2, ![16400, 1024]⟩
abbrev S1024 : Shape := ⟨1, ![1024]⟩
abbrev S1024x5632 : Shape := ⟨2, ![1024, 5632]⟩
abbrev S3x5632 : Shape := ⟨2, ![3, 5632]⟩
abbrev S1x16400x1024 : Shape := ⟨3, ![1, 16400, 1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x16400x5632 : Shape := ⟨3, ![1, 16400, 5632]⟩
abbrev S1x2x5632 : Shape := ⟨3, ![1, 2, 5632]⟩
abbrev S1x16402x5632 : Shape := ⟨3, ![1, 16402, 5632]⟩
abbrev S1x5632 : Shape := ⟨2, ![1, 5632]⟩
abbrev S5632 : Shape := ⟨1, ![5632]⟩
abbrev S1x1x5632 : Shape := ⟨3, ![1, 1, 5632]⟩
abbrev S1x16400x2816 : Shape := ⟨3, ![1, 16400, 2816]⟩
abbrev S16400x5632 : Shape := ⟨2, ![16400, 5632]⟩
abbrev S16400x2816 : Shape := ⟨2, ![16400, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S1x16400x1024, .f32⟩
  | .hbm, ⟨5, _⟩ => ⟨S1x16400x1024, .f32⟩
  | .hbm, ⟨6, _⟩ => ⟨S_, .f32⟩
  | .hbm, ⟨7, _⟩ => ⟨S1x16400, .f32⟩
  | .hbm, ⟨8, _⟩ => ⟨S1x16400x1, .f32⟩
  | .hbm, ⟨9, _⟩ => ⟨S_, .f32⟩
  | .hbm, ⟨10, _⟩ => ⟨S1x16400x1, .f32⟩
  | .hbm, ⟨11, _⟩ => ⟨S1x16400x1, .f32⟩
  | .hbm, ⟨12, _⟩ => ⟨S_, .f32⟩
  | .hbm, ⟨13, _⟩ => ⟨S1x16400x1, .f32⟩
  | .hbm, ⟨14, _⟩ => ⟨S1x16400x1, .f32⟩
  | .hbm, ⟨15, _⟩ => ⟨S1x16400x1, .f32⟩
  | .hbm, ⟨16, _⟩ => ⟨S1x16400x1024, .f32⟩
  | .hbm, ⟨17, _⟩ => ⟨S1x16400x1024, .f32⟩
  | .hbm, ⟨18, _⟩ => ⟨S1x1x1024, .f32⟩
  | .hbm, ⟨19, _⟩ => ⟨S1x16400x1024, .f32⟩
  | .hbm, ⟨20, _⟩ => ⟨S1x16400x1024, .f32⟩
  | .hbm, ⟨21, _⟩ => ⟨S1x16400x5632, .f32⟩
  | .hbm, ⟨22, _⟩ => ⟨S_, .f32⟩
  | .hbm, ⟨23, _⟩ => ⟨S1x2x5632, .f32⟩
  | .hbm, ⟨24, _⟩ => ⟨S1x16402x5632, .f32⟩
  | .hbm, ⟨25, _⟩ => ⟨S1x16400x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S1x16400x5632, .f32⟩
  | .hbm, ⟨30, _⟩ => ⟨S1x16400x5632, .f32⟩
  | .hbm, ⟨31, _⟩ => ⟨S1x16400x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S1x16400x5632, .f32⟩
  | .hbm, ⟨36, _⟩ => ⟨S1x16400x5632, .f32⟩
  | .hbm, ⟨37, _⟩ => ⟨S1x16400x5632, .f32⟩
  | .hbm, ⟨38, _⟩ => ⟨S1x16400x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S1x16400x5632, .f32⟩
  | .hbm, ⟨43, _⟩ => ⟨S1x16400x5632, .f32⟩
  | .hbm, ⟨44, _⟩ => ⟨S1x16400x5632, .f32⟩
  | .hbm, ⟨45, _⟩ => ⟨S1x16400x2816, .f32⟩
  | .hbm, ⟨46, _⟩ => ⟨S1x16400x2816, .f32⟩
  | .hbm, ⟨47, _⟩ => ⟨S1x16400x2816, .f32⟩
  | .hbm, ⟨48, _⟩ => ⟨S1x16400x2816, .f32⟩
  | .hbm, ⟨49, _⟩ => ⟨S_, .f32⟩
  | .hbm, ⟨50, _⟩ => ⟨S1x16400x2816, .f32⟩
  | .hbm, ⟨51, _⟩ => ⟨S1x16400x2816, .f32⟩
  | .hbm, ⟨52, _⟩ => ⟨S_, .f32⟩
  | .hbm, ⟨53, _⟩ => ⟨S1x16400x2816, .f32⟩
  | .hbm, ⟨54, _⟩ => ⟨S1x16400x2816, .f32⟩
  | .hbm, ⟨55, _⟩ => ⟨S1x16400x2816, .f32⟩
  | .hbm, ⟨56, _⟩ => ⟨S1x16400x2816, .f32⟩
  | .hbm, ⟨57, _⟩ => ⟨S16400x1024, .f32⟩
  | .hbm, ⟨58, _⟩ => ⟨S16400x1024, .bf16⟩
  | .hbm, ⟨59, _⟩ => ⟨S16400x5632, .f32⟩
  | .hbm, ⟨60, _⟩ => ⟨S16400x2816, .f32⟩
  | .hbm, ⟨61, _⟩ => ⟨S16400x2816, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel7.lean ====
abbrev S16400x2560 : Shape := ⟨2, ![16400, 2560]⟩
abbrev S1024x2560 : Shape := ⟨2, ![1024, 2560]⟩
abbrev S16400x1024 : Shape := ⟨2, ![16400, 1024]⟩
abbrev S1024 : Shape := ⟨1, ![1024]⟩
abbrev S2560x1024 : Shape := ⟨2, ![2560, 1024]⟩
abbrev S1x1024 : Shape := ⟨2, ![1, 1024]⟩
abbrev S656x2560 : Shape := ⟨2, ![656, 2560]⟩
abbrev S656x1024 : Shape := ⟨2, ![656, 1024]⟩
abbrev S656 : Shape := ⟨1, ![656]⟩
abbrev S656x1 : Shape := ⟨2, ![656, 1]⟩

abbrev nBuf : Space → Nat
  | .hbm => 10
  | .vmem => 11
  | .smem => 0
  | _ => 0

abbrev bufTy : (tb : Table) → Fin (tcTables nBuf tb) → BufTy
  | .hbm, ⟨0, _⟩ => ⟨S16400x2560, .bf16⟩
  | .hbm, ⟨1, _⟩ => ⟨S1024x2560, .f32⟩
  | .hbm, ⟨2, _⟩ => ⟨S16400x1024, .f32⟩
  | .hbm, ⟨3, _⟩ => ⟨S1024, .f32⟩
  | .hbm, ⟨4, _⟩ => ⟨S16400x1024, .f32⟩
  | .hbm, ⟨5, _⟩ => ⟨S1024x2560, .bf16⟩
  | .hbm, ⟨6, _⟩ => ⟨S2560x1024, .bf16⟩
  | .hbm, ⟨7, _⟩ => ⟨S1x1024, .f32⟩
  | .hbm, ⟨8, _⟩ => ⟨S16400x1024, .f32⟩
  | .hbm, ⟨9, _⟩ => ⟨S1x1024, .f32⟩
  | .local _ .vmem, ⟨0, _⟩ => ⟨S656x2560, .bf16⟩
  | .local _ .vmem, ⟨1, _⟩ => ⟨S656x2560, .bf16⟩
  | .local _ .vmem, ⟨2, _⟩ => ⟨S2560x1024, .bf16⟩
  | .local _ .vmem, ⟨3, _⟩ => ⟨S656x1024, .f32⟩
  | .local _ .vmem, ⟨4, _⟩ => ⟨S656x1024, .f32⟩
  | .local _ .vmem, ⟨5, _⟩ => ⟨S1x1024, .f32⟩
  | .local _ .vmem, ⟨6, _⟩ => ⟨S656x1024, .f32⟩
  | .local _ .vmem, ⟨7, _⟩ => ⟨S656x1024, .f32⟩
  | .local _ .vmem, ⟨8, _⟩ => ⟨S656x1024, .f32⟩
  | .local _ .vmem, ⟨9, _⟩ => ⟨S656x1024, .f32⟩
  | .local _ .vmem, ⟨10, _⟩ => ⟨S1x1024, .f32⟩
  | _, _ => ⟨S16400x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S656x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S656x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S656x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S656x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S16400x2560 : Shape := ⟨2, ![16400, 2560]⟩
abbrev S1024x2560 : Shape := ⟨2, ![1024, 2560]⟩
abbrev S16400x1024 : Shape := ⟨2, ![16400, 1024]⟩
abbrev S1024 : Shape := ⟨1, ![1024]⟩
abbrev S1x16400x1024 : Shape := ⟨3, ![1, 16400, 1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x16400x2560 : Shape := ⟨3, ![1, 16400, 2560]⟩
abbrev S1x1024 : Shape := ⟨2, ![1, 1024]⟩
abbrev S16400 : Shape := ⟨1, ![16400]⟩

abbrev nBuf : Space → Nat
  | .hbm => 61
  | .vmem => 0
  | .smem => 0
  | _ => 0

abbrev bufTy : (tb : Table) → Fin (tcTables nBuf tb) → BufTy
  | .hbm, ⟨0, _⟩ => ⟨S16400x2560, .bf16⟩
  | .hbm, ⟨1, _⟩ => ⟨S1024x2560, .f32⟩
  | .hbm, ⟨2, _⟩ => ⟨S16400x1024, .f32⟩
  | .hbm, ⟨3, _⟩ => ⟨S1024, .f32⟩
  | .hbm, ⟨4, _⟩ => ⟨S16400x1024, .f32⟩
  | .hbm, ⟨5, _⟩ => ⟨S1x16400x1024, .f32⟩
  | .hbm, ⟨6, _⟩ => ⟨S1x16400x1024, .f32⟩
  | .hbm, ⟨7, _⟩ => ⟨S_, .f32⟩
  | .hbm, ⟨8, _⟩ => ⟨S1x16400, .f32⟩
  | .hbm, ⟨9, _⟩ => ⟨S1x16400x1, .f32⟩
  | .hbm, ⟨10, _⟩ => ⟨S_, .f32⟩
  | .hbm, ⟨11, _⟩ => ⟨S1x16400x1, .f32⟩
  | .hbm, ⟨12, _⟩ => ⟨S1x16400x1, .f32⟩
  | .hbm, ⟨13, _⟩ => ⟨S_, .f32⟩
  | .hbm, ⟨14, _⟩ => ⟨S1x16400x1, .f32⟩
  | .hbm, ⟨15, _⟩ => ⟨S1x16400x1, .f32⟩
  | .hbm, ⟨16, _⟩ => ⟨S1x16400x1, .f32⟩
  | .hbm, ⟨17, _⟩ => ⟨S1x16400x1, .f32⟩
  | .hbm, ⟨18, _⟩ => ⟨S_, .f32⟩
  | .hbm, ⟨19, _⟩ => ⟨S1x16400x1, .f32⟩
  | .hbm, ⟨20, _⟩ => ⟨S1x16400x1, .f32⟩
  | .hbm, ⟨21, _⟩ => ⟨S1x16400x1024, .f32⟩
  | .hbm, ⟨22, _⟩ => ⟨S1x16400x1024, .f32⟩
  | .hbm, ⟨23, _⟩ => ⟨S1x1x1024, .f32⟩
  | .hbm, ⟨24, _⟩ => ⟨S1x16400x1024, .f32⟩
  | .hbm, ⟨25, _⟩ => ⟨S1x16400x1024, .f32⟩
  | .hbm, ⟨26, _⟩ => ⟨S1x16400x2560, .f32⟩
  | .hbm, ⟨27, _⟩ => ⟨S16400x2560, .f32⟩
  | .hbm, ⟨28, _⟩ => ⟨S16400x2560, .f32⟩
  | .hbm, ⟨29, _⟩ => ⟨S1x16400x2560, .f32⟩
  | .hbm, ⟨30, _⟩ => ⟨S1x16400x1024, .f32⟩
  | .hbm, ⟨31, _⟩ => ⟨S1x16400x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x16400x1024, .f32⟩
  | .hbm, ⟨36, _⟩ => ⟨S1x16400x1024, .f32⟩
  | .hbm, ⟨37, _⟩ => ⟨S_, .f32⟩
  | .hbm, ⟨38, _⟩ => ⟨S1024, .f32⟩
  | .hbm, ⟨39, _⟩ => ⟨S1x16400x1024, .f32⟩
  | .hbm, ⟨40, _⟩ => ⟨S_, .f32⟩
  | .hbm, ⟨41, _⟩ => ⟨S1x16400, .f32⟩
  | .hbm, ⟨42, _⟩ => ⟨S1x16400x1, .f32⟩
  | .hbm, ⟨43, _⟩ => ⟨S1x16400x1024, .f32⟩
  | .hbm, ⟨44, _⟩ => ⟨S1x16400x1024, .f32⟩
  | .hbm, ⟨45, _⟩ => ⟨S1x16400x1, .f32⟩
  | .hbm, ⟨46, _⟩ => ⟨S_, .f32⟩
  | .hbm, ⟨47, _⟩ => ⟨S1x16400x1, .f32⟩
  | .hbm, ⟨48, _⟩ => ⟨S1x16400x1, .f32⟩
  | .hbm, ⟨49, _⟩ => ⟨S_, .f32⟩
  | .hbm, ⟨50, _⟩ => ⟨S16400, .f32⟩
  | .hbm, ⟨51, _⟩ => ⟨S1x16400, .f32⟩
  | .hbm, ⟨52, _⟩ => ⟨S1x16400x1024, .f32⟩
  | .hbm, ⟨53, _⟩ => ⟨S1x16400x1024, .f32⟩
  | .hbm, ⟨54, _⟩ => ⟨S1x16400x1024, .f32⟩
  | .hbm, ⟨55, _⟩ => ⟨S1x16400x1024, .f32⟩
  | .hbm, ⟨56, _⟩ => ⟨S1x16400x1024, .f32⟩
  | .hbm, ⟨57, _⟩ => ⟨S_, .f32⟩
  | .hbm, ⟨58, _⟩ => ⟨S16400x1024, .f32⟩
  | .hbm, ⟨59, _⟩ => ⟨S16400x1024, .f32⟩
  | .hbm, ⟨60, _⟩ => ⟨S1x1024, .f32⟩
  | _, _ => ⟨S16400x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel8.lean ====
abbrev S16400x1024 : Shape := ⟨2, ![16400, 1024]⟩
abbrev S1024x1024 : Shape := ⟨2, ![1024, 1024]⟩
abbrev S3280x1024 : Shape := ⟨2, ![3280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16400x1024, .bf16⟩
  | .hbm, ⟨1, _⟩ => ⟨S16400x1024, .bf16⟩
  | .hbm, ⟨2, _⟩ => ⟨S1024x1024, .f32⟩
  | .local _ .vmem, ⟨0, _⟩ => ⟨S3280x1024, .bf16⟩
  | .local _ .vmem, ⟨1, _⟩ => ⟨S3280x1024, .bf16⟩
  | .local _ .vmem, ⟨2, _⟩ => ⟨S3280x1024, .bf16⟩
  | .local _ .vmem, ⟨3, _⟩ => ⟨S3280x1024, .bf16⟩
  | .local _ .vmem, ⟨4, _⟩ => ⟨S1024x1024, .f32⟩
  | _, _ => ⟨S16400x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S16400x1024 : Shape := ⟨2, ![16400, 1024]⟩
abbrev S_ : Shape := ⟨0, ![]⟩
abbrev S1024x1024 : Shape := ⟨2, ![1024, 1024]⟩
abbrev S1x16400x1024 : Shape := ⟨3, ![1, 16400, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16400x1024, .bf16⟩
  | .hbm, ⟨1, _⟩ => ⟨S16400x1024, .bf16⟩
  | .hbm, ⟨2, _⟩ => ⟨S_, .f32⟩
  | .hbm, ⟨3, _⟩ => ⟨S1024x1024, .f32⟩
  | .hbm, ⟨4, _⟩ => ⟨S16400x1024, .f32⟩
  | .hbm, ⟨5, _⟩ => ⟨S1x16400x1024, .f32⟩
  | .hbm, ⟨6, _⟩ => ⟨S1x16400x1024, .f32⟩
  | .hbm, ⟨7, _⟩ => ⟨S16400x1024, .f32⟩
  | .hbm, ⟨8, _⟩ => ⟨S16400x1024, .f32⟩
  | .hbm, ⟨9, _⟩ => ⟨S1x16400x1024, .f32⟩
  | .hbm, ⟨10, _⟩ => ⟨S1024x1024, .f32⟩
  | .hbm, ⟨11, _⟩ => ⟨S1024x1024, .f32⟩
  | _, _ => ⟨S16400x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S16400x3072 : Shape := ⟨2, ![16400, 3072]⟩
abbrev S16400x1024 : Shape := ⟨2, ![16400, 1024]⟩
abbrev S3072x1024 : Shape := ⟨2, ![3072, 1024]⟩
abbrev S3280x1024 : Shape := ⟨2, ![3280, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16400x3072, .bf16⟩
  | .hbm, ⟨1, _⟩ => ⟨S16400x1024, .bf16⟩
  | .hbm, ⟨2, _⟩ => ⟨S3072x1024, .f32⟩
  | .local _ .vmem, ⟨0, _⟩ => ⟨S3280x1024, .bf16⟩
  | .local _ .vmem, ⟨1, _⟩ => ⟨S3280x1024, .bf16⟩
  | .local _ .vmem, ⟨2, _⟩ => ⟨S3280x1024, .bf16⟩
  | .local _ .vmem, ⟨3, _⟩ => ⟨S3280x1024, .bf16⟩
  | .local _ .vmem, ⟨4, _⟩ => ⟨S1024x1024, .f32⟩
  | .local _ .vmem, ⟨5, _⟩ => ⟨S1024x1024, .f32⟩
  | _, _ => ⟨S16400x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S16400x3072 : Shape := ⟨2, ![16400, 3072]⟩
abbrev S16400x1024 : Shape := ⟨2, ![16400, 1024]⟩
abbrev S_ : Shape := ⟨0, ![]⟩
abbrev S1024x3072 : Shape := ⟨2, ![1024, 3072]⟩
abbrev S1x16400x1024 : Shape := ⟨3, ![1, 16400, 1024]⟩
abbrev S1x16400x3072 : Shape := ⟨3, ![1, 16400, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16400x3072, .bf16⟩
  | .hbm, ⟨1, _⟩ => ⟨S16400x1024, .bf16⟩
  | .hbm, ⟨2, _⟩ => ⟨S_, .f32⟩
  | .hbm, ⟨3, _⟩ => ⟨S1024x3072, .f32⟩
  | .hbm, ⟨4, _⟩ => ⟨S16400x1024, .f32⟩
  | .hbm, ⟨5, _⟩ => ⟨S1x16400x1024, .f32⟩
  | .hbm, ⟨6, _⟩ => ⟨S1x16400x3072, .f32⟩
  | .hbm, ⟨7, _⟩ => ⟨S16400x3072, .f32⟩
  | .hbm, ⟨8, _⟩ => ⟨S16400x3072, .f32⟩
  | .hbm, ⟨9, _⟩ => ⟨S1x16400x3072, .f32⟩
  | .hbm, ⟨10, _⟩ => ⟨S3072x1024, .f32⟩
  | .hbm, ⟨11, _⟩ => ⟨S1024x3072, .f32⟩
  | .hbm, ⟨12, _⟩ => ⟨S3072x1024, .f32⟩
  | _, _ => ⟨S16400x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S16400x1280 : Shape := ⟨2, ![16400, 1280]⟩
abbrev S16400x1024 : Shape := ⟨2, ![16400, 1024]⟩
abbrev S1280x1024 : Shape := ⟨2, ![1280, 1024]⟩
abbrev S3280x1280 : Shape := ⟨2, ![3280, 1280]⟩
abbrev S3280x1024 : Shape := ⟨2, ![3280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16400x1280, .bf16⟩
  | .hbm, ⟨1, _⟩ => ⟨S16400x1024, .bf16⟩
  | .hbm, ⟨2, _⟩ => ⟨S1280x1024, .f32⟩
  | .local _ .vmem, ⟨0, _⟩ => ⟨S3280x1280, .bf16⟩
  | .local _ .vmem, ⟨1, _⟩ => ⟨S3280x1280, .bf16⟩
  | .local _ .vmem, ⟨2, _⟩ => ⟨S3280x1024, .bf16⟩
  | .local _ .vmem, ⟨3, _⟩ => ⟨S3280x1024, .bf16⟩
  | .local _ .vmem, ⟨4, _⟩ => ⟨S1280x1024, .f32⟩
  | _, _ => ⟨S16400x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S16400x1280 : Shape := ⟨2, ![16400, 1280]⟩
abbrev S16400x1024 : Shape := ⟨2, ![16400, 1024]⟩
abbrev S_ : Shape := ⟨0, ![]⟩
abbrev S1280x1024 : Shape := ⟨2, ![1280, 1024]⟩
abbrev S1x16400x1280 : Shape := ⟨3, ![1, 16400, 1280]⟩
abbrev S1x16400x1024 : Shape := ⟨3, ![1, 16400, 1024]⟩
abbrev S1024x1280 : Shape := ⟨2, ![1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S16400x1280, .bf16⟩
  | .hbm, ⟨1, _⟩ => ⟨S16400x1024, .bf16⟩
  | .hbm, ⟨2, _⟩ => ⟨S_, .f32⟩
  | .hbm, ⟨3, _⟩ => ⟨S1280x1024, .f32⟩
  | .hbm, ⟨4, _⟩ => ⟨S16400x1280, .f32⟩
  | .hbm, ⟨5, _⟩ => ⟨S1x16400x1280, .f32⟩
  | .hbm, ⟨6, _⟩ => ⟨S1x16400x1024, .f32⟩
  | .hbm, ⟨7, _⟩ => ⟨S16400x1024, .f32⟩
  | .hbm, ⟨8, _⟩ => ⟨S16400x1024, .f32⟩
  | .hbm, ⟨9, _⟩ => ⟨S1x16400x1024, .f32⟩
  | .hbm, ⟨10, _⟩ => ⟨S1024x1280, .f32⟩
  | .hbm, ⟨11, _⟩ => ⟨S1280x1024, .f32⟩
  | _, _ => ⟨S16400x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S16400x2560 : Shape := ⟨2, ![16400, 2560]⟩
abbrev S16400x1024 : Shape := ⟨2, ![16400, 1024]⟩
abbrev S2560x1024 : Shape := ⟨2, ![2560, 1024]⟩
abbrev S3280x1280 : Shape := ⟨2, ![3280, 1280]⟩
abbrev S3280x1024 : Shape := ⟨2, ![3280, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16400x2560, .bf16⟩
  | .hbm, ⟨1, _⟩ => ⟨S16400x1024, .bf16⟩
  | .hbm, ⟨2, _⟩ => ⟨S2560x1024, .f32⟩
  | .local _ .vmem, ⟨0, _⟩ => ⟨S3280x1280, .bf16⟩
  | .local _ .vmem, ⟨1, _⟩ => ⟨S3280x1280, .bf16⟩
  | .local _ .vmem, ⟨2, _⟩ => ⟨S3280x1024, .bf16⟩
  | .local _ .vmem, ⟨3, _⟩ => ⟨S3280x1024, .bf16⟩
  | .local _ .vmem, ⟨4, _⟩ => ⟨S1280x1024, .f32⟩
  | .local _ .vmem, ⟨5, _⟩ => ⟨S1280x1024, .f32⟩
  | _, _ => ⟨S16400x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3280x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S16400x2560 : Shape := ⟨2, ![16400, 2560]⟩
abbrev S16400x1024 : Shape := ⟨2, ![16400, 1024]⟩
abbrev S_ : Shape := ⟨0, ![]⟩
abbrev S1024x2560 : Shape := ⟨2, ![1024, 2560]⟩
abbrev S1x16400x1024 : Shape := ⟨3, ![1, 16400, 1024]⟩
abbrev S1x16400x2560 : Shape := ⟨3, ![1, 16400, 2560]⟩
abbrev S2560x1024 : Shape := ⟨2, ![2560, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16400x2560, .bf16⟩
  | .hbm, ⟨1, _⟩ => ⟨S16400x1024, .bf16⟩
  | .hbm, ⟨2, _⟩ => ⟨S_, .f32⟩
  | .hbm, ⟨3, _⟩ => ⟨S1024x2560, .f32⟩
  | .hbm, ⟨4, _⟩ => ⟨S16400x1024, .f32⟩
  | .hbm, ⟨5, _⟩ => ⟨S1x16400x1024, .f32⟩
  | .hbm, ⟨6, _⟩ => ⟨S1x16400x2560, .f32⟩
  | .hbm, ⟨7, _⟩ => ⟨S16400x2560, .f32⟩
  | .hbm, ⟨8, _⟩ => ⟨S16400x2560, .f32⟩
  | .hbm, ⟨9, _⟩ => ⟨S1x16400x2560, .f32⟩
  | .hbm, ⟨10, _⟩ => ⟨S2560x1024, .f32⟩
  | .hbm, ⟨11, _⟩ => ⟨S1024x2560, .f32⟩
  | .hbm, ⟨12, _⟩ => ⟨S2560x1024, .f32⟩
  | _, _ => ⟨S16400x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S16400x2816 : Shape := ⟨2, ![16400, 2816]⟩
abbrev S2816x1024 : Shape := ⟨2, ![2816, 1024]⟩
abbrev S16400x1024 : Shape := ⟨2, ![16400, 1024]⟩
abbrev S656x2816 : Shape := ⟨2, ![656, 2816]⟩
abbrev S656x1024 : Shape := ⟨2, ![656, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16400x2816, .bf16⟩
  | .hbm, ⟨1, _⟩ => ⟨S2816x1024, .f32⟩
  | .hbm, ⟨2, _⟩ => ⟨S16400x1024, .f32⟩
  | .hbm, ⟨3, _⟩ => ⟨S2816x1024, .bf16⟩
  | .hbm, ⟨4, _⟩ => ⟨S16400x1024, .f32⟩
  | .local _ .vmem, ⟨0, _⟩ => ⟨S656x2816, .bf16⟩
  | .local _ .vmem, ⟨1, _⟩ => ⟨S656x2816, .bf16⟩
  | .local _ .vmem, ⟨2, _⟩ => ⟨S2816x1024, .bf16⟩
  | .local _ .vmem, ⟨3, _⟩ => ⟨S656x1024, .f32⟩
  | .local _ .vmem, ⟨4, _⟩ => ⟨S656x1024, .f32⟩
  | .local _ .vmem, ⟨5, _⟩ => ⟨S656x1024, .f32⟩
  | .local _ .vmem, ⟨6, _⟩ => ⟨S656x1024, .f32⟩
  | _, _ => ⟨S16400x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S656x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S656x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S656x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S16400x2816 : Shape := ⟨2, ![16400, 2816]⟩
abbrev S2816x1024 : Shape := ⟨2, ![2816, 1024]⟩
abbrev S16400x1024 : Shape := ⟨2, ![16400, 1024]⟩
abbrev S1x16400x2816 : Shape := ⟨3, ![1, 16400, 2816]⟩
abbrev S1x16400x1024 : Shape := ⟨3, ![1, 16400, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16400x2816, .bf16⟩
  | .hbm, ⟨1, _⟩ => ⟨S2816x1024, .f32⟩
  | .hbm, ⟨2, _⟩ => ⟨S16400x1024, .f32⟩
  | .hbm, ⟨3, _⟩ => ⟨S16400x2816, .f32⟩
  | .hbm, ⟨4, _⟩ => ⟨S1x16400x2816, .f32⟩
  | .hbm, ⟨5, _⟩ => ⟨S1x16400x1024, .f32⟩
  | .hbm, ⟨6, _⟩ => ⟨S16400x1024, .f32⟩
  | .hbm, ⟨7, _⟩ => ⟨S16400x1024, .f32⟩
  | _, _ => ⟨S16400x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S1x160 : Shape := ⟨2, ![1, 160]⟩

abbrev nBuf : Space → Nat
  | .hbm => 7
  | .vmem => 7
  | .smem => 0
  | _ => 0

abbrev bufTy : (tb : Table) → Fin (tcTables nBuf tb) → BufTy
  | .hbm, ⟨0, _⟩ => ⟨S1x160, .f32⟩
  | .hbm, ⟨1, _⟩ => ⟨S1x160, .f32⟩
  | .hbm, ⟨2, _⟩ => ⟨S1x160, .f32⟩
  | .hbm, ⟨3, _⟩ => ⟨S1x160, .f32⟩
  | .hbm, ⟨4, _⟩ => ⟨S1x160, .f32⟩
  | .hbm, ⟨5, _⟩ => ⟨S1x160, .f32⟩
  | .hbm, ⟨6, _⟩ => ⟨S1x160, .f32⟩
  | .local _ .vmem, ⟨0, _⟩ => ⟨S1x160, .f32⟩
  | .local _ .vmem, ⟨1, _⟩ => ⟨S1x160, .f32⟩
  | .local _ .vmem, ⟨2, _⟩ => ⟨S1x160, .f32⟩
  | .local _ .vmem, ⟨3, _⟩ => ⟨S1x160, .f32⟩
  | .local _ .vmem, ⟨4, _⟩ => ⟨S1x160, .f32⟩
  | .local _ .vmem, ⟨5, _⟩ => ⟨S1x160, .f32⟩
  | .local _ .vmem, ⟨6, _⟩ => ⟨S1x160, .f32⟩
  | _, _ => ⟨S1x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S1x160 : Shape := ⟨2, ![1, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x160, .f32⟩
  | .hbm, ⟨1, _⟩ => ⟨S1x160, .f32⟩
  | .hbm, ⟨2, _⟩ => ⟨S1x160, .f32⟩
  | .hbm, ⟨3, _⟩ => ⟨S1x160, .f32⟩
  | .hbm, ⟨4, _⟩ => ⟨S_, .f32⟩
  | .hbm, ⟨5, _⟩ => ⟨S1x160, .f32⟩
  | .hbm, ⟨6, _⟩ => ⟨S1x160, .f32⟩
  | .hbm, ⟨7, _⟩ => ⟨S_, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S_, .f32⟩
  | .hbm, ⟨12, _⟩ => ⟨S1x160, .f32⟩
  | .hbm, ⟨13, _⟩ => ⟨S1x160, .f32⟩
  | .hbm, ⟨14, _⟩ => ⟨S1x160, .f32⟩
  | .hbm, ⟨15, _⟩ => ⟨S_, .f32⟩
  | .hbm, ⟨16, _⟩ => ⟨S1x160, .f32⟩
  | .hbm, ⟨17, _⟩ => ⟨S1x160, .f32⟩
  | .hbm, ⟨18, _⟩ => ⟨S1x160, .f32⟩
  | .hbm, ⟨19, _⟩ => ⟨S_, .f32⟩
  | .hbm, ⟨20, _⟩ => ⟨S1x160, .f32⟩
  | .hbm, ⟨21, _⟩ => ⟨S1x160, .f32⟩
  | .hbm, ⟨22, _⟩ => ⟨S_, .f32⟩
  | .hbm, ⟨23, _⟩ => ⟨S1x160, .f32⟩
  | .hbm, ⟨24, _⟩ => ⟨S1x160, .f32⟩
  | .hbm, ⟨25, _⟩ => ⟨S1x160, .f32⟩
  | .hbm, ⟨26, _⟩ => ⟨S_, .f32⟩
  | .hbm, ⟨27, _⟩ => ⟨S1x160, .f32⟩
  | .hbm, ⟨28, _⟩ => ⟨S1x160, .f32⟩
  | .hbm, ⟨29, _⟩ => ⟨S1x160, .f32⟩
  | .hbm, ⟨30, _⟩ => ⟨S_, .f32⟩
  | .hbm, ⟨31, _⟩ => ⟨S1x160, .f32⟩
  | .hbm, ⟨32, _⟩ => ⟨S1x160, .f32⟩
  | .hbm, ⟨33, _⟩ => ⟨S1x160, .f32⟩
  | .hbm, ⟨34, _⟩ => ⟨S_, .f32⟩
  | .hbm, ⟨35, _⟩ => ⟨S1x160, .f32⟩
  | .hbm, ⟨36, _⟩ => ⟨S1x160, .f32⟩
  | _, _ => ⟨S1x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1280x128 : Shape := ⟨2, ![1280, 128]⟩
abbrev S320x128 : Shape := ⟨2, ![320, 128]⟩

abbrev nBuf : Space → Nat
  | .hbm => 7
  | .vmem => 14
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .local _ .vmem, ⟨0, _⟩ => ⟨S320x128, .f32⟩
  | .local _ .vmem, ⟨1, _⟩ => ⟨S320x128, .f32⟩
  | .local _ .vmem, ⟨2, _⟩ => ⟨S320x128, .f32⟩
  | .local _ .vmem, ⟨3, _⟩ => ⟨S320x128, .f32⟩
  | .local _ .vmem, ⟨4, _⟩ => ⟨S320x128, .f32⟩
  | .local _ .vmem, ⟨5, _⟩ => ⟨S320x128, .f32⟩
  | .local _ .vmem, ⟨6, _⟩ => ⟨S320x128, .f32⟩
  | .local _ .vmem, ⟨7, _⟩ => ⟨S320x128, .f32⟩
  | .local _ .vmem, ⟨8, _⟩ => ⟨S320x128, .f32⟩
  | .local _ .vmem, ⟨9, _⟩ => ⟨S320x128, .f32⟩
  | .local _ .vmem, ⟨10, _⟩ => ⟨S320x128, .f32⟩
  | .local _ .vmem, ⟨11, _⟩ => ⟨S320x128, .f32⟩
  | .local _ .vmem, ⟨12, _⟩ => ⟨S320x128, .f32⟩
  | .local _ .vmem, ⟨13, _⟩ => ⟨S320x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1024x384 : Shape := ⟨2, ![1024, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x320 : Shape := ⟨2, ![1024, 320]⟩
abbrev S512x320 : Shape := ⟨2, ![512, 320]⟩

abbrev nBuf : Space → Nat
  | .hbm => 7
  | .vmem => 14
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x320 : Shape := ⟨2, ![1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x320, .f32⟩
  | .hbm, ⟨2, _⟩ => ⟨S1024x320, .f32⟩
  | .hbm, ⟨3, _⟩ => ⟨S1024x320, .f32⟩
  | .hbm, ⟨4, _⟩ => ⟨S_, .f32⟩
  | .hbm, ⟨5, _⟩ => ⟨S1024x320, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S1024x320, .f32⟩
  | .hbm, ⟨11, _⟩ => ⟨S_, .f32⟩
  | .hbm, ⟨12, _⟩ => ⟨S1024x320, .f32⟩
  | .hbm, ⟨13, _⟩ => ⟨S1024x320, .f32⟩
  | .hbm, ⟨14, _⟩ => ⟨S1024x320, .f32⟩
  | .hbm, ⟨15, _⟩ => ⟨S_, .f32⟩
  | .hbm, ⟨16, _⟩ => ⟨S1024x320, .f32⟩
  | .hbm, ⟨17, _⟩ => ⟨S1024x320, .f32⟩
  | .hbm, ⟨18, _⟩ => ⟨S1024x320, .f32⟩
  | .hbm, ⟨19, _⟩ => ⟨S_, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S1024x320, .f32⟩
  | .hbm, ⟨26, _⟩ => ⟨S_, .f32⟩
  | .hbm, ⟨27, _⟩ => ⟨S1024x320, .f32⟩
  | .hbm, ⟨28, _⟩ => ⟨S1024x320, .f32⟩
  | .hbm, ⟨29, _⟩ => ⟨S1024x320, .f32⟩
  | .hbm, ⟨30, _⟩ => ⟨S_, .f32⟩
  | .hbm, ⟨31, _⟩ => ⟨S1024x320, .f32⟩
  | .hbm, ⟨32, _⟩ => ⟨S1024x320, .f32⟩
  | .hbm, ⟨33, _⟩ => ⟨S1024x320, .f32⟩
  | .hbm, ⟨34, _⟩ => ⟨S_, .f32⟩
  | .hbm, ⟨35, _⟩ => ⟨S1024x320, .f32⟩
  | .hbm, ⟨36, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S160x1024 : Shape := ⟨2, ![160, 1024]⟩

abbrev nBuf : Space → Nat
  | .hbm => 7
  | .vmem => 7
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S160x1024 : Shape := ⟨2, ![160, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S_, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S160x1024, .f32⟩
  | .hbm, ⟨11, _⟩ => ⟨S_, .f32⟩
  | .hbm, ⟨12, _⟩ => ⟨S160x1024, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S160x1024, .f32⟩
  | .hbm, ⟨26, _⟩ => ⟨S_, .f32⟩
  | .hbm, ⟨27, _⟩ => ⟨S160x1024, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4x160 : Shape := ⟨2, ![4, 160]⟩

abbrev nBuf : Space → Nat
  | .hbm => 7
  | .vmem => 7
  | .smem => 0
  | _ => 0

abbrev bufTy : (tb : Table) → Fin (tcTables nBuf tb) → BufTy
  | .hbm, ⟨0, _⟩ => ⟨S4x160, .f32⟩
  | .hbm, ⟨1, _⟩ => ⟨S4x160, .f32⟩
  | .hbm, ⟨2, _⟩ => ⟨S4x160, .f32⟩
  | .hbm, ⟨3, _⟩ => ⟨S4x160, .f32⟩
  | .hbm, ⟨4, _⟩ => ⟨S4x160, .f32⟩
  | .hbm, ⟨5, _⟩ => ⟨S4x160, .f32⟩
  | .hbm, ⟨6, _⟩ => ⟨S4x160, .f32⟩
  | .local _ .vmem, ⟨0, _⟩ => ⟨S4x160, .f32⟩
  | .local _ .vmem, ⟨1, _⟩ => ⟨S4x160, .f32⟩
  | .local _ .vmem, ⟨2, _⟩ => ⟨S4x160, .f32⟩
  | .local _ .vmem, ⟨3, _⟩ => ⟨S4x160, .f32⟩
  | .local _ .vmem, ⟨4, _⟩ => ⟨S4x160, .f32⟩
  | .local _ .vmem, ⟨5, _⟩ => ⟨S4x160, .f32⟩
  | .local _ .vmem, ⟨6, _⟩ => ⟨S4x160, .f32⟩
  | _, _ => ⟨S4x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S4x160 : Shape := ⟨2, ![4, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x160, .f32⟩
  | .hbm, ⟨1, _⟩ => ⟨S4x160, .f32⟩
  | .hbm, ⟨2, _⟩ => ⟨S4x160, .f32⟩
  | .hbm, ⟨3, _⟩ => ⟨S4x160, .f32⟩
  | .hbm, ⟨4, _⟩ => ⟨S_, .f32⟩
  | .hbm, ⟨5, _⟩ => ⟨S4x160, .f32⟩
  | .hbm, ⟨6, _⟩ => ⟨S4x160, .f32⟩
  | .hbm, ⟨7, _⟩ => ⟨S_, .f32⟩
  | .hbm, ⟨8, _⟩ => ⟨S4x160, .f32⟩
  | .hbm, ⟨9, _⟩ => ⟨S4x160, .f32⟩
  | .hbm, ⟨10, _⟩ => ⟨S4x160, .f32⟩
  | .hbm, ⟨11, _⟩ => ⟨S_, .f32⟩
  | .hbm, ⟨12, _⟩ => ⟨S4x160, .f32⟩
  | .hbm, ⟨13, _⟩ => ⟨S4x160, .f32⟩
  | .hbm, ⟨14, _⟩ => ⟨S4x160, .f32⟩
  | .hbm, ⟨15, _⟩ => ⟨S_, .f32⟩
  | .hbm, ⟨16, _⟩ => ⟨S4x160, .f32⟩
  | .hbm, ⟨17, _⟩ => ⟨S4x160, .f32⟩
  | .hbm, ⟨18, _⟩ => ⟨S4x160, .f32⟩
  | .hbm, ⟨19, _⟩ => ⟨S_, .f32⟩
  | .hbm, ⟨20, _⟩ => ⟨S4x160, .f32⟩
  | .hbm, ⟨21, _⟩ => ⟨S4x160, .f32⟩
  | .hbm, ⟨22, _⟩ => ⟨S_, .f32⟩
  | .hbm, ⟨23, _⟩ => ⟨S4x160, .f32⟩
  | .hbm, ⟨24, _⟩ => ⟨S4x160, .f32⟩
  | .hbm, ⟨25, _⟩ => ⟨S4x160, .f32⟩
  | .hbm, ⟨26, _⟩ => ⟨S_, .f32⟩
  | .hbm, ⟨27, _⟩ => ⟨S4x160, .f32⟩
  | .hbm, ⟨28, _⟩ => ⟨S4x160, .f32⟩
  | .hbm, ⟨29, _⟩ => ⟨S4x160, .f32⟩
  | .hbm, ⟨30, _⟩ => ⟨S_, .f32⟩
  | .hbm, ⟨31, _⟩ => ⟨S4x160, .f32⟩
  | .hbm, ⟨32, _⟩ => ⟨S4x160, .f32⟩
  | .hbm, ⟨33, _⟩ => ⟨S4x160, .f32⟩
  | .hbm, ⟨34, _⟩ => ⟨S_, .f32⟩
  | .hbm, ⟨35, _⟩ => ⟨S4x160, .f32⟩
  | .hbm, ⟨36, _⟩ => ⟨S4x160, .f32⟩
  | _, _ => ⟨S4x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S6x704 : Shape := ⟨2, ![6, 704]⟩

abbrev nBuf : Space → Nat
  | .hbm => 7
  | .vmem => 7
  | .smem => 0
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S6x704, .f32⟩
  | .hbm, ⟨3, _⟩ => ⟨S6x704, .f32⟩
  | .hbm, ⟨4, _⟩ => ⟨S6x704, .f32⟩
  | .hbm, ⟨5, _⟩ => ⟨S6x704, .f32⟩
  | .hbm, ⟨6, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S6x704 : Shape := ⟨2, ![6, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S6x704, .f32⟩
  | .hbm, ⟨3, _⟩ => ⟨S6x704, .f32⟩
  | .hbm, ⟨4, _⟩ => ⟨S_, .f32⟩
  | .hbm, ⟨5, _⟩ => ⟨S6x704, .f32⟩
  | .hbm, ⟨6, _⟩ => ⟨S6x704, .f32⟩
  | .hbm, ⟨7, _⟩ => ⟨S_, .f32⟩
  | .hbm, ⟨8, _⟩ => ⟨S6x704, .f32⟩
  | .hbm, ⟨9, _⟩ => ⟨S6x704, .f32⟩
  | .hbm, ⟨10, _⟩ => ⟨S6x704, .f32⟩
  | .hbm, ⟨11, _⟩ => ⟨S_, .f32⟩
  | .hbm, ⟨12, _⟩ => ⟨S6x704, .f32⟩
  | .hbm, ⟨13, _⟩ => ⟨S6x704, .f32⟩
  | .hbm, ⟨14, _⟩ => ⟨S6x704, .f32⟩
  | .hbm, ⟨15, _⟩ => ⟨S_, .f32⟩
  | .hbm, ⟨16, _⟩ => ⟨S6x704, .f32⟩
  | .hbm, ⟨17, _⟩ => ⟨S6x704, .f32⟩
  | .hbm, ⟨18, _⟩ => ⟨S6x704, .f32⟩
  | .hbm, ⟨19, _⟩ => ⟨S_, .f32⟩
  | .hbm, ⟨20, _⟩ => ⟨S6x704, .f32⟩
  | .hbm, ⟨21, _⟩ => ⟨S6x704, .f32⟩
  | .hbm, ⟨22, _⟩ => ⟨S_, .f32⟩
  | .hbm, ⟨23, _⟩ => ⟨S6x704, .f32⟩
  | .hbm, ⟨24, _⟩ => ⟨S6x704, .f32⟩
  | .hbm, ⟨25, _⟩ => ⟨S6x704, .f32⟩
  | .hbm, ⟨26, _⟩ => ⟨S_, .f32⟩
  | .hbm, ⟨27, _⟩ => ⟨S6x704, .f32⟩
  | .hbm, ⟨28, _⟩ => ⟨S6x704, .f32⟩
  | .hbm, ⟨29, _⟩ => ⟨S6x704, .f32⟩
  | .hbm, ⟨30, _⟩ => ⟨S_, .f32⟩
  | .hbm, ⟨31, _⟩ => ⟨S6x704, .f32⟩
  | .hbm, ⟨32, _⟩ => ⟨S6x704, .f32⟩
  | .hbm, ⟨33, _⟩ => ⟨S6x704, .f32⟩
  | .hbm, ⟨34, _⟩ => ⟨S_, .f32⟩
  | .hbm, ⟨35, _⟩ => ⟨S6x704, .f32⟩
  | .hbm, ⟨36, _⟩ => ⟨S6x704, .f32⟩
  | _, _ => ⟨S6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8x384x1024 : Shape := ⟨3, ![8, 384, 1024]⟩
abbrev S384x1024 : Shape := ⟨2, ![384, 1024]⟩
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x384x1024, .f32⟩
  | .hbm, ⟨1, _⟩ => ⟨S384x1024, .f32⟩
  | .local _ .vmem, ⟨0, _⟩ => ⟨S8x192x1024, .f32⟩
  | .local _ .vmem, ⟨1, _⟩ => ⟨S8x192x1024, .f32⟩
  | .local _ .vmem, ⟨2, _⟩ => ⟨S192x1024, .f32⟩
  | .local _ .vmem, ⟨3, _⟩ => ⟨S192x1024, .f32⟩
  | _, _ => ⟨S8x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S8x384x1024 : Shape := ⟨3, ![8, 384, 1024]⟩
abbrev S_ : Shape := ⟨0, ![]⟩
abbrev S384x1024 : Shape := ⟨2, ![384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x384x1024, .f32⟩
  | .hbm, ⟨1, _⟩ => ⟨S_, .f32⟩
  | .hbm, ⟨2, _⟩ => ⟨S384x1024, .f32⟩
  | _, _ => ⟨S8x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .local _ .vmem, ⟨0, _⟩ => ⟨S8x128x1024, .f32⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference28Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8x320x1024 : Shape := ⟨3, ![8, 320, 1024]⟩
abbrev S320x1024 : Shape := ⟨2, ![320, 1024]⟩
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x320x1024, .f32⟩
  | .hbm, ⟨1, _⟩ => ⟨S320x1024, .f32⟩
  | .local _ .vmem, ⟨0, _⟩ => ⟨S8x160x1024, .f32⟩
  | .local _ .vmem, ⟨1, _⟩ => ⟨S8x160x1024, .f32⟩
  | .local _ .vmem, ⟨2, _⟩ => ⟨S160x1024, .f32⟩
  | .local _ .vmem, ⟨3, _⟩ => ⟨S160x1024, .f32⟩
  | _, _ => ⟨S8x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x320x1024, .f32⟩
  | .hbm, ⟨1, _⟩ => ⟨S_, .f32⟩
  | .hbm, ⟨2, _⟩ => ⟨S320x1024, .f32⟩
  | _, _ => ⟨S8x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x160x1024, .f32⟩
  | .hbm, ⟨1, _⟩ => ⟨S160x1024, .f32⟩
  | .local _ .vmem, ⟨0, _⟩ => ⟨S8x160x1024, .f32⟩
  | .local _ .vmem, ⟨1, _⟩ => ⟨S160x1024, .f32⟩
  | _, _ => ⟨S8x160x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S_, .f32⟩
  | .hbm, ⟨2, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference32Ideal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Finite.lean ====
/-
  The precondition: every element of the four arguments is a real number.
-/
module

public import proofs.«01_k».proof.Pre_finite
public import Idealize.ShloMosaic.PureOps.Ideal
public import Idealize.ShloMosaic.Lib.Claim
public import Idealize.ShloMosaic.Lib.ReduceAll
public import Idealize.ShloMosaic.Lib.Pointwise
public import Idealize.ShloMosaic.Lib.Pipeline.ValueKit

@[expose] public section

set_option maxRecDepth 16384

noncomputable section

namespace Cert.Finite

open Idealize.ShloMosaic Cert.Pre_finite

instance facts : Cert.Pre_finite.Facts where
  bcast_S_S16400x1024 := by decide
  reducesTo_S16400x1024_S_d0_1 := by decide
  h_S_ := by decide
  bcast_S_S2816x1024 := by decide
  reducesTo_S2816x1024_S_d0_1 := by decide
  bcast_S_S16400x5632 := by decide
  reducesTo_S16400x5632_S_d0_1 := by decide
  bcast_S_S3x5632 := by decide
  reducesTo_S3x5632_S_d0_1 := by decide

instance : Subsingleton S_.Idx := ⟨fun a b => funext fun i => i.elim0⟩

/-- Every element is a real number. -/
def Real {s : Shape} (x : s.Idx → EReal) : Prop := ∀ i, ∃ r : ℝ, x i = (r : EReal)

theorem real_of_lt (x : EReal) (h : max x (-x) < ⊤) : ∃ r : ℝ, x = (r : EReal) := by
  induction x with
  | bot => simp at h
  | top => simp at h
  | coe r => exact ⟨r, rfl⟩

/-- What one conjunct of the predicate says of its argument. -/
theorem real_of_all {s : Shape} [Cert.Pre_finite.Facts] (x : FVec Ideal s .f32) (hb : S_.BroadcastsInDim s (![] : Fin 0 → Fin s.rank))
    {axes : List (Fin s.rank)} (hr : s.ReducesTo axes S_) (j : S_.Idx)
    (h : Host.reduce IntOp.andi (cmpf .olt (Host.absf x) (broadcastInDim s ![] hb (constant S_ .f32 0x7F800000#32))) (constantI S_ 1 1#1) hr Cert.Pre_finite.Facts.h_S_ j = 1#1) :
    Real x := fun i => by
  have e := Host.reduce_andi_all _ _ hr _ j h i
  refine real_of_lt (x i) ?_
  pointwise at e
  have e' : max (x i) (-x i) < Ideal.ofBits FTy.f32 2139095040#32 := by
    by_contra hn
    rw [show decide (FloatOps.absf (x i) < Ideal.ofBits FTy.f32 2139095040#32) = false from decide_eq_false hn] at e
    exact absurd e (by decide)
  rwa [show Ideal.ofBits FTy.f32 2139095040#32 = ⊤ by simp [Ideal.ofBits, Ideal.ieee]] at e'

theorem real_args {x0 : FVec Ideal S16400x1024 .f32} {x1 : FVec Ideal S2816x1024 .f32} {x2 : FVec Ideal S16400x5632 .f32}
    {x3 : FVec Ideal S3x5632 .f32} (h : Cert.Pre_finite.fn x0 x1 x2 x3 = fun _ => 1#1) : Real x0 ∧ Real x1 ∧ Real x2 ∧ Real x3 := by
  have h' := congrFun h (fun i => i.elim0)
  unfold fn fn_part1 at h'
  obtain ⟨h', h3⟩ := IntOp.andi_eq_one.1 h'
  obtain ⟨h', h2⟩ := IntOp.andi_eq_one.1 h'
  obtain ⟨h0, h1⟩ := IntOp.andi_eq_one.1 h'
  exact ⟨real_of_all _ _ _ _ h0, real_of_all _ _ _ _ h1, real_of_all _ _ _ _ h2, real_of_all _ _ _ _ h3⟩

end Cert.Finite

end
-- ==== Proof.Facts.lean ====
module

public import proofs.«01_k».proof.Defs
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Kernel30
public import proofs.«01_k».proof.Proof.Gen.Kernel30Ideal
public import proofs.«01_k».proof.Proof.Gen.Reference30Ideal
public import proofs.«01_k».proof.Proof.Gen.Kernel31
public import proofs.«01_k».proof.Proof.Gen.Kernel31Ideal
public import proofs.«01_k».proof.Proof.Gen.Reference31Ideal
public import proofs.«01_k».proof.Proof.Gen.Kernel32
public import proofs.«01_k».proof.Proof.Gen.Kernel32Ideal
public import proofs.«01_k».proof.Proof.Gen.Reference32Ideal

@[expose] public section

noncomputable section

/-! The side conditions that the programs state. -/

namespace Cert.Proof

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Finite.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts
instance : Cert.Kernel11.Facts := Cert.Kernel11.Gen.facts
instance : Cert.Kernel11Ideal.Facts := Cert.Kernel11Ideal.Gen.facts
instance : Cert.Reference11Ideal.Facts := Cert.Reference11Ideal.Gen.facts
instance : Cert.Kernel12.Facts := Cert.Kernel12.Gen.facts
instance : Cert.Kernel12Ideal.Facts := Cert.Kernel12Ideal.Gen.facts
instance : Cert.Reference12Ideal.Facts := Cert.Reference12Ideal.Gen.facts
instance : Cert.Kernel13.Facts := Cert.Kernel13.Gen.facts
instance : Cert.Kernel13Ideal.Facts := Cert.Kernel13Ideal.Gen.facts
instance : Cert.Reference13Ideal.Facts := Cert.Reference13Ideal.Gen.facts
instance : Cert.Kernel14.Facts := Cert.Kernel14.Gen.facts
instance : Cert.Kernel14Ideal.Facts := Cert.Kernel14Ideal.Gen.facts
instance : Cert.Reference14Ideal.Facts := Cert.Reference14Ideal.Gen.facts
instance : Cert.Kernel15.Facts := Cert.Kernel15.Gen.facts
instance : Cert.Kernel15Ideal.Facts := Cert.Kernel15Ideal.Gen.facts
instance : Cert.Reference15Ideal.Facts := Cert.Reference15Ideal.Gen.facts
instance : Cert.Kernel16.Facts := Cert.Kernel16.Gen.facts
instance : Cert.Kernel16Ideal.Facts := Cert.Kernel16Ideal.Gen.facts
instance : Cert.Reference16Ideal.Facts := Cert.Reference16Ideal.Gen.facts
instance : Cert.Kernel17.Facts := Cert.Kernel17.Gen.facts
instance : Cert.Kernel17Ideal.Facts := Cert.Kernel17Ideal.Gen.facts
instance : Cert.Reference17Ideal.Facts := Cert.Reference17Ideal.Gen.facts
instance : Cert.Kernel18.Facts := Cert.Kernel18.Gen.facts
instance : Cert.Kernel18Ideal.Facts := Cert.Kernel18Ideal.Gen.facts
instance : Cert.Reference18Ideal.Facts := Cert.Reference18Ideal.Gen.facts
instance : Cert.Kernel19.Facts := Cert.Kernel19.Gen.facts
instance : Cert.Kernel19Ideal.Facts := Cert.Kernel19Ideal.Gen.facts
instance : Cert.Reference19Ideal.Facts := Cert.Reference19Ideal.Gen.facts
instance : Cert.Kernel20.Facts := Cert.Kernel20.Gen.facts
instance : Cert.Kernel20Ideal.Facts := Cert.Kernel20Ideal.Gen.facts
instance : Cert.Reference20Ideal.Facts := Cert.Reference20Ideal.Gen.facts
instance : Cert.Kernel21.Facts := Cert.Kernel21.Gen.facts
instance : Cert.Kernel21Ideal.Facts := Cert.Kernel21Ideal.Gen.facts
instance : Cert.Reference21Ideal.Facts := Cert.Reference21Ideal.Gen.facts
instance : Cert.Kernel22.Facts := Cert.Kernel22.Gen.facts
instance : Cert.Kernel22Ideal.Facts := Cert.Kernel22Ideal.Gen.facts
instance : Cert.Reference22Ideal.Facts := Cert.Reference22Ideal.Gen.facts
instance : Cert.Kernel23.Facts := Cert.Kernel23.Gen.facts
instance : Cert.Kernel23Ideal.Facts := Cert.Kernel23Ideal.Gen.facts
instance : Cert.Reference23Ideal.Facts := Cert.Reference23Ideal.Gen.facts
instance : Cert.Kernel24.Facts := Cert.Kernel24.Gen.facts
instance : Cert.Kernel24Ideal.Facts := Cert.Kernel24Ideal.Gen.facts
instance : Cert.Reference24Ideal.Facts := Cert.Reference24Ideal.Gen.facts
instance : Cert.Kernel25.Facts := Cert.Kernel25.Gen.facts
instance : Cert.Kernel25Ideal.Facts := Cert.Kernel25Ideal.Gen.facts
instance : Cert.Reference25Ideal.Facts := Cert.Reference25Ideal.Gen.facts
instance : Cert.Kernel26.Facts := Cert.Kernel26.Gen.facts
instance : Cert.Kernel26Ideal.Facts := Cert.Kernel26Ideal.Gen.facts
instance : Cert.Reference26Ideal.Facts := Cert.Reference26Ideal.Gen.facts
instance : Cert.Kernel27.Facts := Cert.Kernel27.Gen.facts
instance : Cert.Kernel27Ideal.Facts := Cert.Kernel27Ideal.Gen.facts
instance : Cert.Reference27Ideal.Facts := Cert.Reference27Ideal.Gen.facts
instance : Cert.Kernel28.Facts := Cert.Kernel28.Gen.facts
instance : Cert.Kernel28Ideal.Facts := Cert.Kernel28Ideal.Gen.facts
instance : Cert.Reference28Ideal.Facts := Cert.Reference28Ideal.Gen.facts
instance : Cert.Kernel29.Facts := Cert.Kernel29.Gen.facts
instance : Cert.Kernel29Ideal.Facts := Cert.Kernel29Ideal.Gen.facts
instance : Cert.Reference29Ideal.Facts := Cert.Reference29Ideal.Gen.facts
instance : Cert.Kernel30.Facts := Cert.Kernel30.Gen.facts
instance : Cert.Kernel30Ideal.Facts := Cert.Kernel30Ideal.Gen.facts
instance : Cert.Reference30Ideal.Facts := Cert.Reference30Ideal.Gen.facts
instance : Cert.Kernel31.Facts := Cert.Kernel31.Gen.facts
instance : Cert.Kernel31Ideal.Facts := Cert.Kernel31Ideal.Gen.facts
instance : Cert.Reference31Ideal.Facts := Cert.Reference31Ideal.Gen.facts
instance : Cert.Kernel32.Facts := Cert.Kernel32.Gen.facts
instance : Cert.Kernel32Ideal.Facts := Cert.Kernel32Ideal.Gen.facts
instance : Cert.Reference32Ideal.Facts := Cert.Reference32Ideal.Gen.facts

end Cert.Proof

end
-- ==== Proof.Body.lean ====
/-
  The kernel's run. The grid has 41 points; the first one (the condition `cond0_0` holds) clears the carried rows and the
  weight gradient, the others take both from the point before. `state` says what each point leaves, `body_at` is the body's
  triple at every point, `launch_run` the run of @main.
-/
module

public import proofs.«01_k».proof.Proof.Gen.KernelIdeal.Frame.RunB
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a point leaves to the next one or writes back: the gradient of the input, the cast cotangent, the
    gradient of the weights so far, and the rows carried to the earlier tile. -/
structure St (F : FTy → Type) [FloatOps F] where
  da : Vec F S400x5632 .bf16
  dhb : Vec F S400x1024 .bf16
  dw : Vec F S3x5632 .f32
  carry : Vec F S16x5632 .f32

/-- The buffers given by the pieces stored into each. -/
def St.of (L6 : List (View.Piece (Elt F) S400x5632 .bf16)) (L7 : List (View.Piece (Elt F) S400x1024 .bf16))
    (L8 : List (View.Piece (Elt F) S3x5632 .f32)) (LS : List (View.Piece (Elt F) S16x5632 .f32)) : St F where
  da := VO0_6.read (Elt F) (VO0_6.writes (Elt F) VO0_6.junk L6)
  dhb := VO0_7.read (Elt F) (VO0_7.writes (Elt F) VO0_7.junk L7)
  dw := VO0_8.read (Elt F) (VO0_8.writes (Elt F) VO0_8.junk L8)
  carry := VS0_0.read (Elt F) (VS0_0.writes (Elt F) VS0_0.junk LS)

/-- The body's run at a point where the condition holds, at the point's staging buffers and blocks. -/
def runFirst (c : Dev nD) (t : Fin cfg0.N) (h : cond0_0 (grid0.coords t)) :=
  kernelRun0_A (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) h (iblk m c 0 t) (iblk m c 1 t) (iblk m c 2 t) (iblk m c 3 t) (iblk m c 4 t) (iblk m c 5 t)

/-- The body's run at any other point, over the weight gradient and the carried rows it finds. -/
def runNext (c : Dev nD) (t : Fin cfg0.N) (h : ¬cond0_0 (grid0.coords t)) (dw : Vec F S3x5632 .f32) (carry : Vec F S16x5632 .f32) :=
  kernelRun0_B (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) h (iblk m c 0 t) (iblk m c 1 t) (iblk m c 2 t) (iblk m c 3 t) (iblk m c 4 t) (iblk m c 5 t) dw carry

def first (c : Dev nD) (t : Fin cfg0.N) (h : cond0_0 (grid0.coords t)) : St F :=
  .of (runFirst m c t h).1 (runFirst m c t h).2.1 (runFirst m c t h).2.2.1 (runFirst m c t h).2.2.2.1

def next (c : Dev nD) (t : Fin cfg0.N) (h : ¬cond0_0 (grid0.coords t)) (s : St F) : St F :=
  .of (runNext m c t h s.dw s.carry).1 (runNext m c t h s.dw s.carry).2.1 (runNext m c t h s.dw s.carry).2.2.1
    (runNext m c t h s.dw s.carry).2.2.2.1

theorem cond_first (t : Fin cfg0.N) (h : t.val = 0) : cond0_0 (grid0.coords t) := (hcond0_0 t).mpr (by omega)
theorem cond_next (t : Fin cfg0.N) (h : t.val ≠ 0) : ¬cond0_0 (grid0.coords t) := fun e => by
  have := (hcond0_0 t).mp e
  have : t.val < 41 := lt_of_lt_of_eq t.isLt N_0
  omega

/-- What the points up to and including point `n` leave. -/
def state (c : Dev nD) : (n : ℕ) → n < cfg0.N → St F
  | 0, hn => first m c ⟨0, hn⟩ (cond_first ⟨0, hn⟩ rfl)
  | n + 1, hn => next m c ⟨n + 1, hn⟩ (cond_next ⟨n + 1, hn⟩ (Nat.succ_ne_zero n)) (state c n (Nat.lt_of_succ_lt hn))

/-- The rows carried into position `n`: anything before the first point. -/
def Inv (c : Dev nD) : (n : ℕ) → n ≤ cfg0.N → sProp 𝕄
  | 0, _ => Pipeline.ΦA spec0 c
  | n + 1, hn => iprop(iprop(owns (c : Thread nD τ) scM0_0 fullShare ((state m c n hn).carry)) ∗ (∃ r, prngReg c r))

/-- Each input's buffer keeps its block; the outputs' are at `state`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t.val t.isLt).da
    | ⟨7, _⟩ => (state m c t.val t.isLt).dhb
    | ⟨8, _⟩ => (state m c t.val t.isLt).dw
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem kept3 (c : Dev nD) (t : Fin cfg0.N) : (dats m 0 c).after 3 t = iblk m c 3 t := by dsimp only [dats]
theorem kept4 (c : Dev nD) (t : Fin cfg0.N) : (dats m 0 c).after 4 t = iblk m c 4 t := by dsimp only [dats]
theorem kept5 (c : Dev nD) (t : Fin cfg0.N) : (dats m 0 c).after 5 t = iblk m c 5 t := by dsimp only [dats]
theorem left6 (c : Dev nD) (t : Fin cfg0.N) : (dats m 0 c).after 6 t = (state m c t.val t.isLt).da := by dsimp only [dats]
theorem left7 (c : Dev nD) (t : Fin cfg0.N) : (dats m 0 c).after 7 t = (state m c t.val t.isLt).dhb := by dsimp only [dats]
theorem left8 (c : Dev nD) (t : Fin cfg0.N) : (dats m 0 c).after 8 t = (state m c t.val t.isLt).dw := by dsimp only [dats]

theorem found0 (c : Dev nD) (t : Fin cfg0.N) (d) : (dats m 0 c).before 0 t d = iblk m c 0 t :=
  before0_0_of m _ (A_eq m c 0) (kept0 m c) t d
theorem found1 (c : Dev nD) (t : Fin cfg0.N) (d) : (dats m 0 c).before 1 t d = iblk m c 1 t :=
  before0_1_of m _ (A_eq m c 1) (kept1 m c) t d
theorem found2 (c : Dev nD) (t : Fin cfg0.N) (d) : (dats m 0 c).before 2 t d = iblk m c 2 t :=
  before0_2_of m _ (A_eq m c 2) (kept2 m c) t d
theorem found3 (c : Dev nD) (t : Fin cfg0.N) (d) : (dats m 0 c).before 3 t d = iblk m c 3 t :=
  before0_3_of m _ (A_eq m c 3) (kept3 m c) t d
theorem found4 (c : Dev nD) (t : Fin cfg0.N) (d) : (dats m 0 c).before 4 t d = iblk m c 4 t :=
  before0_4_of m _ (A_eq m c 4) (kept4 m c) t d
theorem found5 (c : Dev nD) (t : Fin cfg0.N) (d) : (dats m 0 c).before 5 t d = iblk m c 5 t :=
  before0_5_of m _ (A_eq m c 5) (kept5 m c) t d

/-- The weight gradient's buffer is not written back before the last point, so a later point finds what the one before left. -/
theorem found8 (c : Dev nD) (n : ℕ) (hn : n + 1 < cfg0.N) (d) :
    (dats m 0 c).before 8 ⟨n + 1, hn⟩ d = (state m c n (Nat.lt_of_succ_lt hn)).dw := by
  have hN : n + 1 < 41 := lt_of_lt_of_eq hn N_0
  rw [Dat.before_out_kept _ 8 rfl ⟨n + 1, hn⟩ (Nat.succ_ne_zero n)
    (Bool.eq_false_iff.mpr fun h => by have := (flush0_8 _).mp h; dsimp only at this; omega) (fun _ => rfl) (fun _ _ => rfl)]
  dsimp only [dats]
  rfl

/-- What the body needs at point `t` -/
def need (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it gives, the outputs at `s`. -/
def give (c : Dev nD) (t : Fin cfg0.N) (s : St F) : sProp 𝕄 :=
  iprop(iprop(iprop(owns (c : Thread nD τ) scM0_0 fullShare s.carry) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare s.da
    ∗ owns (c : Thread nD τ) (ms0_7 t) fullShare s.dhb
    ∗ owns (c : Thread nD τ) (ms0_8 t) fullShare s.dw)

/-- The stored pieces cover their buffers, so what the buffers end with is the pieces alone (`St.of`). -/
theorem pack (c : Dev nD) (t : Fin cfg0.N) (L6 : List (View.Piece (Elt F) S400x5632 .bf16)) (L7 : List (View.Piece (Elt F) S400x1024 .bf16))
    (L8 : List (View.Piece (Elt F) S3x5632 .f32)) (LS : List (View.Piece (Elt F) S16x5632 .f32))
    (h6 : ∀ y, ∃ p ∈ L6, y ∈ p.1.set) (h7 : ∀ y, ∃ p ∈ L7, y ∈ p.1.set) (h8 : ∀ y, ∃ p ∈ L8, y ∈ p.1.set) (hS : ∀ y, ∃ p ∈ LS, y ∈ p.1.set) :
    iprop((∃ r, prngReg c r) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ (∃ f, (ms0_6 t).view.loc (c : Thread nD τ) ↦[(ms0_6 t).view.set]{fullShare} (ms0_6 t).view.writes (Elt F) f L6)
      ∗ (∃ f, (ms0_7 t).view.loc (c : Thread nD τ) ↦[(ms0_7 t).view.set]{fullShare} (ms0_7 t).view.writes (Elt F) f L7)
      ∗ (∃ f, (ms0_8 t).view.loc (c : Thread nD τ) ↦[(ms0_8 t).view.set]{fullShare} (ms0_8 t).view.writes (Elt F) f L8)
      ∗ (∃ f, scM0_0.view.loc (c : Thread nD τ) ↦[scM0_0.view.set]{fullShare} scM0_0.view.writes (Elt F) f LS))
    ⊢ give m c t (.of L6 L7 L8 LS) := by
  unfold give St.of; dsimp only
  iintro ⟨Hg, Ho, H0, H1, H2, H3, H4, H5, ⟨%e6, H6⟩, ⟨%e7, H7⟩, ⟨%e8, H8⟩, ⟨%es, HS⟩⟩
  isplitl [HS Hg]
  · isplitl [HS]
    · unfold owns; iexists _; isplitr
      swap; · iexact HS
      ipureintro; exact View.read_writes_of_cover _ _ _ _ _ hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ h6
  isplitl [H7]
  · unfold owns; iexists _; isplitr
    swap; · iexact H7
    ipureintro; exact View.read_writes_of_cover _ _ _ _ _ h7
  unfold owns; iexists _; isplitr
  swap; · iexact H8
  ipureintro; exact View.read_writes_of_cover _ _ _ _ _ h8

set_option maxHeartbeats 1600000 in
/-- The first point's body: the buffers it stores into may hold anything. -/
theorem body_first (c : Dev nD) (t : Fin cfg0.N) (h0 : t.val = 0) :
    need m c t ⊢ wp frame (wpE (defs₀ (F := F)) Variants.none c none) Set.univ (bodyAt0 t)
      (fun _ => give m c t (first m c t (cond_first t h0))) := by
  unfold need bodyAt0
  simp only [found0, found1, found2, found3, found4, found5]
  rw [show (dats m 0 c).Φ t.castSucc = Pipeline.ΦA spec0 c by obtain ⟨_ | n, hn⟩ := t; · rfl
                                                              · exact absurd h0 (Nat.succ_ne_zero n), PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runFirst m c t (cond_first t h0)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, H6, H7, H8, HS⟩
  unfold first
  iapply (pack m c t _ _ _ _ (View.cover_of_tiledL (runFirst m c t (cond_first t h0)).1 S400x2816.size (by sl_kernel_rfl))
    (View.cover_of_tiledL (runFirst m c t (cond_first t h0)).2.1 S400x1024.size (by sl_kernel_rfl))
    (View.cover_of_tiledBy (runFirst m c t (cond_first t h0)).2.2.1 ![1, 2816] (by sl_kernel_rfl))
    (View.cover_of_wholeMem (runFirst m c t (cond_first t h0)).2.2.2.1 (by unfold runFirst; sl_whole_mem)))
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

set_option maxHeartbeats 1600000 in
/-- A later point's body, over what the point before left. -/
theorem body_next (c : Dev nD) (n : ℕ) (hn : n + 1 < cfg0.N) :
    need m c ⟨n + 1, hn⟩ ⊢ wp frame (wpE (defs₀ (F := F)) Variants.none c none) Set.univ (bodyAt0 ⟨n + 1, hn⟩)
      (fun _ => give m c ⟨n + 1, hn⟩ (next m c ⟨n + 1, hn⟩ (cond_next ⟨n + 1, hn⟩ (Nat.succ_ne_zero n))
        (state m c n (Nat.lt_of_succ_lt hn)))) := by
  unfold need bodyAt0
  simp only [found0, found1, found2, found3, found4, found5, found8]
  rw [show (dats m 0 c).Φ (Fin.castSucc ⟨n + 1, hn⟩) = Inv m c (n + 1) (Nat.le_of_lt hn) from rfl, Inv]
  generalize hs : state m c n (Nat.lt_of_succ_lt hn) = s
  have hc : ¬cond0_0 (grid0.coords ⟨n + 1, hn⟩) := cond_next ⟨n + 1, hn⟩ (Nat.succ_ne_zero n)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runNext m c ⟨n + 1, hn⟩ hc s.dw s.carry).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, H6, H7, H8, HS⟩
  unfold next
  iapply (pack m c ⟨n + 1, hn⟩ _ _ _ _ (View.cover_of_tiledL (runNext m c ⟨n + 1, hn⟩ hc s.dw s.carry).1 S400x2816.size (by sl_kernel_rfl))
    (View.cover_of_tiledL (runNext m c ⟨n + 1, hn⟩ hc s.dw s.carry).2.1 S400x1024.size (by sl_kernel_rfl))
    (View.cover_of_tiledL (runNext m c ⟨n + 1, hn⟩ hc s.dw s.carry).2.2.1 S1x2816.size (by sl_kernel_rfl))
    (View.cover_of_tiledL (runNext m c ⟨n + 1, hn⟩ hc s.dw s.carry).2.2.2.1 S16x2816.size (by sl_kernel_rfl)))
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- The body at every point. -/
theorem body_at (c : Dev nD) (t : Fin cfg0.N) :
    need m c t ⊢ wp frame (wpE (defs₀ (F := F)) Variants.none c none) Set.univ (bodyAt0 t) (fun _ => give m c t (state m c t.val t.isLt)) := by
  obtain ⟨_ | n, hn⟩ := t
  · exact body_first m c ⟨0, hn⟩ rfl
  · exact body_next m c n hn

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (body_at m c t) rfl .rfl fun _ => ?_
  unfold give
  rw [kept0, kept1, kept2, kept3, kept4, kept5, left6, left7, left8]
  exact .rfl

theorem enter (c : Dev nD) : Pipeline.ΦA spec0 c ⊢ (dats m 0 c).Φ 0 := Idealize.SL.BI.Entails.refl _

/-- After the last point the carried rows are forgotten. -/
theorem leave (c : Dev nD) : (dats m 0 c).Φ (Fin.last cfg0.N) ⊢ Pipeline.ΦA spec0 c := by
  rw [show (dats m 0 c).Φ (Fin.last cfg0.N) = Inv m c (40 + 1) (le_of_eq N_0.symm) from rfl, Inv, PhiA0_eq]
  iintro ⟨HS, Hg⟩
  isplitl [HS]
  · iexists _; iexact HS
  iexact Hg

set_option backward.isDefEq.respectTransparency.types false in
set_option maxHeartbeats 800000 in
/-- The run of @main, with every counter at zero at the end. -/
theorem launch_run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launch_run m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (launch_run m ρ))

end Cert.KernelIdeal.Body

end
-- ==== Proof.Twin.lean ====
/-
  The kernel as printed and the kernel as printed for the ideal reading are one program: the same lines, at any float values.
  So one run gives both frames.
-/
module

public import proofs.«01_k».proof.Kernel
public import proofs.«01_k».proof.KernelIdeal

@[expose] public section

namespace Cert.Twin

open Idealize.ShloMosaic

variable {F : FTy → Type} [FloatOps F] [Cert.Kernel.Facts] [Cert.KernelIdeal.Facts]

set_option maxHeartbeats 1000000 in
theorem main_eq : @Cert.Kernel.main F _ _ = @Cert.KernelIdeal.main F _ _ := rfl

set_option maxHeartbeats 1000000 in
theorem bodies_eq : @Cert.Kernel.defs₀ F _ _ = @Cert.KernelIdeal.defs₀ F _ _ := by
  unfold Cert.Kernel.defs₀ Cert.KernelIdeal.defs₀
  congr 1
  funext i
  rcases i with ⟨_ | n, hn⟩
  · rfl
  · exact absurd hn (by omega)

set_option maxHeartbeats 1000000 in
theorem defs_eq : @Cert.Kernel.defs F _ _ = @Cert.KernelIdeal.defs F _ _ := by
  unfold Cert.Kernel.defs Cert.KernelIdeal.defs
  rw [bodies_eq]; rfl

end Cert.Twin

end
-- ==== Proof.Spec.lean ====
/-
  The mathematics both programs compute, on time rows: the causal convolution of three taps, the gated unit, and the
  gradients. Rows are natural numbers, so that the rows before the first and after the last are zero without bounds.
-/
module

public import Idealize.ShloMosaic.Lib.Pointwise

@[expose] public section

set_option maxRecDepth 16384

noncomputable section

namespace Cert.Spec

open Idealize.ShloMosaic

abbrev ScH : Shape := ⟨2, ![16400, 1024]⟩
abbrev ScW : Shape := ⟨2, ![2816, 1024]⟩
abbrev ScA : Shape := ⟨2, ![16400, 5632]⟩
abbrev ScK : Shape := ⟨2, ![3, 5632]⟩

/-- Column `f` of the gate half, of the value half. -/
def lo (f : Fin 2816) : Fin 5632 := ⟨f.val, by omega⟩
def hi (f : Fin 2816) : Fin 5632 := ⟨2816 + f.val, by omega⟩

variable (dh : ScH.Idx → EReal) (W : ScW.Idx → EReal) (a : ScA.Idx → EReal) (w : ScK.Idx → EReal)

/-- The input at time `n - 2`, zero before the first row. -/
def lag (n : ℕ) (c : Fin 5632) : EReal := if h : 2 ≤ n ∧ n < 16402 then a (ix2 ⟨n - 2, by omega⟩ c) else 0

/-- The convolution at time `n`. -/
def conv (n : ℕ) (c : Fin 5632) : EReal :=
  w (ix2 0 c) * lag a n c + w (ix2 1 c) * lag a (n + 1) c + w (ix2 2 c) * lag a (n + 2) c

/-- The cotangent of the gated product at time `n`. -/
def dz (n : ℕ) (f : Fin 2816) : EReal := if h : n < 16400 then ∑ d : Fin 1024, dh (ix2 ⟨n, h⟩ d) * W (ix2 f d) else 0

/-- The logistic function. -/
def sig (x : EReal) : EReal := Ideal.div 1 (1 + Ideal.exp (-x))

def gate (n : ℕ) (f : Fin 2816) : EReal := conv a w n (lo f)
def value (n : ℕ) (f : Fin 2816) : EReal := conv a w n (hi f)

def dgate (n : ℕ) (f : Fin 2816) : EReal :=
  dz dh W n f * value a w n f * sig (gate a w n f) * (1 + gate a w n f * (1 - sig (gate a w n f)))
def dvalue (n : ℕ) (f : Fin 2816) : EReal := dz dh W n f * gate a w n f * sig (gate a w n f)

/-- The cotangent of the convolution at time `n`, zero after the last row. -/
def dconv (n : ℕ) (c : Fin 5632) : EReal :=
  if n < 16400 then if h : c.val < 2816 then dgate dh W a w n ⟨c.val, h⟩ else dvalue dh W a w n ⟨c.val - 2816, by omega⟩
  else 0

/-- The gradient of the input at time `n`. -/
def da (n : ℕ) (c : Fin 5632) : EReal :=
  w (ix2 0 c) * dconv dh W a w (n + 2) c + w (ix2 1 c) * dconv dh W a w (n + 1) c + w (ix2 2 c) * dconv dh W a w n c

/-- One row's part of the gradient of tap `k`. -/
def part (k : ℕ) (c : Fin 5632) (n : ℕ) : EReal := dconv dh W a w n c * lag a (n + k) c

/-- The gradient of tap `k`. -/
def dw (k : ℕ) (c : Fin 5632) : EReal := ∑ n : Fin 16400, part dh W a w k c n.val

/-- The time of row `r` of tile `i`. -/
def time (i r : ℕ) : ℕ := i * 400 + r % 8 * 50 + r / 8

theorem dconv_lo {n : ℕ} (h : n < 16400) (f : Fin 2816) : dconv dh W a w n (lo f) = dgate dh W a w n f := by
  unfold dconv lo
  rw [if_pos h, dif_pos f.isLt]

theorem dconv_hi {n : ℕ} (h : n < 16400) (f : Fin 2816) : dconv dh W a w n (hi f) = dvalue dh W a w n f := by
  unfold dconv hi
  rw [if_pos h, dif_neg (by dsimp only; omega)]
  exact congrArg _ (Fin.ext (by dsimp only; omega))

theorem dconv_end {n : ℕ} (h : 16400 ≤ n) (c : Fin 5632) : dconv dh W a w n c = 0 := if_neg (by omega)

theorem lag_row {n : ℕ} (h : n < 16400) (c : Fin 5632) : lag a (n + 2) c = a (ix2 ⟨n, h⟩ c) := by
  unfold lag
  rw [dif_pos ⟨by omega, by omega⟩]
  exact congrArg a (congrArg (fun x => ix2 x c) (Fin.ext (by dsimp only; omega)))

theorem lag_zero {n : ℕ} (h : n < 2) (c : Fin 5632) : lag a n c = 0 := dif_neg (by omega)

/-- The rows of a tile, in the order of time. -/
def order : Fin 400 ≃ Fin 400 where
  toFun r := ⟨r.val % 8 * 50 + r.val / 8, by omega⟩
  invFun q := ⟨q.val % 50 * 8 + q.val / 50, by omega⟩
  left_inv r := by ext; dsimp only; omega
  right_inv q := by ext; dsimp only; omega

/-- A sum over all rows, tile by tile from the last tile to the first. -/
theorem sum_tiles (F : ℕ → EReal) :
    ∑ p : Fin 41, ∑ r : Fin 400, F (time (40 - p.val) r.val) = ∑ n : Fin 16400, F n.val := by
  rw [Fin.sum_univ_tiles 41 400 rfl (fun n : Fin 16400 => F n.val)]
  refine Fintype.sum_equiv Fin.revPerm _ _ fun p => ?_
  refine Fintype.sum_equiv order _ _ fun r => ?_
  refine congrArg F ?_
  simp only [time, order, Fin.revPerm_apply, Fin.val_rev, Equiv.coe_fn_mk]
  omega

/-- Every entry is a real number. -/
def Finite {s : Shape} (x : s.Idx → EReal) : Prop := ∀ i, ∃ r : ℝ, x i = (r : EReal)

theorem lag_real (ha : Finite a) (n : ℕ) (c : Fin 5632) : ∃ r : ℝ, lag a n c = r := by
  unfold lag
  split
  · exact ha _
  · exact ⟨0, rfl⟩

theorem conv_real (ha : Finite a) (hw : Finite w) (n : ℕ) (c : Fin 5632) : ∃ r : ℝ, conv a w n c = r := by
  obtain ⟨l0, e0⟩ := lag_real a ha n c
  obtain ⟨l1, e1⟩ := lag_real a ha (n + 1) c
  obtain ⟨l2, e2⟩ := lag_real a ha (n + 2) c
  obtain ⟨w0, f0⟩ := hw (ix2 0 c)
  obtain ⟨w1, f1⟩ := hw (ix2 1 c)
  obtain ⟨w2, f2⟩ := hw (ix2 2 c)
  refine ⟨w0 * l0 + w1 * l1 + w2 * l2, ?_⟩
  unfold conv
  rw [e0, e1, e2, f0, f1, f2]
  norm_cast

theorem dz_real (hd : Finite dh) (hW : Finite W) (n : ℕ) (f : Fin 2816) : ∃ r : ℝ, dz dh W n f = r := by
  unfold dz
  split
  · choose d hd using hd
    choose v hW using hW
    rename_i h
    refine ⟨∑ k : Fin 1024, d (ix2 ⟨n, h⟩ k) * v (ix2 f k), ?_⟩
    simp only [hd, hW]
    norm_cast
  · exact ⟨0, rfl⟩

/-- The gradient of the logistic unit in its two spellings. -/
theorem silu_grad (x v d : ℝ) :
    (d : EReal) * v * sig x * (1 + x * (1 - sig x))
      = (d : EReal) * v * sig x + x * ((d : EReal) * v) * (sig x * (1 - sig x)) := by
  have hs : ∃ s : ℝ, sig (x : EReal) = s := by
    have hx : (0 : ℝ) < 1 + Real.exp (-x) := by positivity
    refine ⟨1 / (1 + Real.exp (-x)), ?_⟩
    unfold sig
    have e : (1 : EReal) + Ideal.exp (-(x : EReal)) = ((1 + Real.exp (-x) : ℝ) : EReal) := by
      rw [← EReal.coe_neg]
      show (1 : EReal) + ((Real.exp (-x) : ℝ) : EReal) = _
      norm_cast
    rw [e, Ideal.div_coe hx.ne', one_mul]
  obtain ⟨s, hs⟩ := hs
  rw [hs]
  have h1 : (1 : EReal) = ((1 : ℝ) : EReal) := rfl
  rw [h1]
  norm_cast
  ring_nf

end Cert.Spec

end
-- ==== Proof.Ref.lean ====
/-
  The reference's results read at an index: the gradients of Spec.
-/
module

public import proofs.«01_k».proof.Proof.Spec
public import proofs.«01_k».proof.Proof.Gen.ReferenceIdeal.Read
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.SL.Sem

variable (x0 : FVec Ideal S16400x1024 .f32) (x1 : FVec Ideal S2816x1024 .f32) (x2 : FVec Ideal S16400x5632 .f32)
  (x3 : FVec Ideal S3x5632 .f32)

theorem padded (n : Fin 16402) (c : Fin 5632) : val_main_v2 (F := Ideal) x2 (ix3 0 n c) = Cert.Spec.lag x2 n.val c := by
  pointwise [val_main_v2, val_main_v1, val_main_v0, val_main_cst]
  unfold Cert.Spec.lag
  by_cases h : (n : ℕ) < 2
  · rw [dif_pos h, dif_neg (by omega)]
  · rw [dif_neg h, dif_pos ⟨by omega, n.isLt⟩]

theorem conv_at (n : Fin 16400) (c : Fin 5632) : val_main_v23 (F := Ideal) x2 x3 (ix3 0 n c) = Cert.Spec.conv x2 x3 n.val c := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, padded]
  unfold Cert.Spec.conv
  rw [add_comm 1 (n : ℕ), add_comm 2 (n : ℕ), mul_comm (x3 _), mul_comm (x3 _), mul_comm (x3 _)]

theorem dz_at (n : Fin 16400) (f : Fin 2816) : val_main_v31 (F := Ideal) x0 x1 (ix3 0 n f) = Cert.Spec.dz x0 x1 n.val f := by
  pointwise [val_main_v31, val_main_v30]
  unfold Cert.Spec.dz
  rw [dif_pos n.isLt]

theorem gate_at (n : Fin 16400) (f : Fin 2816) : val_main_v24 (F := Ideal) x2 x3 (ix3 0 n f) = Cert.Spec.gate x2 x3 n.val f := by
  pointwise [val_main_v24, conv_at]
  rfl

theorem value_at (n : Fin 16400) (f : Fin 2816) : val_main_v25 (F := Ideal) x2 x3 (ix3 0 n f) = Cert.Spec.value x2 x3 n.val f := by
  pointwise [val_main_v25, conv_at]
  rfl

theorem sig_at (n : Fin 16400) (f : Fin 2816) :
    val_main_v26_2 (F := Ideal) x2 x3 (ix3 0 n f) = Cert.Spec.sig (Cert.Spec.gate x2 x3 n.val f) := by
  pointwise [val_main_v26_2, val_main_call0_v4, val_main_call0_v3, val_main_call0_v2, val_main_call0_v1, val_main_call0_v0,
    val_main_call0_cst, val_main_call0_cst_0, gate_at]
  rfl

theorem dvalue_at (n : Fin 16400) (f : Fin 2816) :
    val_main_v32 (F := Ideal) x0 x1 x2 x3 (ix3 0 n f) = Cert.Spec.dvalue x0 x1 x2 x3 n.val f := by
  pointwise [val_main_v32, val_main_v26_0, gate_at, sig_at, dz_at]
  unfold Cert.Spec.dvalue
  ac_rfl

variable (h0 : Cert.Spec.Finite x0) (h1 : Cert.Spec.Finite x1) (h2 : Cert.Spec.Finite x2) (h3 : Cert.Spec.Finite x3)
include h0 h1 h2 h3

/-- The gradient of the gate: here the two spellings of the logistic unit's derivative meet, which takes finite arguments. -/
theorem dgate_at (n : Fin 16400) (f : Fin 2816) :
    val_main_v34 (F := Ideal) x0 x1 x2 x3 (ix3 0 n f) = Cert.Spec.dgate x0 x1 x2 x3 n.val f := by
  pointwise [val_main_v34, val_main_call1_v2, val_main_call1_v1, val_main_call1_v0, val_main_v33, val_main_v26_1, val_main_call0_v7,
    val_main_call0_v6, val_main_call0_cst_1, gate_at, value_at, sig_at, dz_at]
  unfold Cert.Spec.dgate
  obtain ⟨x, hx⟩ := Cert.Spec.conv_real x2 x3 h2 h3 n.val (Cert.Spec.lo f)
  obtain ⟨v, hv⟩ := Cert.Spec.conv_real x2 x3 h2 h3 n.val (Cert.Spec.hi f)
  obtain ⟨d, hd⟩ := Cert.Spec.dz_real x0 x1 h0 h1 n.val f
  rw [show Cert.Spec.gate x2 x3 n.val f = x from hx, show Cert.Spec.value x2 x3 n.val f = v from hv, hd]
  exact (Cert.Spec.silu_grad x v d).symm

theorem dconv_at (n : Fin 16400) (c : Fin 5632) :
    val_main_v35 (F := Ideal) x0 x1 x2 x3 (ix3 0 n c) = Cert.Spec.dconv x0 x1 x2 x3 n.val c := by
  pointwise [val_main_v35, dvalue_at, dgate_at x0 x1 x2 x3 h0 h1 h2 h3]
  unfold Cert.Spec.dconv
  rw [if_pos n.isLt]

theorem da_at (n : Fin 16400) (c : Fin 5632) :
    val_main_v70 (F := Ideal) x0 x1 x2 x3 (ix2 n c) = Cert.Spec.da x0 x1 x2 x3 n.val c := by
  pointwise [val_main_v70, val_main_v69, val_main_v68, val_main_v66, val_main_v65, val_main_v60, val_main_v59, val_main_v55,
    val_main_v54, val_main_v49, val_main_v48, val_main_v44, val_main_v40, val_main_v39, val_main_v20, val_main_v19, val_main_v18,
    val_main_v14, val_main_v13, val_main_v12, val_main_v11, val_main_v7, val_main_v6, val_main_v5, val_main_cst_13,
    val_main_cst_12, val_main_cst_8, val_main_cst_4, dconv_at x0 x1 x2 x3 h0 h1 h2 h3]
  rw [Fin.sum_univ_one]
  unfold Cert.Spec.da
  have e1 : 2 + (n : ℕ) - 1 = n + 1 := by omega
  rw [e1, add_comm 2 (n : ℕ), mul_comm (x3 (ix2 0 c)), mul_comm (x3 (ix2 1 c)), mul_comm (x3 (ix2 2 c)), add_comm (_ * _ + _ * _),
    add_comm (Cert.Spec.dconv x0 x1 x2 x3 (n + 2) c * _), ← add_assoc]
  have f1 : (if h : 1 ≤ (n : ℕ) + 2 ∧ (n : ℕ) + 1 < 16400 then Cert.Spec.dconv x0 x1 x2 x3 (n + 1) c * x3 (ix2 1 c) else 0)
      = Cert.Spec.dconv x0 x1 x2 x3 (n + 1) c * x3 (ix2 1 c) := by
    by_cases h : (n : ℕ) + 1 < 16400
    · rw [dif_pos ⟨by omega, h⟩]
    · rw [dif_neg (by omega), Cert.Spec.dconv_end _ _ _ _ (by omega), zero_mul]
  have f2 : (if h : (n : ℕ) + 2 < 16400 then Cert.Spec.dconv x0 x1 x2 x3 (n + 2) c * x3 (ix2 0 c) else 0)
      = Cert.Spec.dconv x0 x1 x2 x3 (n + 2) c * x3 (ix2 0 c) := by
    by_cases h : (n : ℕ) + 2 < 16400
    · rw [dif_pos h]
    · rw [dif_neg (by omega), Cert.Spec.dconv_end _ _ _ _ (by omega), zero_mul]
  rw [f1, f2]

omit h0 h1 h2 h3

/-- A sum over two axes of extent one is the entry there. -/
theorem ones (v : S1x1x5632.Idx → EReal) (c : Fin 5632) :
    Ideal.hostReduceAdd reducesTo_S1x1x5632_S5632_d0_1 v 0 (ix1 c) = v (ix3 0 0 c) := by
  unfold Ideal.hostReduceAdd
  have e : (Finset.univ.filter fun i => reducesTo_S1x1x5632_S5632_d0_1.drop i = ix1 c) = {(ix3 0 0 c : S1x1x5632.Idx)} := by
    ext i
    idx_vars i
    have hd : reducesTo_S1x1x5632_S5632_d0_1.drop (ix3 i0 i1 i2) = ix1 i2 := by
      funext b
      fin_cases b
      rfl
    simp only [Finset.mem_filter, Finset.mem_univ, true_and, Finset.mem_singleton, hd]
    obtain rfl : i0 = 0 := Subsingleton.elim _ _
    obtain rfl : i1 = 0 := Subsingleton.elim _ _
    constructor
    · intro h
      have := congrFun h 0
      exact congrArg (fun x => ix3 0 0 x) this
    · intro h
      have := congrFun h 2
      exact congrArg (fun x => ix1 x) this
  rw [e, Finset.sum_singleton, zero_add]

include h0 h1 h2 h3

theorem dw_at (k : Fin 3) (c : Fin 5632) :
    val_main_v64 (F := Ideal) x0 x1 x2 x3 (ix2 k c) = Cert.Spec.dw x0 x1 x2 x3 k.val c := by
  pointwise [val_main_v64, val_main_v63, val_main_v62, val_main_v61, val_main_v58, val_main_v57, val_main_v56, val_main_v53,
    val_main_v52, val_main_v51, val_main_v50, val_main_v47, val_main_v46, val_main_v45, val_main_v43, val_main_v42, val_main_v41,
    val_main_v38, val_main_v37, val_main_v36, val_main_v17, val_main_v10, val_main_v4, padded, ones, val_main_cst_1,
    val_main_cst_2, val_main_cst_3, val_main_cst_5, val_main_cst_6, val_main_cst_7, val_main_cst_9, val_main_cst_10,
    val_main_cst_11, dconv_at x0 x1 x2 x3 h0 h1 h2 h3]
  unfold Cert.Spec.dw Cert.Spec.part
  fin_vals k with hk
  all_goals simp only [hk]
  · rw [dif_neg (by omega), dif_neg (by omega), dif_pos (by omega), zero_add, zero_add]
    exact Finset.sum_congr rfl fun x _ => by rw [mul_comm, add_zero]
  · rw [dif_neg (by omega), dif_pos (by omega), dif_neg (by omega), zero_add, add_zero]
    exact Finset.sum_congr rfl fun x _ => by rw [mul_comm, add_comm]
  · rw [dif_pos (by omega), dif_neg (by omega), dif_neg (by omega), add_zero, add_zero]
    exact Finset.sum_congr rfl fun x _ => by rw [mul_comm, add_comm]

end Cert.ReferenceIdeal.Read

end
-- ==== Proof.Shift.lean ====
/-
  Tile order: a column's rows one and two steps of time away. Row r of a tile holds stream r mod 8 at step r / 8, so the row a step
  earlier stands in the group of eight rows before, but for the first group, where it is the last group's row of the stream before.
-/
module

public import proofs.«01_k».proof.Proof.Spec

@[expose] public section

noncomputable section

namespace Cert.Shift

open Idealize.ShloMosaic
open Cert.Spec (time)

theorem time_lt {i : ℕ} (hi : i < 41) (r : Fin 400) : time i r.val < 16400 := by unfold time; omega

variable (i : ℕ) (G : ℕ → EReal) (v : Fin 400 → EReal)

section Back

-- `G (n + 2)` stands at time `n`; `p` and `q` are the last and the last but one group of the tile before
variable (p q : Fin 8 → EReal) (hv : ∀ r : Fin 400, v r = G (time i r.val + 2)) (hp : p 7 = G (i * 400 + 1)) (hq : q 7 = G (i * 400))
include hv hp

/-- One step earlier. -/
theorem back1 (r : Fin 400) :
    (if h : (r : ℕ) < 8 then if ((r : ℕ) + 8 - 1) % 8 = 7 then p ⟨((r : ℕ) + 8 - 1) % 8, by omega⟩ else v ⟨392 + ((r : ℕ) + 8 - 1) % 8, by omega⟩
      else v ⟨(r : ℕ) - 8, by omega⟩) = G (time i r.val + 1) := by
  by_cases h : (r : ℕ) < 8
  · rw [dif_pos h]
    by_cases h' : ((r : ℕ) + 8 - 1) % 8 = 7
    · rw [if_pos h', show (⟨((r : ℕ) + 8 - 1) % 8, by omega⟩ : Fin 8) = 7 from Fin.ext h', hp]
      exact congrArg G (by unfold time; omega)
    · rw [if_neg h', hv]
      exact congrArg G (by unfold time; dsimp only; omega)
  · rw [dif_neg h, hv]
    exact congrArg G (by unfold time; dsimp only; omega)

include hq

/-- Two steps earlier. -/
theorem back2 (r : Fin 400) :
    (if h : (r : ℕ) < 8 then if ((r : ℕ) + 8 - 1) % 8 = 7 then q ⟨((r : ℕ) + 8 - 1) % 8, by omega⟩ else v ⟨384 + ((r : ℕ) + 8 - 1) % 8, by omega⟩
      else if h : (r : ℕ) - 8 < 8 then if ((r : ℕ) - 8 + 8 - 1) % 8 = 7 then p ⟨((r : ℕ) - 8 + 8 - 1) % 8, by omega⟩
        else v ⟨392 + ((r : ℕ) - 8 + 8 - 1) % 8, by omega⟩
      else v ⟨(r : ℕ) - 8 - 8, by omega⟩) = G (time i r.val) := by
  by_cases h : (r : ℕ) < 8
  · rw [dif_pos h]
    by_cases h' : ((r : ℕ) + 8 - 1) % 8 = 7
    · rw [if_pos h', show (⟨((r : ℕ) + 8 - 1) % 8, by omega⟩ : Fin 8) = 7 from Fin.ext h', hq]
      exact congrArg G (by unfold time; omega)
    · rw [if_neg h', hv]
      exact congrArg G (by unfold time; dsimp only; omega)
  · rw [dif_neg h]
    by_cases g : (r : ℕ) - 8 < 8
    · rw [dif_pos g]
      by_cases h' : ((r : ℕ) - 8 + 8 - 1) % 8 = 7
      · rw [if_pos h', show (⟨((r : ℕ) - 8 + 8 - 1) % 8, by omega⟩ : Fin 8) = 7 from Fin.ext h', hp]
        exact congrArg G (by unfold time; omega)
      · rw [if_neg h', hv]
        exact congrArg G (by unfold time; dsimp only; omega)
    · rw [dif_neg g, hv]
      exact congrArg G (by unfold time; dsimp only; omega)

end Back

section Ahead

-- `G n` stands at time `n`; `p` and `q` are the first and the second group of the tile after
variable (p q : Fin 8 → EReal) (hv : ∀ r : Fin 400, v r = G (time i r.val)) (hp : p 0 = G ((i + 1) * 400)) (hq : q 0 = G ((i + 1) * 400 + 1))
include hv hp

/-- One step later. -/
theorem ahead1 (r : Fin 400) :
    (if h : (r : ℕ) < 392 then v ⟨8 + r, by omega⟩
      else if ((r : ℕ) - 392 + 8 - 7) % 8 = 0 then p ⟨((r : ℕ) - 392 + 8 - 7) % 8, by omega⟩ else v ⟨((r : ℕ) - 392 + 8 - 7) % 8, by omega⟩)
      = G (time i r.val + 1) := by
  by_cases h : (r : ℕ) < 392
  · rw [dif_pos h, hv]
    exact congrArg G (by unfold time; dsimp only; omega)
  · rw [dif_neg h]
    by_cases h' : ((r : ℕ) - 392 + 8 - 7) % 8 = 0
    · rw [if_pos h', show (⟨((r : ℕ) - 392 + 8 - 7) % 8, by omega⟩ : Fin 8) = 0 from Fin.ext h', hp]
      exact congrArg G (by unfold time; omega)
    · rw [if_neg h', hv]
      exact congrArg G (by unfold time; dsimp only; omega)

include hq

/-- Two steps later. -/
theorem ahead2 (r : Fin 400) :
    (if h : (r : ℕ) < 384 then v ⟨16 + r, by omega⟩
      else if h : (r : ℕ) - 384 < 8 then if ((r : ℕ) - 384 + 8 - 7) % 8 = 0 then p ⟨((r : ℕ) - 384 + 8 - 7) % 8, by omega⟩
        else v ⟨((r : ℕ) - 384 + 8 - 7) % 8, by omega⟩
      else if ((r : ℕ) - 384 - 8 + 8 - 7) % 8 = 0 then q ⟨((r : ℕ) - 384 - 8 + 8 - 7) % 8, by omega⟩
        else v ⟨8 + ((r : ℕ) - 384 - 8 + 8 - 7) % 8, by omega⟩) = G (time i r.val + 2) := by
  by_cases h : (r : ℕ) < 384
  · rw [dif_pos h, hv]
    exact congrArg G (by unfold time; dsimp only; omega)
  · rw [dif_neg h]
    by_cases g : (r : ℕ) - 384 < 8
    · rw [dif_pos g]
      by_cases h' : ((r : ℕ) - 384 + 8 - 7) % 8 = 0
      · rw [if_pos h', show (⟨((r : ℕ) - 384 + 8 - 7) % 8, by omega⟩ : Fin 8) = 0 from Fin.ext h', hp]
        exact congrArg G (by unfold time; omega)
      · rw [if_neg h', hv]
        exact congrArg G (by unfold time; dsimp only; omega)
    · rw [dif_neg g]
      by_cases h' : ((r : ℕ) - 384 - 8 + 8 - 7) % 8 = 0
      · rw [if_pos h', show (⟨((r : ℕ) - 384 - 8 + 8 - 7) % 8, by omega⟩ : Fin 8) = 0 from Fin.ext h', hq]
        exact congrArg G (by unfold time; omega)
      · rw [if_neg h', hv]
        exact congrArg G (by unfold time; dsimp only; omega)

end Ahead

end Cert.Shift

end
-- ==== Proof.Tile.lean ====
/-
  One tile: what the body computes from its blocks, read at an index, is the gradient of Spec at the row's time.
-/
module

public import proofs.«01_k».proof.Proof.Shift
public import proofs.«01_k».proof.Proof.Gen.KernelIdeal.Skeleton
public import Idealize.ShloMosaic.Lib.Pipeline.ValueKit
public import Idealize.ShloMosaic.Lib.WordCmp

@[expose] public section

set_option maxRecDepth 16384

noncomputable section

namespace Cert.KernelIdeal.Tile

open Cert.KernelIdeal Cert.KernelIdeal.Gen
open Idealize.ShloMosaic Idealize.ShloMosaic.TcCoe Idealize.SL.Sem

open Cert.Spec (time)

section Shifts

-- a column, as a function of time two steps early: `G (n + 2)` stands at time `n`
variable (i : ℕ) (f : Fin 2816) (G : ℕ → EReal)

/-- A row of the tile one step earlier: the row of the group before, in the first group the last group's row above. -/
theorem back1 (v16 : FVec Ideal S8x2816 .f32) (v22 : FVec Ideal S400x2816 .f32) (h16 : v16 (ix2 7 f) = G (i * 400 + 1))
    (h22 : ∀ r : Fin 400, v22 (ix2 r f) = G (time i r.val + 2)) (r : Fin 400) :
    k0_pay12 v16 v22 (ix2 r f) = G (time i r.val + 1) := by
  pointwise [k0_pay12]
  simp (disch := word_cmp_side) only [hlo_ix]
  exact Shift.back1 i G (fun r => v22 (ix2 r f)) (fun q => v16 (ix2 q f)) h22 h16 r

/-- The convolution's transpose: the rows one and two steps later come from the later groups, for the last groups from the
    first groups one row below, and from the later tile for the last row. -/
theorem ahead (D : ℕ → EReal) (v111 : FVec Ideal S400x2816 .f32) (v114 v115 : FVec Ideal S8x2816 .f32) (w0 w1 w2 : FVec Ideal S1x2816 .f32)
    (h111 : ∀ r : Fin 400, v111 (ix2 r f) = D (time i r.val)) (h114 : v114 (ix2 0 f) = D ((i + 1) * 400))
    (h115 : v115 (ix2 0 f) = D ((i + 1) * 400 + 1)) (r : Fin 400) :
    k0_pay24 v111 v114 v115 w0 w1 w2 (ix2 r f)
      = w0 (ix2 0 f) * D (time i r.val + 2) + w1 (ix2 0 f) * D (time i r.val + 1) + w2 (ix2 0 f) * D (time i r.val) := by
  pointwise [k0_pay24]
  simp (disch := word_cmp_side) only [hlo_ix]
  refine congrArg₂ (· + ·) (congrArg₂ (· + ·) (congrArg (w0 (ix2 0 f) * ·) ?_) (congrArg (w1 (ix2 0 f) * ·) ?_))
    (congrArg (w2 (ix2 0 f) * ·) (h111 r))
  · exact Shift.ahead2 i D (fun r => v111 (ix2 r f)) (fun q => v114 (ix2 q f)) (fun q => v115 (ix2 q f)) h111 h114 h115 r
  · exact Shift.ahead1 i D (fun r => v111 (ix2 r f)) (fun q => v114 (ix2 q f)) h111 h114 r

end Shifts

section Conv

variable (ic : grid0.Coords)

/-- The word that says whether this is the last point, whose tile has nothing before it. -/
abbrev oldest : BitVec 1 := Scalar.cmpi .eq (BitVec.ofNat 32 (ic 0).val) 40#32

variable (i : ℕ) (f : Fin 2816) (G : ℕ → EReal) (v13 v17 : FVec Ideal S8x2816 .f32) (v21 : FVec Ideal S400x2816 .f32)
  (h13 : (if (ic 0).val = 40 then 0 else v13 (ix2 7 f)) = G (i * 400 + 1))
  (h17 : (if (ic 0).val = 40 then 0 else v17 (ix2 7 f)) = G (i * 400))
  (h21 : ∀ r : Fin 400, v21 (ix2 r f) = G (time i r.val + 2))
include h13 h21

theorem gate1 (r : Fin 400) : k0_pay12 (k0_pay7 (F := Ideal) ic v13) (k0_pay8 (F := Ideal) v21) (ix2 r f) = G (time i r.val + 1) := by
  refine back1 i f G _ _ ?_ ?_ r
  · pointwise [k0_pay7]
    simp (disch := word_cmp_side) only [hlo_ix]
    exact h13
  · pointwise [k0_pay8]
    exact h21

theorem value1 (r : Fin 400) :
    k0_pay20 (k0_pay14 (F := Ideal) (oldest ic) v13) (k0_pay15 (F := Ideal) v21) (ix2 r f) = G (time i r.val + 1) :=
  gate1 ic i f G v13 v21 h13 h21 r

include h17

theorem gate2 (r : Fin 400) :
    k0_pay11 (k0_pay8 (F := Ideal) v21) (k0_pay9 (F := Ideal) ic v17 v21) (k0_pay10 (F := Ideal) ic v13 v21) 1#32 (ix2 r f)
      = G (time i r.val) := by
  pointwise [k0_pay11, k0_pay10, k0_pay9, k0_pay8, k0_pay7]
  simp (disch := word_cmp_side) only [hlo_ix]
  exact Shift.back2 i G (fun r => v21 (ix2 r f)) (fun q => if (ic 0).val = 40 then 0 else v13 (ix2 q f))
    (fun q => if (ic 0).val = 40 then 0 else v17 (ix2 q f)) h21 h13 h17 r

theorem value2 (r : Fin 400) :
    k0_pay19 (k0_pay14 (F := Ideal) (oldest ic) v13) (k0_pay15 (F := Ideal) v21) (k0_pay16 (F := Ideal) (oldest ic) v17 v21)
      (k0_pay17 (F := Ideal) v21) k0_pay18 (ix2 r f) = G (time i r.val) :=
  gate2 ic i f G v13 v17 v21 h13 h17 h21 r

theorem gate0 (w0 w1 w2 : FVec Ideal S1x2816 .f32) (r : Fin 400) :
    k0_pay13 (k0_pay7 (F := Ideal) ic v13) (k0_pay8 (F := Ideal) v21) (k0_pay9 (F := Ideal) ic v17 v21) (k0_pay10 (F := Ideal) ic v13 v21) 1#32
        w0 w1 w2 (ix2 r f)
      = w0 (ix2 0 f) * G (time i r.val) + w1 (ix2 0 f) * G (time i r.val + 1) + w2 (ix2 0 f) * G (time i r.val + 2) := by
  pointwise [k0_pay13, gate1 ic i f G v13 v21 h13 h21 r, gate2 ic i f G v13 v17 v21 h13 h17 h21 r]
  pointwise [k0_pay8]
  rw [h21]

end Conv

/-- The product's entry. -/
theorem dz_at (v4 : FVec Ideal S400x1024 .f32) (v10 : FVec Ideal S1024x2816 .bf16) (r : Fin 400) (f : Fin 2816) :
    k0_pay6 (k0_pay5 (F := Ideal) v4) v10 (ix2 r f) = ∑ d : Fin 1024, v4 (ix2 r d) * v10 (ix2 d f) := by
  pointwise [k0_pay6, k0_pay5]

theorem dgate_at (v12 v54 : FVec Ideal S400x2816 .f32) (v58 : FVec Ideal S8x2816 .f32) (v64 : FVec Ideal S400x2816 .f32)
    (v70 v71 : FVec Ideal S8x2816 .f32) (v73 : IVec S8x2816 1) (w0 w1 w2 : FVec Ideal S1x2816 .f32) (r : Fin 400) (f : Fin 2816) :
    k0_pay22 v12 v54 v58 v64 v70 v71 v73 w0 w1 w2 (ix2 r f)
      = v12 (ix2 r f) * (w0 (ix2 0 f) * k0_pay19 v58 v64 v70 v71 v73 (ix2 r f) + w1 (ix2 0 f) * k0_pay20 v58 v64 (ix2 r f)
          + w2 (ix2 0 f) * v64 (ix2 r f)) * Cert.Spec.sig (v54 (ix2 r f))
        * (1 + v54 (ix2 r f) * (1 - Cert.Spec.sig (v54 (ix2 r f)))) := by
  pointwise [k0_pay22, k0_pay21]
  unfold Cert.Spec.sig
  simp only [sub_eq_add_neg, zero_add]

theorem dvalue_at (v12 v54 : FVec Ideal S400x2816 .f32) (r : Fin 400) (f : Fin 2816) :
    k0_pay23 v12 v54 (ix2 r f) = v12 (ix2 r f) * v54 (ix2 r f) * Cert.Spec.sig (v54 (ix2 r f)) := by
  pointwise [k0_pay23, k0_pay21]
  unfold Cert.Spec.sig
  simp only [sub_eq_add_neg, zero_add]

/-- What the loads of one half (`cl` its columns) of tile `i`'s blocks read: the rows before the tile, the tile's rows, the taps. -/
structure Loads (a : Cert.Spec.ScA.Idx → EReal) (w : Cert.Spec.ScK.Idx → EReal) (ic : grid0.Coords) (i : ℕ) (cl : Fin 2816 → Fin 5632)
    (v13 v17 : FVec Ideal S8x2816 .f32) (v21 : FVec Ideal S400x2816 .f32) (w0 w1 w2 : FVec Ideal S1x2816 .f32) : Prop where
  before1 : ∀ f, (if (ic 0).val = 40 then 0 else v13 (ix2 7 f)) = Cert.Spec.lag a (i * 400 + 1) (cl f)
  before2 : ∀ f, (if (ic 0).val = 40 then 0 else v17 (ix2 7 f)) = Cert.Spec.lag a (i * 400) (cl f)
  rows : ∀ (f) (r : Fin 400), v21 (ix2 r f) = Cert.Spec.lag a (time i r.val + 2) (cl f)
  tap0 : ∀ f, w0 (ix2 0 f) = w (ix2 0 (cl f))
  tap1 : ∀ f, w1 (ix2 0 f) = w (ix2 1 (cl f))
  tap2 : ∀ f, w2 (ix2 0 f) = w (ix2 2 (cl f))

section Grad

open Cert.Spec (lo hi)

variable {dh : Cert.Spec.ScH.Idx → EReal} {W : Cert.Spec.ScW.Idx → EReal} {a : Cert.Spec.ScA.Idx → EReal} {w : Cert.Spec.ScK.Idx → EReal}
  {ic : grid0.Coords} {i : ℕ} {v13 v17 u13 u17 : FVec Ideal S8x2816 .f32} {v21 u21 v12 : FVec Ideal S400x2816 .f32}
  {w0 w1 w2 z0 z1 z2 : FVec Ideal S1x2816 .f32}

theorem gate (L : Loads a w ic i lo v13 v17 v21 w0 w1 w2) (r : Fin 400) (f : Fin 2816) :
    k0_pay13 (k0_pay7 (F := Ideal) ic v13) (k0_pay8 (F := Ideal) v21) (k0_pay9 (F := Ideal) ic v17 v21) (k0_pay10 (F := Ideal) ic v13 v21) 1#32
        w0 w1 w2 (ix2 r f) = Cert.Spec.gate a w (time i r.val) f := by
  rw [gate0 ic i f (fun n => Cert.Spec.lag a n (lo f)) v13 v17 v21 (L.before1 f) (L.before2 f) (L.rows f) w0 w1 w2 r, L.tap0, L.tap1, L.tap2]
  rfl

theorem dgate (L : Loads a w ic i lo v13 v17 v21 w0 w1 w2) (L' : Loads a w ic i hi u13 u17 u21 z0 z1 z2) (hi : i < 41)
    (hz : ∀ (r : Fin 400) f, v12 (ix2 r f) = Cert.Spec.dz dh W (time i r.val) f) (f : Fin 2816) (r : Fin 400) :
    k0_pay22 v12
        (k0_pay13 (k0_pay7 (F := Ideal) ic v13) (k0_pay8 (F := Ideal) v21) (k0_pay9 (F := Ideal) ic v17 v21) (k0_pay10 (F := Ideal) ic v13 v21)
          1#32 w0 w1 w2)
        (k0_pay14 (F := Ideal) (oldest ic) u13) (k0_pay15 (F := Ideal) u21) (k0_pay16 (F := Ideal) (oldest ic) u17 u21)
        (k0_pay17 (F := Ideal) u21) k0_pay18 z0 z1 z2 (ix2 r f)
      = Cert.Spec.dconv dh W a w (time i r.val) (lo f) := by
  rw [dgate_at, gate L, hz, value1 ic i f (fun n => Cert.Spec.lag a n (Cert.Spec.hi f)) u13 u21 (L'.before1 f) (L'.rows f),
    value2 ic i f (fun n => Cert.Spec.lag a n (Cert.Spec.hi f)) u13 u17 u21 (L'.before1 f) (L'.before2 f) (L'.rows f), L'.tap0, L'.tap1, L'.tap2,
    Cert.Spec.dconv_lo _ _ _ _ (Shift.time_lt hi r)]
  pointwise [k0_pay15]
  rw [L'.rows]
  rfl

theorem dvalue (L : Loads a w ic i lo v13 v17 v21 w0 w1 w2) (hi : i < 41)
    (hz : ∀ (r : Fin 400) f, v12 (ix2 r f) = Cert.Spec.dz dh W (time i r.val) f) (f : Fin 2816) (r : Fin 400) :
    k0_pay23 v12
        (k0_pay13 (k0_pay7 (F := Ideal) ic v13) (k0_pay8 (F := Ideal) v21) (k0_pay9 (F := Ideal) ic v17 v21) (k0_pay10 (F := Ideal) ic v13 v21)
          1#32 w0 w1 w2) (ix2 r f)
      = Cert.Spec.dconv dh W a w (time i r.val) (Cert.Spec.hi f) := by
  rw [dvalue_at, gate L, hz, Cert.Spec.dconv_hi _ _ _ _ (Shift.time_lt hi r)]
  rfl

end Grad

section Out

variable (D : ℕ → EReal) (i : ℕ) (f : Fin 2816) (v111 : FVec Ideal S400x2816 .f32)
  (h111 : ∀ r : Fin 400, v111 (ix2 r f) = D (time i r.val))
include h111

theorem ahead' (v114 v115 : FVec Ideal S8x2816 .f32) (w0 w1 w2 : FVec Ideal S1x2816 .f32) (h114 : v114 (ix2 0 f) = D ((i + 1) * 400))
    (h115 : v115 (ix2 0 f) = D ((i + 1) * 400 + 1)) (r : Fin 400) :
    k0_pay31 v111 v114 v115 w0 w1 w2 (iota .tc S8x2816 32 [0] iota_S8x2816_d0_w32) (k0_pay29 v111 v114) (k0_pay30 v111) 0#32 (ix2 r f)
      = w0 (ix2 0 f) * D (time i r.val + 2) + w1 (ix2 0 f) * D (time i r.val + 1) + w2 (ix2 0 f) * D (time i r.val) :=
  ahead i f D v111 v114 v115 w0 w1 w2 h111 h114 h115 r

theorem carry_lo (q : Fin 16) : k0_pay28 v111 (ix2 q f) = D (time i q.val) := by
  pointwise [k0_pay28]
  exact h111 _
theorem carry_hi (q : Fin 16) : k0_pay2 v111 (ix2 q f) = D (time i q.val) := by
  pointwise [k0_pay2]
  exact h111 _

end Out

section Da

open Cert.Spec (lo hi)

variable {dh : Cert.Spec.ScH.Idx → EReal} {W : Cert.Spec.ScW.Idx → EReal} {a : Cert.Spec.ScA.Idx → EReal} {w : Cert.Spec.ScK.Idx → EReal}
  {i : ℕ} {v111 : FVec Ideal S400x2816 .f32} {v114 v115 : FVec Ideal S8x2816 .f32} {w0 w1 w2 : FVec Ideal S1x2816 .f32} {cl : Fin 2816 → Fin 5632}
  (h111 : ∀ f (r : Fin 400), v111 (ix2 r f) = Cert.Spec.dconv dh W a w (time i r.val) (cl f))
  (h114 : ∀ f, v114 (ix2 0 f) = Cert.Spec.dconv dh W a w ((i + 1) * 400) (cl f))
  (h115 : ∀ f, v115 (ix2 0 f) = Cert.Spec.dconv dh W a w ((i + 1) * 400 + 1) (cl f))
  (hw : (∀ f, w0 (ix2 0 f) = w (ix2 0 (cl f))) ∧ (∀ f, w1 (ix2 0 f) = w (ix2 1 (cl f))) ∧ ∀ f, w2 (ix2 0 f) = w (ix2 2 (cl f)))
include h111 h114 h115 hw

theorem da_lo (r : Fin 400) (f : Fin 2816) :
    k0_pay24 v111 v114 v115 w0 w1 w2 (ix2 r f) = Cert.Spec.da dh W a w (time i r.val) (cl f) := by
  rw [ahead i f (fun n => Cert.Spec.dconv dh W a w n (cl f)) v111 v114 v115 w0 w1 w2 (h111 f) (h114 f) (h115 f), hw.1, hw.2.1, hw.2.2]
  rfl

theorem da_hi (r : Fin 400) (f : Fin 2816) :
    k0_pay31 v111 v114 v115 w0 w1 w2 (iota .tc S8x2816 32 [0] iota_S8x2816_d0_w32) (k0_pay29 v111 v114) (k0_pay30 v111) 0#32 (ix2 r f)
      = Cert.Spec.da dh W a w (time i r.val) (cl f) :=
  da_lo h111 h114 h115 hw r f

end Da

section Taps

variable {dh : Cert.Spec.ScH.Idx → EReal} {W : Cert.Spec.ScW.Idx → EReal} {a : Cert.Spec.ScA.Idx → EReal} {w : Cert.Spec.ScK.Idx → EReal}
  {i k : ℕ} {cl : Fin 2816 → Fin 5632} {f : Fin 2816} {v111 v35 : FVec Ideal S400x2816 .f32} {acc : FVec Ideal S1x2816 .f32} {A : EReal}
  (h111 : ∀ r : Fin 400, v111 (ix2 r f) = Cert.Spec.dconv dh W a w (time i r.val) (cl f))
  (h35 : ∀ r : Fin 400, v35 (ix2 r f) = Cert.Spec.lag a (time i r.val + k) (cl f)) (hA : acc (ix2 0 f) = A)
include h111 h35 hA

theorem tap_lo0 : k0_pay25 v35 v111 acc (ix2 0 f) = A + ∑ r : Fin 400, Cert.Spec.part dh W a w k (cl f) (time i r.val) := by
  pointwise [k0_pay25]
  rw [hA]
  refine congrArg (A + ·) (Finset.sum_congr rfl fun r _ => ?_)
  rw [h111, h35]
  rfl
theorem tap_lo1 : k0_pay26 v35 v111 acc (ix2 0 f) = A + ∑ r : Fin 400, Cert.Spec.part dh W a w k (cl f) (time i r.val) :=
  tap_lo0 h111 h35 hA
theorem tap_lo2 : k0_pay27 v35 v111 acc (ix2 0 f) = A + ∑ r : Fin 400, Cert.Spec.part dh W a w k (cl f) (time i r.val) :=
  tap_lo0 h111 h35 hA
theorem tap_hi0 : k0_pay32 v35 v111 acc (ix2 0 f) = A + ∑ r : Fin 400, Cert.Spec.part dh W a w k (cl f) (time i r.val) :=
  tap_lo0 h111 h35 hA
theorem tap_hi1 : k0_pay33 v35 v111 acc (ix2 0 f) = A + ∑ r : Fin 400, Cert.Spec.part dh W a w k (cl f) (time i r.val) :=
  tap_lo0 h111 h35 hA
theorem tap_hi2 : k0_pay1 v35 v111 (k0_pay34 (F := Ideal) acc) (ix2 0 f) = A + ∑ r : Fin 400, Cert.Spec.part dh W a w k (cl f) (time i r.val) :=
  tap_lo0 h111 h35 hA

end Taps

theorem Loads.taps {a : Cert.Spec.ScA.Idx → EReal} {w : Cert.Spec.ScK.Idx → EReal} {ic : grid0.Coords} {i : ℕ} {cl : Fin 2816 → Fin 5632}
    {v13 v17 : FVec Ideal S8x2816 .f32} {v21 : FVec Ideal S400x2816 .f32} {w0 w1 w2 : FVec Ideal S1x2816 .f32}
    (L : Loads a w ic i cl v13 v17 v21 w0 w1 w2) :
    (∀ f, w0 (ix2 0 f) = w (ix2 0 (cl f))) ∧ (∀ f, w1 (ix2 0 f) = w (ix2 1 (cl f))) ∧ ∀ f, w2 (ix2 0 f) = w (ix2 2 (cl f)) :=
  ⟨L.tap0, L.tap1, L.tap2⟩

end Cert.KernelIdeal.Tile

end
-- ==== Proof.Val.lean ====
/-
  The kernel's blocks and results at an index, on time rows.
-/
module

public import proofs.«01_k».proof.Proof.Tile
public import proofs.«01_k».proof.Proof.Body
public import Idealize.ShloMosaic.Lib.Claim
public import Idealize.ShloMosaic.Lib.Pipeline.ReadBack

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Cert.Spec (time)

/-- A list of stores read where the earlier ones already hold the index: the later ones do not matter. -/
theorem canon_append {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append L' L y ?_
      obtain ⟨q, hq, hyq⟩ := hc
      rcases List.mem_cons.mp hq with rfl | hq'
      · exact absurd hyq hm
      · exact ⟨q, hq', hyq⟩

variable (m : (ℓ : Loc nD τ sig) → Buf (Elt Ideal) ℓ) (c : Dev nD)

/-- The four arguments. -/
abbrev X0 : FVec Ideal S16400x1024 .f32 := m ((c.tc : Thread nD τ).loc main_arg0)
abbrev X1 : FVec Ideal S2816x1024 .f32 := m ((c.tc : Thread nD τ).loc main_arg1)
abbrev X2 : FVec Ideal S16400x5632 .f32 := m ((c.tc : Thread nD τ).loc main_arg2)
abbrev X3 : FVec Ideal S3x5632 .f32 := m ((c.tc : Thread nD τ).loc main_arg3)

theorem entry4 (R : Fin 16400) (d : Fin 1024) :
    V m c main_v4 (ix2 R d) = X0 m c (ix2 ⟨R.val / 400 * 400 + R.val % 8 * 50 + R.val / 8 % 50, by omega⟩ d) := by
  unfold V V0
  simp only [List.flatten_cons, List.flatten_nil, List.append_nil]
  unfold hostOps0
  after_results
  pointwise

theorem entry7 (R : Fin 16400) (d : Fin 5632) :
    V m c main_v7 (ix2 R d) = X2 m c (ix2 ⟨R.val / 400 * 400 + R.val % 8 * 50 + R.val / 8 % 50, by omega⟩ d) := by
  unfold V V0
  simp only [List.flatten_cons, List.flatten_nil, List.append_nil]
  unfold hostOps0
  after_results
  pointwise

theorem entry1 (d : Fin 1024) (f : Fin 2816) : V m c main_v1 (ix2 d f) = X1 m c (ix2 f d) := by
  unfold V V0
  simp only [List.flatten_cons, List.flatten_nil, List.append_nil]
  unfold hostOps0
  after_results
  pointwise

theorem idx_val : ∀ t : Fin cfg0.N, win0_0.index t = ![40 - t.val, 0] ∧ win0_1.index t = ![0, 0]
    ∧ win0_2.index t = ![40 - t.val, 0] ∧ win0_3.index t = ![(40 - t.val) * 50 - 1, 0] ∧ win0_4.index t = ![(40 - t.val) * 50 - 2, 0]
    ∧ win0_5.index t = ![0, 0] ∧ win0_6.index t = ![40 - t.val, 0] ∧ win0_7.index t = ![40 - t.val, 0] ∧ win0_8.index t = ![0, 0] :=
  (by decide +kernel : ∀ t : Fin grid0.N, _)

theorem coords_val : ∀ t : Fin cfg0.N, (grid0.coords t 0).val = t.val := (by decide +kernel : ∀ t : Fin grid0.N, _)

theorem blk0 (t : Fin cfg0.N) (r : Fin 400) (d : Fin 1024) :
    iblk m c 0 t (ix2 r d) = X0 m c (ix2 ⟨time (40 - t.val) r.val, Shift.time_lt (by omega) r⟩ d) := by
  have e : iblk m c 0 t (ix2 r d) = V m c main_v4 (ix2 ⟨(40 - t.val) * 400 + r.val, by omega⟩ d) := by blk_ext [iblk, idx_val t]
  rw [e, entry4]
  exact congrArg (X0 m c) (congrArg (fun x => ix2 x d) (Fin.ext (by unfold time; dsimp only; omega)))

theorem blk1 (t : Fin cfg0.N) (d : Fin 1024) (f : Fin 2816) : iblk m c 1 t (ix2 d f) = X1 m c (ix2 f d) := by
  have e : iblk m c 1 t (ix2 d f) = V m c main_v1 (ix2 d f) := by blk_ext [iblk, idx_val t]
  rw [e, entry1]

theorem blk2 (t : Fin cfg0.N) (r : Fin 400) (d : Fin 5632) :
    iblk m c 2 t (ix2 r d) = Cert.Spec.lag (X2 m c) (time (40 - t.val) r.val + 2) d := by
  have e : iblk m c 2 t (ix2 r d) = V m c main_v7 (ix2 ⟨(40 - t.val) * 400 + r.val, by omega⟩ d) := by blk_ext [iblk, idx_val t]
  rw [e, entry7, Cert.Spec.lag_row _ (Shift.time_lt (by omega) r)]
  exact congrArg (X2 m c) (congrArg (fun x => ix2 x d) (Fin.ext (by unfold time; dsimp only; omega)))

theorem blk3 (t : Fin cfg0.N) (d : Fin 5632) :
    (if (grid0.coords t 0).val = 40 then (0 : EReal) else iblk m c 3 t (ix2 7 d)) = Cert.Spec.lag (X2 m c) ((40 - t.val) * 400 + 1) d := by
  have ht : t.val < 41 := lt_of_lt_of_eq t.isLt N_0
  rw [coords_val t]
  by_cases h : t.val = 40
  · rw [if_pos h, Cert.Spec.lag_zero _ (by omega)]
  · rw [if_neg h]
    have e : iblk m c 3 t (ix2 7 d) = V m c main_v7 (ix2 ⟨((40 - t.val) * 50 - 1) * 8 + 7, by omega⟩ d) := by blk_ext [iblk, idx_val t]
    rw [e, entry7, show (40 - t.val) * 400 + 1 = (40 - t.val) * 400 - 1 + 2 by omega, Cert.Spec.lag_row _ (by omega)]
    exact congrArg (X2 m c) (congrArg (fun x => ix2 x d) (Fin.ext (by dsimp only; omega)))

theorem blk4 (t : Fin cfg0.N) (d : Fin 5632) :
    (if (grid0.coords t 0).val = 40 then (0 : EReal) else iblk m c 4 t (ix2 7 d)) = Cert.Spec.lag (X2 m c) ((40 - t.val) * 400) d := by
  have ht : t.val < 41 := lt_of_lt_of_eq t.isLt N_0
  rw [coords_val t]
  by_cases h : t.val = 40
  · rw [if_pos h, Cert.Spec.lag_zero _ (by omega)]
  · rw [if_neg h]
    have e : iblk m c 4 t (ix2 7 d) = V m c main_v7 (ix2 ⟨((40 - t.val) * 50 - 2) * 8 + 7, by omega⟩ d) := by blk_ext [iblk, idx_val t]
    rw [e, entry7, show (40 - t.val) * 400 = (40 - t.val) * 400 - 2 + 2 by omega, Cert.Spec.lag_row _ (by omega)]
    exact congrArg (X2 m c) (congrArg (fun x => ix2 x d) (Fin.ext (by dsimp only; omega)))

theorem blk5 (t : Fin cfg0.N) (k : Fin 3) (d : Fin 5632) : iblk m c 5 t (ix2 k d) = X3 m c (ix2 k d) := by
  have e : iblk m c 5 t (ix2 k d) = V m c main_arg3 (ix2 k d) := by blk_ext [iblk, idx_val t]
  rw [e, V_main_arg3]

/-- The tile's product. -/
theorem dz_blk (t : Fin cfg0.N) (r : Fin 400) (f : Fin 2816) :
    k0_pay6 (k0_pay5 (F := Ideal) (iblk m c 0 t)) (iblk m c 1 t) (ix2 r f) = Cert.Spec.dz (X0 m c) (X1 m c) (time (40 - t.val) r.val) f := by
  rw [Tile.dz_at]
  unfold Cert.Spec.dz
  rw [dif_pos (Shift.time_lt (by omega) r)]
  exact Finset.sum_congr rfl fun d _ => by rw [blk0, blk1]

/-- The later rows' convolution cotangent that point `t` finds in the carried rows. -/
def Carried (t : Fin cfg0.N) (x : FVec Ideal S16x5632 .f32) : Prop :=
  ∀ (q : Fin 16) (d : Fin 5632), x (ix2 q d) = Cert.Spec.dconv (X0 m c) (X1 m c) (X2 m c) (X3 m c) (time (41 - t.val) q.val) d

theorem loads_lo (t : Fin cfg0.N) :
    Tile.Loads (X2 m c) (X3 m c) (grid0.coords t) (40 - t.val) Cert.Spec.lo
      (View.ld (iblk m c 3 t) (Rect.unit ![0, 0] ![8, 2816] inb_S8x5632_S8x2816_0_0))
      (View.ld (iblk m c 4 t) (Rect.unit ![0, 0] ![8, 2816] inb_S8x5632_S8x2816_0_0))
      (View.ld (iblk m c 2 t) (Rect.unit ![0, 0] ![400, 2816] inb_S400x5632_S400x2816_0_0))
      (View.ld (iblk m c 5 t) (Rect.unit ![0, 0] ![1, 2816] inb_S3x5632_S1x2816_0_0))
      (View.ld (iblk m c 5 t) (Rect.unit ![1, 0] ![1, 2816] inb_S3x5632_S1x2816_1_0))
      (View.ld (iblk m c 5 t) (Rect.unit ![2, 0] ![1, 2816] inb_S3x5632_S1x2816_2_0)) where
  before1 f := by
    rw [← blk3 m c t]
    pointwise
    rfl
  before2 f := by
    rw [← blk4 m c t]
    pointwise
    rfl
  rows f r := by
    rw [← blk2 m c t]
    pointwise
    rfl
  tap0 f := by
    rw [← blk5 m c t]
    pointwise
    rfl
  tap1 f := by
    rw [← blk5 m c t]
    pointwise
    rfl
  tap2 f := by
    rw [← blk5 m c t]
    pointwise
    rfl

theorem loads_hi (t : Fin cfg0.N) :
    Tile.Loads (X2 m c) (X3 m c) (grid0.coords t) (40 - t.val) Cert.Spec.hi
      (View.ld (iblk m c 3 t) (Rect.unit ![0, 2816] ![8, 2816] inb_S8x5632_S8x2816_0_2816))
      (View.ld (iblk m c 4 t) (Rect.unit ![0, 2816] ![8, 2816] inb_S8x5632_S8x2816_0_2816))
      (View.ld (iblk m c 2 t) (Rect.unit ![0, 2816] ![400, 2816] inb_S400x5632_S400x2816_0_2816))
      (View.ld (iblk m c 5 t) (Rect.unit ![0, 2816] ![1, 2816] inb_S3x5632_S1x2816_0_2816))
      (View.ld (iblk m c 5 t) (Rect.unit ![1, 2816] ![1, 2816] inb_S3x5632_S1x2816_1_2816))
      (View.ld (iblk m c 5 t) (Rect.unit ![2, 2816] ![1, 2816] inb_S3x5632_S1x2816_2_2816)) where
  before1 f := by
    rw [← blk3 m c t]
    pointwise
    rfl
  before2 f := by
    rw [← blk4 m c t]
    pointwise
    rfl
  rows f r := by
    rw [← blk2 m c t]
    pointwise
    rfl
  tap0 f := by
    rw [← blk5 m c t]
    pointwise
    rfl
  tap1 f := by
    rw [← blk5 m c t]
    pointwise
    rfl
  tap2 f := by
    rw [← blk5 m c t]
    pointwise
    rfl

set_option maxHeartbeats 1000000 in
theorem next_da (t : Fin cfg0.N) (h : ¬cond0_0 (grid0.coords t)) (s : St Ideal) (hs : Carried m c t s.carry) (r : Fin 400) (d : Fin 5632) :
    (next m c t h s).da (ix2 r d) = Cert.Spec.da (X0 m c) (X1 m c) (X2 m c) (X3 m c) (time (40 - t.val) r.val) d := by
  have ht : t.val < 41 := lt_of_lt_of_eq t.isLt N_0
  unfold next St.of runNext
  dsimp only
  frame_out
  rw [read_unread_whole]
  canon_tiles x hx
  all_goals
    idx_vars x
    obtain rfl : r = x0 := Fin.ext hx0
  case piece0 =>
    obtain rfl : d = Cert.Spec.hi x1 := Fin.ext hx1
    refine Tile.da_hi (Tile.dvalue (loads_lo m c t) (by omega) (dz_blk m c t)) (fun f => ?_) (fun f => ?_) (loads_hi m c t).taps r x1
    · rw [show (40 - t.val + 1) * 400 = time (41 - t.val) 0 by unfold time; omega]
      refine Eq.trans ?_ (hs 0 _)
      pointwise
      rfl
    · rw [show (40 - t.val + 1) * 400 + 1 = time (41 - t.val) 8 by unfold time; omega]
      refine Eq.trans ?_ (hs 8 _)
      pointwise
      rfl
  case piece1 =>
    obtain rfl : d = Cert.Spec.lo x1 := Fin.ext hx1
    refine Tile.da_lo (Tile.dgate (loads_lo m c t) (loads_hi m c t) (by omega) (dz_blk m c t)) (fun f => ?_) (fun f => ?_) (loads_lo m c t).taps r x1
    · rw [show (40 - t.val + 1) * 400 = time (41 - t.val) 0 by unfold time; omega]
      refine Eq.trans ?_ (hs 0 _)
      pointwise
      rfl
    · rw [show (40 - t.val + 1) * 400 + 1 = time (41 - t.val) 8 by unfold time; omega]
      refine Eq.trans ?_ (hs 8 _)
      pointwise
      rfl

theorem next_dhb (t : Fin cfg0.N) (h : ¬cond0_0 (grid0.coords t)) (s : St Ideal) (r : Fin 400) (d : Fin 1024) :
    (next m c t h s).dhb (ix2 r d) = X0 m c (ix2 ⟨time (40 - t.val) r.val, Shift.time_lt (by omega) r⟩ d) := by
  unfold next St.of runNext
  dsimp only
  frame_out
  rw [← blk0 m c t r d]
  pointwise [k0_pay5]

set_option maxHeartbeats 1000000 in
theorem next_carry (t : Fin cfg0.N) (h : ¬cond0_0 (grid0.coords t)) (s : St Ideal) (q : Fin 16) (d : Fin 5632) :
    (next m c t h s).carry (ix2 q d) = Cert.Spec.dconv (X0 m c) (X1 m c) (X2 m c) (X3 m c) (time (40 - t.val) q.val) d := by
  unfold next St.of runNext
  dsimp only
  frame_out
  canon_tiles x hx
  all_goals
    idx_vars x
    obtain rfl : q = x0 := Fin.ext hx0
  case piece0 =>
    obtain rfl : d = Cert.Spec.hi x1 := Fin.ext hx1
    exact Tile.carry_hi (fun n => Cert.Spec.dconv (X0 m c) (X1 m c) (X2 m c) (X3 m c) n (Cert.Spec.hi x1)) (40 - t.val) x1 _
      (Tile.dvalue (loads_lo m c t) (by omega) (dz_blk m c t) x1) q
  case piece1 =>
    obtain rfl : d = Cert.Spec.lo x1 := Fin.ext hx1
    exact Tile.carry_lo (fun n => Cert.Spec.dconv (X0 m c) (X1 m c) (X2 m c) (X3 m c) n (Cert.Spec.lo x1)) (40 - t.val) x1 _
      (Tile.dgate (loads_lo m c t) (loads_hi m c t) (by omega) (dz_blk m c t) x1) q

end Cert.KernelIdeal.Val

end
-- ==== Proof.First.lean ====
/-
  The first grid point's rows.
-/
module

public import proofs.«01_k».proof.Proof.Val
public import Idealize.ShloMosaic.Lib.Claim

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Cert.Spec (time)

variable (m : (ℓ : Loc nD τ sig) → Buf (Elt Ideal) ℓ) (c : Dev nD)

theorem first_dhb (t : Fin cfg0.N) (h : cond0_0 (grid0.coords t)) (r : Fin 400) (d : Fin 1024) :
    (first m c t h).dhb (ix2 r d) = X0 m c (ix2 ⟨time (40 - t.val) r.val, Shift.time_lt (by omega) r⟩ d) := by
  unfold first St.of runFirst
  dsimp only
  frame_out
  rw [← blk0 m c t r d]
  pointwise [k0_pay5]

set_option maxHeartbeats 1000000 in
theorem first_da (t : Fin cfg0.N) (h : cond0_0 (grid0.coords t)) (ht : t.val = 0) (r : Fin 400) (d : Fin 5632) :
    (first m c t h).da (ix2 r d) = Cert.Spec.da (X0 m c) (X1 m c) (X2 m c) (X3 m c) (time (40 - t.val) r.val) d := by
  unfold first St.of runFirst
  dsimp only
  frame_out
  canon_tiles x hx
  all_goals
    idx_vars x
    obtain rfl : r = x0 := Fin.ext hx0
  case piece0 =>
    obtain rfl : d = Cert.Spec.hi x1 := Fin.ext hx1
    refine Tile.da_hi (Tile.dvalue (loads_lo m c t) (by omega) (dz_blk m c t)) (fun f => ?_) (fun f => ?_) (loads_hi m c t).taps r x1
    · rw [Cert.Spec.dconv_end _ _ _ _ (by omega)]
      simp (disch := decide) only [↓View.readCov_skip]
      rw [View.readCov_fill _ _ _ _ _ (by decide)]
      pointwise [k0_pay3]
    · rw [Cert.Spec.dconv_end _ _ _ _ (by omega)]
      simp (disch := decide) only [↓View.readCov_skip]
      rw [View.readCov_fill _ _ _ _ _ (by decide)]
      pointwise [k0_pay3]
  case piece1 =>
    obtain rfl : d = Cert.Spec.lo x1 := Fin.ext hx1
    refine Tile.da_lo (Tile.dgate (loads_lo m c t) (loads_hi m c t) (by omega) (dz_blk m c t)) (fun f => ?_) (fun f => ?_) (loads_lo m c t).taps r x1
    · rw [Cert.Spec.dconv_end _ _ _ _ (by omega)]
      rw [View.readCov_fill _ _ _ _ _ (by decide)]
      pointwise [k0_pay3]
    · rw [Cert.Spec.dconv_end _ _ _ _ (by omega)]
      rw [View.readCov_fill _ _ _ _ _ (by decide)]
      pointwise [k0_pay3]

set_option maxHeartbeats 1000000 in
theorem first_carry (t : Fin cfg0.N) (h : cond0_0 (grid0.coords t)) (q : Fin 16) (d : Fin 5632) :
    (first m c t h).carry (ix2 q d) = Cert.Spec.dconv (X0 m c) (X1 m c) (X2 m c) (X3 m c) (time (40 - t.val) q.val) d := by
  unfold first St.of runFirst
  dsimp only
  frame_out
  refine (canon_append [_] [_, _] _ (View.cover_of_tiled_head _ _ _ (by rfl) _)).trans ?_
  canon_tiles x hx
  case piece0 =>
    idx_vars x
    obtain rfl : q = x0 := Fin.ext hx0
    obtain rfl : d = Cert.Spec.hi x1 := Fin.ext hx1
    exact Tile.carry_hi (fun n => Cert.Spec.dconv (X0 m c) (X1 m c) (X2 m c) (X3 m c) n (Cert.Spec.hi x1)) (40 - t.val) x1 _
      (Tile.dvalue (loads_lo m c t) (by omega) (dz_blk m c t) x1) q
  case piece1 =>
    idx_vars x
    obtain rfl : q = x0 := Fin.ext hx0
    obtain rfl : d = Cert.Spec.lo x1 := Fin.ext hx1
    exact Tile.carry_lo (fun n => Cert.Spec.dconv (X0 m c) (X1 m c) (X2 m c) (X3 m c) n (Cert.Spec.lo x1)) (40 - t.val) x1 _
      (Tile.dgate (loads_lo m c t) (loads_hi m c t) (by omega) (dz_blk m c t) x1) q

end Cert.KernelIdeal.Val
-- ==== Proof.Taps.lean ====
/-
  The tap gradients' block after each grid point.
-/
module

public import proofs.«01_k».proof.Proof.Val
public import Idealize.ShloMosaic.Lib.Claim

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Cert.Spec (time)

variable (m : (ℓ : Loc nD τ sig) → Buf (Elt Ideal) ℓ) (c : Dev nD)

set_option maxHeartbeats 1000000 in
theorem next_dw (t : Fin cfg0.N) (h : ¬cond0_0 (grid0.coords t)) (s : St Ideal) (k : Fin 3) (d : Fin 5632) :
    (next m c t h s).dw (ix2 k d) = (show EReal from s.dw (ix2 k d))
      + ∑ r : Fin 400, Cert.Spec.part (X0 m c) (X1 m c) (X2 m c) (X3 m c) k.val d (time (40 - t.val) r.val) := by
  unfold next St.of runNext
  dsimp only
  frame_out
  canon_tiles x hx
  all_goals
    idx_vars x
    obtain rfl : x0 = 0 := Subsingleton.elim _ _
  case piece0 =>
    obtain rfl : d = Cert.Spec.hi x1 := Fin.ext hx1
    obtain rfl : k = 2 := Fin.ext hx0
    refine Tile.tap_hi2 (k := 2) (cl := Cert.Spec.hi) ?_ ?_ ?_
    · exact Tile.dvalue (loads_lo m c t) (by omega) (dz_blk m c t) x1
    · intro r
      refine Eq.trans ?_ ((loads_hi m c t).rows x1 r)
      pointwise [k0_pay15]
    · pointwise
      rfl
  case piece1 =>
    obtain rfl : d = Cert.Spec.hi x1 := Fin.ext hx1
    obtain rfl : k = 1 := Fin.ext hx0
    refine Tile.tap_hi1 (k := 1) (cl := Cert.Spec.hi) ?_ ?_ ?_
    · exact Tile.dvalue (loads_lo m c t) (by omega) (dz_blk m c t) x1
    · exact Tile.value1 (grid0.coords t) (40 - t.val) x1 (fun n => Cert.Spec.lag (X2 m c) n (Cert.Spec.hi x1)) _ _ ((loads_hi m c t).before1 x1) ((loads_hi m c t).rows x1)
    · pointwise
      rfl
  case piece2 =>
    obtain rfl : d = Cert.Spec.hi x1 := Fin.ext hx1
    obtain rfl : k = 0 := Fin.ext hx0
    refine Tile.tap_hi0 (k := 0) (cl := Cert.Spec.hi) ?_ ?_ ?_
    · exact Tile.dvalue (loads_lo m c t) (by omega) (dz_blk m c t) x1
    · intro r
      rw [Nat.add_zero]
      exact Tile.value2 (grid0.coords t) (40 - t.val) x1 (fun n => Cert.Spec.lag (X2 m c) n (Cert.Spec.hi x1)) _ _ _ ((loads_hi m c t).before1 x1) ((loads_hi m c t).before2 x1) ((loads_hi m c t).rows x1) r
    · pointwise
      rfl
  case piece3 =>
    obtain rfl : d = Cert.Spec.lo x1 := Fin.ext hx1
    obtain rfl : k = 2 := Fin.ext hx0
    refine Tile.tap_lo2 (k := 2) (cl := Cert.Spec.lo) ?_ ?_ ?_
    · exact Tile.dgate (loads_lo m c t) (loads_hi m c t) (by omega) (dz_blk m c t) x1
    · intro r
      refine Eq.trans ?_ ((loads_lo m c t).rows x1 r)
      pointwise [k0_pay8]
    · pointwise
      rfl
  case piece4 =>
    obtain rfl : d = Cert.Spec.lo x1 := Fin.ext hx1
    obtain rfl : k = 1 := Fin.ext hx0
    refine Tile.tap_lo1 (k := 1) (cl := Cert.Spec.lo) ?_ ?_ ?_
    · exact Tile.dgate (loads_lo m c t) (loads_hi m c t) (by omega) (dz_blk m c t) x1
    · exact Tile.gate1 (grid0.coords t) (40 - t.val) x1 (fun n => Cert.Spec.lag (X2 m c) n (Cert.Spec.lo x1)) _ _ ((loads_lo m c t).before1 x1) ((loads_lo m c t).rows x1)
    · pointwise
      rfl
  case piece5 =>
    obtain rfl : d = Cert.Spec.lo x1 := Fin.ext hx1
    obtain rfl : k = 0 := Fin.ext hx0
    refine Tile.tap_lo0 (k := 0) (cl := Cert.Spec.lo) ?_ ?_ ?_
    · exact Tile.dgate (loads_lo m c t) (loads_hi m c t) (by omega) (dz_blk m c t) x1
    · intro r
      rw [Nat.add_zero]
      exact Tile.gate2 (grid0.coords t) (40 - t.val) x1 (fun n => Cert.Spec.lag (X2 m c) n (Cert.Spec.lo x1)) _ _ _ ((loads_lo m c t).before1 x1) ((loads_lo m c t).before2 x1) ((loads_lo m c t).rows x1) r
    · pointwise
      rfl

set_option maxHeartbeats 1000000 in
theorem first_dw (t : Fin cfg0.N) (h : cond0_0 (grid0.coords t)) (k : Fin 3) (d : Fin 5632) :
    (first m c t h).dw (ix2 k d)
      = 0 + ∑ r : Fin 400, Cert.Spec.part (X0 m c) (X1 m c) (X2 m c) (X3 m c) k.val d (time (40 - t.val) r.val) := by
  unfold first St.of runFirst
  dsimp only
  frame_out
  refine (canon_append [_] [_, _, _, _, _, _] _ (View.cover_of_tiled_head _ _ _ (by rfl) _)).trans ?_
  canon_tiles x hx
  all_goals
    idx_vars x
    obtain rfl : x0 = 0 := Subsingleton.elim _ _
  case piece0 =>
    obtain rfl : d = Cert.Spec.hi x1 := Fin.ext hx1
    obtain rfl : k = 2 := Fin.ext hx0
    refine Tile.tap_hi2 (k := 2) (cl := Cert.Spec.hi) ?_ ?_ ?_
    · exact Tile.dvalue (loads_lo m c t) (by omega) (dz_blk m c t) x1
    · intro r
      refine Eq.trans ?_ ((loads_hi m c t).rows x1 r)
      pointwise [k0_pay15]
    · try simp (disch := decide) only [↓View.readCov_skip]
      rw [View.readCov_fill _ _ _ _ _ (by decide)]
      pointwise [k0_pay4]
  case piece1 =>
    obtain rfl : d = Cert.Spec.hi x1 := Fin.ext hx1
    obtain rfl : k = 1 := Fin.ext hx0
    refine Tile.tap_hi1 (k := 1) (cl := Cert.Spec.hi) ?_ ?_ ?_
    · exact Tile.dvalue (loads_lo m c t) (by omega) (dz_blk m c t) x1
    · exact Tile.value1 (grid0.coords t) (40 - t.val) x1 (fun n => Cert.Spec.lag (X2 m c) n (Cert.Spec.hi x1)) _ _ ((loads_hi m c t).before1 x1) ((loads_hi m c t).rows x1)
    · try simp (disch := decide) only [↓View.readCov_skip]
      rw [View.readCov_fill _ _ _ _ _ (by decide)]
      pointwise [k0_pay4]
  case piece2 =>
    obtain rfl : d = Cert.Spec.hi x1 := Fin.ext hx1
    obtain rfl : k = 0 := Fin.ext hx0
    refine Tile.tap_hi0 (k := 0) (cl := Cert.Spec.hi) ?_ ?_ ?_
    · exact Tile.dvalue (loads_lo m c t) (by omega) (dz_blk m c t) x1
    · intro r
      rw [Nat.add_zero]
      exact Tile.value2 (grid0.coords t) (40 - t.val) x1 (fun n => Cert.Spec.lag (X2 m c) n (Cert.Spec.hi x1)) _ _ _ ((loads_hi m c t).before1 x1) ((loads_hi m c t).before2 x1) ((loads_hi m c t).rows x1) r
    · try simp (disch := decide) only [↓View.readCov_skip]
      rw [View.readCov_fill _ _ _ _ _ (by decide)]
      pointwise [k0_pay4]
  case piece3 =>
    obtain rfl : d = Cert.Spec.lo x1 := Fin.ext hx1
    obtain rfl : k = 2 := Fin.ext hx0
    refine Tile.tap_lo2 (k := 2) (cl := Cert.Spec.lo) ?_ ?_ ?_
    · exact Tile.dgate (loads_lo m c t) (loads_hi m c t) (by omega) (dz_blk m c t) x1
    · intro r
      refine Eq.trans ?_ ((loads_lo m c t).rows x1 r)
      pointwise [k0_pay8]
    · try simp (disch := decide) only [↓View.readCov_skip]
      rw [View.readCov_fill _ _ _ _ _ (by decide)]
      pointwise [k0_pay4]
  case piece4 =>
    obtain rfl : d = Cert.Spec.lo x1 := Fin.ext hx1
    obtain rfl : k = 1 := Fin.ext hx0
    refine Tile.tap_lo1 (k := 1) (cl := Cert.Spec.lo) ?_ ?_ ?_
    · exact Tile.dgate (loads_lo m c t) (loads_hi m c t) (by omega) (dz_blk m c t) x1
    · exact Tile.gate1 (grid0.coords t) (40 - t.val) x1 (fun n => Cert.Spec.lag (X2 m c) n (Cert.Spec.lo x1)) _ _ ((loads_lo m c t).before1 x1) ((loads_lo m c t).rows x1)
    · try simp (disch := decide) only [↓View.readCov_skip]
      rw [View.readCov_fill _ _ _ _ _ (by decide)]
      pointwise [k0_pay4]
  case piece5 =>
    obtain rfl : d = Cert.Spec.lo x1 := Fin.ext hx1
    obtain rfl : k = 0 := Fin.ext hx0
    refine Tile.tap_lo0 (k := 0) (cl := Cert.Spec.lo) ?_ ?_ ?_
    · exact Tile.dgate (loads_lo m c t) (loads_hi m c t) (by omega) (dz_blk m c t) x1
    · intro r
      rw [Nat.add_zero]
      exact Tile.gate2 (grid0.coords t) (40 - t.val) x1 (fun n => Cert.Spec.lag (X2 m c) n (Cert.Spec.lo x1)) _ _ _ ((loads_lo m c t).before1 x1) ((loads_lo m c t).before2 x1) ((loads_lo m c t).rows x1) r
    · try simp (disch := decide) only [↓View.readCov_skip]
      rw [View.readCov_fill _ _ _ _ _ (by decide)]
      pointwise [k0_pay4]

end Cert.KernelIdeal.Val
-- ==== Proof.Final.lean ====
/-
  The kernel's results: what the grid points leave, the whole arrays, and the time order.
-/
module

public import proofs.«01_k».proof.Proof.First
public import proofs.«01_k».proof.Proof.Taps
public import Idealize.ShloMosaic.Lib.Claim

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Cert.Spec (time)

variable (m : (ℓ : Loc nD τ sig) → Buf (Elt Ideal) ℓ) (c : Dev nD)

theorem carried (n : ℕ) (hn : n < cfg0.N) (q : Fin 16) (d : Fin 5632) :
    (state m c n hn).carry (ix2 q d) = Cert.Spec.dconv (X0 m c) (X1 m c) (X2 m c) (X3 m c) (time (40 - n) q.val) d := by
  cases n with
  | zero => exact first_carry m c ⟨0, hn⟩ _ q d
  | succ n => exact next_carry m c ⟨n + 1, hn⟩ _ _ q d

theorem state_da (t : Fin cfg0.N) (r : Fin 400) (d : Fin 5632) :
    (state m c t.val t.isLt).da (ix2 r d) = Cert.Spec.da (X0 m c) (X1 m c) (X2 m c) (X3 m c) (time (40 - t.val) r.val) d := by
  obtain ⟨n, hn⟩ := t
  cases n with
  | zero => exact first_da m c ⟨0, hn⟩ _ rfl r d
  | succ n =>
    refine next_da m c ⟨n + 1, hn⟩ _ _ (fun q d => ?_) r d
    have e := carried m c n (Nat.lt_of_succ_lt hn) q d
    rw [show 41 - (n + 1) = 40 - n by omega]
    exact e

theorem state_dhb (t : Fin cfg0.N) (r : Fin 400) (d : Fin 1024) :
    (state m c t.val t.isLt).dhb (ix2 r d) = X0 m c (ix2 ⟨time (40 - t.val) r.val, Shift.time_lt (by omega) r⟩ d) := by
  obtain ⟨n, hn⟩ := t
  cases n with
  | zero => exact first_dhb m c ⟨0, hn⟩ _ r d
  | succ n => exact next_dhb m c ⟨n + 1, hn⟩ _ _ r d

theorem state_dw (n : ℕ) (hn : n < cfg0.N) (k : Fin 3) (d : Fin 5632) :
    (state m c n hn).dw (ix2 k d)
      = ∑ p : Fin (n + 1), ∑ r : Fin 400, Cert.Spec.part (X0 m c) (X1 m c) (X2 m c) (X3 m c) k.val d (time (40 - p.val) r.val) := by
  induction n with
  | zero =>
    rw [Fin.sum_univ_one]
    exact (first_dw m c ⟨0, hn⟩ _ k d).trans (zero_add _)
  | succ n ih =>
    rw [Fin.sum_univ_castSucc]
    refine (next_dw m c ⟨n + 1, hn⟩ _ _ k d).trans ?_
    exact congrArg (· + _) (ih (Nat.lt_of_succ_lt hn))

theorem state_last (t : Fin cfg0.N) (ht : t.val = 40) (k : Fin 3) (d : Fin 5632) :
    (state m c t.val t.isLt).dw (ix2 k d) = Cert.Spec.dw (X0 m c) (X1 m c) (X2 m c) (X3 m c) k.val d := by
  have e : ∀ n, n = 40 → ∑ p : Fin (n + 1), ∑ r : Fin 400, Cert.Spec.part (X0 m c) (X1 m c) (X2 m c) (X3 m c) k.val d (time (40 - p.val) r.val)
      = Cert.Spec.dw (X0 m c) (X1 m c) (X2 m c) (X3 m c) k.val d := by
    intro n hn
    subst hn
    exact Cert.Spec.sum_tiles fun n => Cert.Spec.part (X0 m c) (X1 m c) (X2 m c) (X3 m c) k.val d n
  exact (state_dw m c t.val t.isLt k d).trans (e t.val ht)

/-- The rows' gradient, in tile order. -/
theorem arr6 : (dats m 0 c).arrAt 6 cfg0.N = fun y : S16400x5632.Idx =>
    Cert.Spec.da (X0 m c) (X1 m c) (X2 m c) (X3 m c) ((y 0).val / 400 * 400 + (y 0).val % 8 * 50 + (y 0).val / 8 % 50) (y 1) := by
  refine (dats m 0 c).arrAt_eq_of_covers 6 _ (by decide +kernel) fun t hf y => ?_
  have ht : t.val < 41 := lt_of_lt_of_eq t.isLt N_0
  have e1 : (win0_6.blk t).view.emb y 1 = (⟨(y 1).val, (y 1).isLt⟩ : Fin 5632) := Fin.ext (by blk_simp [idx_val t])
  blk_simp [idx_val t]
  rw [left6, e1]
  revert y
  change ∀ y : S400x5632.Idx, _
  intro y e1
  idx_vars y
  refine (state_da m c t y0 y1).trans ?_
  refine congrArg (fun n => Cert.Spec.da (X0 m c) (X1 m c) (X2 m c) (X3 m c) n y1) ?_
  show time (40 - t.val) y0.val = ((40 - t.val) * 400 + y0.val) / 400 * 400 + ((40 - t.val) * 400 + y0.val) % 8 * 50
    + ((40 - t.val) * 400 + y0.val) / 8 % 50
  unfold time
  omega

theorem arr7 : (dats m 0 c).arrAt 7 cfg0.N = fun y : S16400x1024.Idx =>
    X0 m c (ix2 ⟨(y 0).val / 400 * 400 + (y 0).val % 8 * 50 + (y 0).val / 8 % 50, by
      have : (y 0).val < 16400 := (y 0).isLt
      omega⟩ (y 1)) := by
  refine (dats m 0 c).arrAt_eq_of_covers 7 _ (by decide +kernel) fun t hf y => ?_
  have ht : t.val < 41 := lt_of_lt_of_eq t.isLt N_0
  have e1 : (win0_7.blk t).view.emb y 1 = (⟨(y 1).val, (y 1).isLt⟩ : Fin 1024) := Fin.ext (by blk_simp [idx_val t])
  blk_simp [idx_val t]
  rw [left7, e1]
  revert y
  change ∀ y : S400x1024.Idx, _
  intro y e1
  idx_vars y
  refine (state_dhb m c t y0 y1).trans ?_
  refine congrArg (fun n => X0 m c (ix2 n y1)) (Fin.ext ?_)
  show time (40 - t.val) y0.val = ((40 - t.val) * 400 + y0.val) / 400 * 400 + ((40 - t.val) * 400 + y0.val) % 8 * 50
    + ((40 - t.val) * 400 + y0.val) / 8 % 50
  unfold time
  omega

/-- The taps' gradient: the last point leaves the sum over all tiles, so over all rows. -/
theorem arr8 : (dats m 0 c).arrAt 8 cfg0.N = fun y : S3x5632.Idx =>
    Cert.Spec.dw (X0 m c) (X1 m c) (X2 m c) (X3 m c) (y 0).val (y 1) := by
  refine (dats m 0 c).arrAt_eq_of_covers 8 _ (by decide +kernel) fun t hf y => ?_
  have ht : t.val = 40 := by
    have := (flush0_8 t).mp hf
    have : t.val < 41 := lt_of_lt_of_eq t.isLt N_0
    omega
  have e1 : (win0_8.blk t).view.emb y 1 = (⟨(y 1).val, (y 1).isLt⟩ : Fin 5632) := Fin.ext (by blk_simp [idx_val t])
  blk_simp [idx_val t]
  rw [left8, e1]
  revert y
  change ∀ y : S3x5632.Idx, _
  intro y e1
  idx_vars y
  exact state_last m c t ht y0 y1

/-- The arrays after the region, as the host operations that follow it read them. -/
theorem left (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Dat.withArrays_arrAt (dats m 0 c) sharedIn0 (V0 m c) (A_eq m c) w

theorem untile (n : ℕ) : (n / 400 * 400 + n % 50 * 8 + n / 50 % 8) / 400 * 400 + (n / 400 * 400 + n % 50 * 8 + n / 50 % 8) % 8 * 50
    + (n / 400 * 400 + n % 50 * 8 + n / 50 % 8) / 8 % 50 = n := by
  have e : n = n / 400 * 400 + n / 50 % 8 * 50 + n % 50 := by omega
  have h1 : n / 50 % 8 < 8 := Nat.mod_lt _ (by norm_num)
  have h2 : n % 50 < 50 := Nat.mod_lt _ (by norm_num)
  revert e h1 h2
  generalize n / 400 = q
  generalize n / 50 % 8 = u
  generalize n % 50 = v
  intro e h1 h2
  have d1 : (q * 400 + v * 8 + u) / 400 = q := by omega
  have d2 : (q * 400 + v * 8 + u) % 8 = u := by omega
  have d3 : (q * 400 + v * 8 + u) / 8 = q * 50 + v := by omega
  have d4 : (q * 50 + v) % 50 = v := by omega
  rw [d1, d2, d3, d4, e]

/-- The kernel's first result: the rows' gradient in time order. -/
theorem res_da (n : Fin 16400) (d : Fin 5632) :
    Pipeline.afterTail₀ cfgs (dats m) 0 (V0 m) [hostOps1] c main_v11 (ix2 n d)
      = Cert.Spec.da (X0 m c) (X1 m c) (X2 m c) (X3 m c) n.val d := by
  unfold Pipeline.afterTail₀
  simp only [List.flatten_cons, List.flatten_nil, List.append_nil]
  unfold hostOps1
  after_results
  have e := (left m c 6).trans (arr6 m c)
  dsimp only [Pipeline.arrRef] at e
  erw [e]
  pointwise
  refine congrArg (fun k => Cert.Spec.da (X0 m c) (X1 m c) (X2 m c) (X3 m c) k d) (untile n.val)

theorem res_dhb (n : Fin 16400) (d : Fin 1024) :
    Pipeline.afterTail₀ cfgs (dats m) 0 (V0 m) [hostOps1] c main_v14 (ix2 n d) = X0 m c (ix2 n d) := by
  unfold Pipeline.afterTail₀
  simp only [List.flatten_cons, List.flatten_nil, List.append_nil]
  unfold hostOps1
  after_results
  erw [(left m c 7).trans (arr7 m c)]
  pointwise
  refine congrArg (fun k => X0 m c (ix2 k d)) (Fin.ext (untile n.val))

theorem res_dw (k : Fin 3) (d : Fin 5632) :
    Pipeline.afterTail₀ cfgs (dats m) 0 (V0 m) [hostOps1] c main_v8_2 (ix2 k d)
      = Cert.Spec.dw (X0 m c) (X1 m c) (X2 m c) (X3 m c) k.val d := by
  unfold Pipeline.afterTail₀
  simp only [List.flatten_cons, List.flatten_nil, List.append_nil]
  unfold hostOps1
  after_results
  exact congrFun ((left m c 8).trans (arr8 m c)) (ix2 k d)

end Cert.KernelIdeal.Val

end
-- ==== Proof.Row.lean ====
module

public import Idealize.ShloMosaic.Lib.Pipeline.ValueKit

@[expose] public section

noncomputable section

/-! One row of the root-mean-square normalization, and its derivative, over the extended reals. -/

namespace Cert.Row

open Idealize.ShloMosaic

theorem sum_mul {n : ℕ} (f : Fin n → EReal) (r : EReal) (h0 : 0 ≤ r) (ht : r ≠ ⊤) : (∑ k, f k) * r = ∑ k, f k * r := by
  have h : ∀ s : Finset (Fin n), (∑ k ∈ s, f k) * r = ∑ k ∈ s, f k * r := fun s => by
    induction s using Finset.induction_on with
    | empty => simp
    | insert a s ha ih => rw [Finset.sum_insert ha, Finset.sum_insert ha, EReal.right_distrib_of_nonneg_of_ne_top h0 ht, ih]
  exact h _

theorem coe_sum {n : ℕ} (f : Fin n → ℝ) : ((∑ k, f k : ℝ) : EReal) = ∑ k, (f k : EReal) :=
  map_sum (⟨⟨fun x : ℝ => (x : EReal), EReal.coe_zero⟩, EReal.coe_add⟩ : ℝ →+ EReal) f Finset.univ

theorem double (S : EReal) (b : ℝ) : S * b + S * b = -(S * ((-(b + b) : ℝ) : EReal)) := by
  induction S with
  | coe s => norm_cast; ring
  | top =>
    rcases lt_trichotomy b 0 with h | h | h
    · rw [EReal.top_mul_coe_of_neg h, EReal.top_mul_coe_of_pos (by linarith)]; rfl
    · subst h; simp
    · rw [EReal.top_mul_coe_of_pos h, EReal.top_mul_coe_of_neg (by linarith)]; rfl
  | bot =>
    rcases lt_trichotomy b 0 with h | h | h
    · rw [EReal.bot_mul_coe_of_neg h, EReal.bot_mul_coe_of_pos (by linarith)]; rfl
    · subst h; simp
    · rw [EReal.bot_mul_coe_of_pos h, EReal.bot_mul_coe_of_neg (by linarith)]; rfl

theorem width : Ideal.ofBits FTy.f32 1149239296#32 = ((1024 : ℝ) : EReal) := by
  simp [Ideal.ofBits, Ideal.ieee, -EReal.coe_mul]; norm_num

theorem half : Ideal.ofBits FTy.f32 3204448256#32 = ((-(1 / 2) : ℝ) : EReal) := by
  simp [Ideal.ofBits, Ideal.ieee, -EReal.coe_mul]; norm_num

theorem eps : ∃ e : ℝ, 0 < e ∧ Ideal.ofBits FTy.f32 897988541#32 = (e : EReal) := by
  refine ⟨_, ?_, by simp only [Ideal.ofBits, Ideal.ieee]; simp [-EReal.coe_mul]; rfl⟩
  norm_num

/-- The mean of the squares, with the small constant. -/
def meanSq {n : ℕ} (x : Fin n → EReal) : EReal :=
  Ideal.div (∑ k, x k * x k) (Ideal.ofBits FTy.f32 1149239296#32) + Ideal.ofBits FTy.f32 897988541#32

/-- The reciprocal root of the mean square. -/
def inv {n : ℕ} (x : Fin n → EReal) : EReal := Ideal.rsqrt (meanSq x)

/-- The mean square is a positive real, the row then real, or infinite. -/
theorem meanSq_cases {n : ℕ} (x : Fin n → EReal) :
    (∃ (y : Fin n → ℝ) (v : ℝ), 0 < v ∧ (x = fun k => (y k : EReal)) ∧ meanSq x = v) ∨ meanSq x = ⊤ := by
  obtain ⟨e, he, hE⟩ := eps
  by_cases h : ∀ k, x k ≠ ⊤ ∧ x k ≠ ⊥
  · left
    have hx : x = fun k => ((x k).toReal : EReal) := funext fun k => (EReal.coe_toReal (h k).1 (h k).2).symm
    refine ⟨fun k => (x k).toReal, (∑ k, (x k).toReal * (x k).toReal) * (1 / 1024) + e, ?_, hx, ?_⟩
    · have : 0 ≤ ∑ k, (x k).toReal * (x k).toReal := Finset.sum_nonneg fun k _ => mul_self_nonneg _
      positivity
    · rw [meanSq, hE, width, Ideal.div_coe (by norm_num), hx]
      simp only [EReal.toReal_coe, ← EReal.coe_mul, ← coe_sum]
      push_cast
      rfl
  · right
    push Not at h
    obtain ⟨k, hk⟩ := h
    have hk' : x k * x k = ⊤ := by
      by_cases ht : x k = ⊤
      · rw [ht]; rfl
      · rw [hk ht]; rfl
    have hs : ∑ k, x k * x k = ⊤ := by
      refine top_le_iff.mp (hk' ▸ Finset.single_le_sum (f := fun k => x k * x k) (fun i _ => ?_) (Finset.mem_univ k))
      induction x i with
      | coe s => exact_mod_cast mul_self_nonneg s
      | top => simp
      | bot => simp
    rw [meanSq, hE, width, hs, Ideal.div_coe (by norm_num), EReal.top_mul_coe_of_pos (by norm_num)]
    rfl

/-- The derivative of a row by its input, as the kernel spells it: `d` is the derivative by the normalized row. -/
def back {n : ℕ} (x d : Fin n → EReal) (j : Fin n) : EReal :=
  inv x * (d j - x j * inv x * Ideal.div (∑ k, d k * (x k * inv x)) (Ideal.ofBits FTy.f32 1149239296#32))

/-- The kernel's derivative of a row by its input is the reference's. -/
theorem pull {n : ℕ} (x d : Fin n → EReal) (j : Fin n) :
    back x d j
      = d j * inv x
        + x j * Ideal.div ((∑ k, x k * d k) * (Ideal.ofBits FTy.f32 3204448256#32 * Ideal.div (inv x) (meanSq x))) (Ideal.ofBits FTy.f32 1149239296#32)
        + Ideal.div ((∑ k, x k * d k) * (Ideal.ofBits FTy.f32 3204448256#32 * Ideal.div (inv x) (meanSq x))) (Ideal.ofBits FTy.f32 1149239296#32) * x j := by
  rw [back, width, half]
  simp only [Ideal.div_coe (show (1024 : ℝ) ≠ 0 by norm_num)]
  rcases meanSq_cases x with ⟨y, v, hv, hy, hm⟩ | hm
  · have hr : inv x = (((Real.sqrt v)⁻¹ : ℝ) : EReal) := by
      rw [inv, hm, Ideal.rsqrt_coe, if_neg (by linarith), if_neg (by linarith)]
    have hq : (Real.sqrt v)⁻¹ * (Real.sqrt v)⁻¹ = 1 / v := by
      rw [← mul_inv, Real.mul_self_sqrt hv.le, one_div]
    have hp : (0 : ℝ) < (Real.sqrt v)⁻¹ := by positivity
    rw [hr, hm, Ideal.div_coe hv.ne']
    generalize (Real.sqrt v)⁻¹ = r at *
    have hr0 : (0 : EReal) ≤ (r : EReal) := by exact_mod_cast hp.le
    rw [show (∑ k, d k * (x k * (r : EReal))) = (∑ k, x k * d k) * r by
      rw [sum_mul _ _ hr0 (EReal.coe_ne_top r)]; exact Finset.sum_congr rfl fun k _ => by rw [← mul_assoc, mul_comm (d k)]]
    generalize (∑ k, x k * d k) = S
    rw [hy, sub_eq_add_neg, EReal.left_distrib_of_nonneg_of_ne_top hr0 (EReal.coe_ne_top r), mul_comm (r : EReal) (d j), add_assoc]
    congr 1
    have hb := double S (y j * (-(1 / 2) * (r * (1 / v)) * (1 / 1024)))
    rw [show -(y j * (-(1 / 2) * (r * (1 / v)) * (1 / 1024)) + y j * (-(1 / 2) * (r * (1 / v)) * (1 / 1024)))
      = r * (y j * r * (r * (1 / 1024))) by rw [← hq]; ring] at hb
    rw [mul_neg]
    push_cast at hb ⊢
    convert hb.symm using 2 <;> ac_rfl
  · rw [show inv x = 0 by rw [inv, hm]; rfl, hm]
    simp [Ideal.div]

/-- A host sum of which one element only drops to the result's index. -/
theorem sum_one {s t : Shape} {axes : List (Fin s.rank)} (h : s.ReducesTo axes t) (x : s.Idx → EReal) (init : EReal) (j : t.Idx) (i : s.Idx)
    (hi : ∀ a, h.drop a = j ↔ a = i) : Ideal.hostReduceAdd h x init j = init + x i := by
  unfold Ideal.hostReduceAdd
  simp only [hi]
  rw [Finset.filter_eq', if_pos (Finset.mem_univ i), Finset.sum_singleton]

/-- The host sum over two leading axes of length one. -/
theorem sum_lead {n : ℕ} (h : (⟨3, ![1, 1, n]⟩ : Shape).ReducesTo [0, 1] ⟨1, ![n]⟩) (x : (⟨3, ![1, 1, n]⟩ : Shape).Idx → EReal) (init : EReal)
    (d : Fin n) : Ideal.hostReduceAdd h x init (ix1 d) = init + x (ix3 0 0 d) :=
  sum_one h x init _ _ fun a => by
    constructor
    · intro e
      funext b
      apply Fin.ext
      match b with
      | ⟨0, _⟩ => exact Nat.lt_one_iff.mp (a 0).isLt
      | ⟨1, _⟩ => exact Nat.lt_one_iff.mp (a 1).isLt
      | ⟨2, _⟩ => exact congrArg Fin.val (congrFun e 0)
    · rintro rfl
      funext b
      apply Fin.ext
      match b with
      | ⟨0, _⟩ => rfl

/-- The host sum over a first and a last axis of length one. -/
theorem sum_ends {n : ℕ} (h : (⟨3, ![1, n, 1]⟩ : Shape).ReducesTo [0, 2] ⟨1, ![n]⟩) (x : (⟨3, ![1, n, 1]⟩ : Shape).Idx → EReal) (init : EReal)
    (d : Fin n) : Ideal.hostReduceAdd h x init (ix1 d) = init + x (ix3 0 d 0) :=
  sum_one h x init _ _ fun a => by
    constructor
    · intro e
      funext b
      apply Fin.ext
      match b with
      | ⟨0, _⟩ => exact Nat.lt_one_iff.mp (a 0).isLt
      | ⟨1, _⟩ => exact congrArg Fin.val (congrFun e 0)
      | ⟨2, _⟩ => exact Nat.lt_one_iff.mp (a 2).isLt
    · rintro rfl
      funext b
      apply Fin.ext
      match b with
      | ⟨0, _⟩ => rfl

end Cert.Row

end
-- ==== Proof.Twins.lean ====
/-
  Each further kernel as printed and as printed for the ideal reading are one program: the same lines, at any float values.
-/
module

public import proofs.«01_k».proof.Kernel2
public import proofs.«01_k».proof.Kernel2Ideal
public import proofs.«01_k».proof.Kernel3
public import proofs.«01_k».proof.Kernel3Ideal
public import proofs.«01_k».proof.Kernel4
public import proofs.«01_k».proof.Kernel4Ideal
public import proofs.«01_k».proof.Kernel5
public import proofs.«01_k».proof.Kernel5Ideal
public import proofs.«01_k».proof.Kernel6
public import proofs.«01_k».proof.Kernel6Ideal
public import proofs.«01_k».proof.Kernel7
public import proofs.«01_k».proof.Kernel7Ideal
public import proofs.«01_k».proof.Kernel8
public import proofs.«01_k».proof.Kernel8Ideal
public import proofs.«01_k».proof.Kernel9
public import proofs.«01_k».proof.Kernel9Ideal
public import proofs.«01_k».proof.Kernel10
public import proofs.«01_k».proof.Kernel10Ideal
public import proofs.«01_k».proof.Kernel11
public import proofs.«01_k».proof.Kernel11Ideal
public import proofs.«01_k».proof.Kernel12
public import proofs.«01_k».proof.Kernel12Ideal
public import proofs.«01_k».proof.Kernel13
public import proofs.«01_k».proof.Kernel13Ideal
public import proofs.«01_k».proof.Kernel14
public import proofs.«01_k».proof.Kernel14Ideal
public import proofs.«01_k».proof.Kernel15
public import proofs.«01_k».proof.Kernel15Ideal
public import proofs.«01_k».proof.Kernel16
public import proofs.«01_k».proof.Kernel16Ideal
public import proofs.«01_k».proof.Kernel17
public import proofs.«01_k».proof.Kernel17Ideal
public import proofs.«01_k».proof.Kernel18
public import proofs.«01_k».proof.Kernel18Ideal
public import proofs.«01_k».proof.Kernel19
public import proofs.«01_k».proof.Kernel19Ideal
public import proofs.«01_k».proof.Kernel20
public import proofs.«01_k».proof.Kernel20Ideal
public import proofs.«01_k».proof.Kernel21
public import proofs.«01_k».proof.Kernel21Ideal
public import proofs.«01_k».proof.Kernel22
public import proofs.«01_k».proof.Kernel22Ideal
public import proofs.«01_k».proof.Kernel23
public import proofs.«01_k».proof.Kernel23Ideal
public import proofs.«01_k».proof.Kernel24
public import proofs.«01_k».proof.Kernel24Ideal
public import proofs.«01_k».proof.Kernel25
public import proofs.«01_k».proof.Kernel25Ideal
public import proofs.«01_k».proof.Kernel26
public import proofs.«01_k».proof.Kernel26Ideal
public import proofs.«01_k».proof.Kernel27
public import proofs.«01_k».proof.Kernel27Ideal
public import proofs.«01_k».proof.Kernel28
public import proofs.«01_k».proof.Kernel28Ideal
public import proofs.«01_k».proof.Kernel29
public import proofs.«01_k».proof.Kernel29Ideal
public import proofs.«01_k».proof.Kernel30
public import proofs.«01_k».proof.Kernel30Ideal
public import proofs.«01_k».proof.Kernel31
public import proofs.«01_k».proof.Kernel31Ideal
public import proofs.«01_k».proof.Kernel32
public import proofs.«01_k».proof.Kernel32Ideal

@[expose] public section

namespace Cert.Twin

open Idealize.ShloMosaic

variable {F : FTy → Type} [FloatOps F]

/-- A table over one label is given by its entry. -/
theorem table {β : Fin 1 → Type _} {f g : (i : Fin 1) → β i} (h : f 0 = g 0) : f = g :=
  funext fun i => by rw [Subsingleton.elim i 0]; exact h

theorem main_eq2 [Cert.Kernel2.Facts] [Cert.Kernel2Ideal.Facts] : @Cert.Kernel2.main F _ _ = @Cert.Kernel2Ideal.main F _ _ := rfl
theorem defs_eq2 [Cert.Kernel2.Facts] [Cert.Kernel2Ideal.Facts] : @Cert.Kernel2.defs F _ _ = @Cert.Kernel2Ideal.defs F _ _ :=
  congrArg (Pipeline.defs _) (congrArg Defs.onTc (table rfl))

theorem main_eq3 [Cert.Kernel3.Facts] [Cert.Kernel3Ideal.Facts] : @Cert.Kernel3.main F _ = @Cert.Kernel3Ideal.main F _ := rfl
theorem defs_eq3 [Cert.Kernel3.Facts] [Cert.Kernel3Ideal.Facts] : @Cert.Kernel3.defs F _ _ = @Cert.Kernel3Ideal.defs F _ _ :=
  congrArg (Pipeline.defs _) (congrArg Defs.onTc (table rfl))

theorem main_eq4 [Cert.Kernel4.Facts] [Cert.Kernel4Ideal.Facts] : @Cert.Kernel4.main F _ = @Cert.Kernel4Ideal.main F _ := rfl
theorem defs_eq4 [Cert.Kernel4.Facts] [Cert.Kernel4Ideal.Facts] : @Cert.Kernel4.defs F _ _ = @Cert.Kernel4Ideal.defs F _ _ :=
  congrArg (Pipeline.defs _) (congrArg Defs.onTc (table rfl))

theorem main_eq5 [Cert.Kernel5.Facts] [Cert.Kernel5Ideal.Facts] : @Cert.Kernel5.main F _ _ = @Cert.Kernel5Ideal.main F _ _ := rfl
theorem defs_eq5 [Cert.Kernel5.Facts] [Cert.Kernel5Ideal.Facts] : @Cert.Kernel5.defs F _ _ = @Cert.Kernel5Ideal.defs F _ _ :=
  congrArg (Pipeline.defs _) (congrArg Defs.onTc (table rfl))

theorem main_eq6 [Cert.Kernel6.Facts] [Cert.Kernel6Ideal.Facts] : @Cert.Kernel6.main F _ _ = @Cert.Kernel6Ideal.main F _ _ := rfl
theorem defs_eq6 [Cert.Kernel6.Facts] [Cert.Kernel6Ideal.Facts] : @Cert.Kernel6.defs F _ _ = @Cert.Kernel6Ideal.defs F _ _ :=
  congrArg (Pipeline.defs _) (congrArg Defs.onTc (table rfl))

theorem main_eq7 [Cert.Kernel7.Facts] [Cert.Kernel7Ideal.Facts] : @Cert.Kernel7.main F _ _ = @Cert.Kernel7Ideal.main F _ _ := rfl
theorem defs_eq7 [Cert.Kernel7.Facts] [Cert.Kernel7Ideal.Facts] : @Cert.Kernel7.defs F _ _ = @Cert.Kernel7Ideal.defs F _ _ :=
  congrArg (Pipeline.defs _) (congrArg Defs.onTc (table rfl))

theorem main_eq8 [Cert.Kernel8.Facts] [Cert.Kernel8Ideal.Facts] : @Cert.Kernel8.main F _ = @Cert.Kernel8Ideal.main F _ := rfl
theorem defs_eq8 [Cert.Kernel8.Facts] [Cert.Kernel8Ideal.Facts] : @Cert.Kernel8.defs F _ _ = @Cert.Kernel8Ideal.defs F _ _ :=
  congrArg (Pipeline.defs _) (congrArg Defs.onTc (table rfl))

theorem main_eq9 [Cert.Kernel9.Facts] [Cert.Kernel9Ideal.Facts] : @Cert.Kernel9.main F _ = @Cert.Kernel9Ideal.main F _ := rfl
theorem defs_eq9 [Cert.Kernel9.Facts] [Cert.Kernel9Ideal.Facts] : @Cert.Kernel9.defs F _ _ = @Cert.Kernel9Ideal.defs F _ _ :=
  congrArg (Pipeline.defs _) (congrArg Defs.onTc (table rfl))

theorem main_eq10 [Cert.Kernel10.Facts] [Cert.Kernel10Ideal.Facts] : @Cert.Kernel10.main F _ = @Cert.Kernel10Ideal.main F _ := rfl
theorem defs_eq10 [Cert.Kernel10.Facts] [Cert.Kernel10Ideal.Facts] : @Cert.Kernel10.defs F _ _ = @Cert.Kernel10Ideal.defs F _ _ :=
  congrArg (Pipeline.defs _) (congrArg Defs.onTc (table rfl))

theorem main_eq11 [Cert.Kernel11.Facts] [Cert.Kernel11Ideal.Facts] : @Cert.Kernel11.main F _ = @Cert.Kernel11Ideal.main F _ := rfl
theorem defs_eq11 [Cert.Kernel11.Facts] [Cert.Kernel11Ideal.Facts] : @Cert.Kernel11.defs F _ _ = @Cert.Kernel11Ideal.defs F _ _ :=
  congrArg (Pipeline.defs _) (congrArg Defs.onTc (table rfl))

theorem main_eq12 [Cert.Kernel12.Facts] [Cert.Kernel12Ideal.Facts] : @Cert.Kernel12.main F _ _ = @Cert.Kernel12Ideal.main F _ _ := rfl
theorem defs_eq12 [Cert.Kernel12.Facts] [Cert.Kernel12Ideal.Facts] : @Cert.Kernel12.defs F _ _ = @Cert.Kernel12Ideal.defs F _ _ :=
  congrArg (Pipeline.defs _) (congrArg Defs.onTc (table rfl))

theorem main_eq13 [Cert.Kernel13.Facts] [Cert.Kernel13Ideal.Facts] : @Cert.Kernel13.main F _ = @Cert.Kernel13Ideal.main F _ := rfl
theorem defs_eq13 [Cert.Kernel13.Facts] [Cert.Kernel13Ideal.Facts] : @Cert.Kernel13.defs F _ _ = @Cert.Kernel13Ideal.defs F _ _ :=
  congrArg (Pipeline.defs _) (congrArg Defs.onTc (table rfl))

theorem main_eq14 [Cert.Kernel14.Facts] [Cert.Kernel14Ideal.Facts] : @Cert.Kernel14.main F _ = @Cert.Kernel14Ideal.main F _ := rfl
theorem defs_eq14 [Cert.Kernel14.Facts] [Cert.Kernel14Ideal.Facts] : @Cert.Kernel14.defs F _ _ = @Cert.Kernel14Ideal.defs F _ _ :=
  congrArg (Pipeline.defs _) (congrArg Defs.onTc (table rfl))

theorem main_eq15 [Cert.Kernel15.Facts] [Cert.Kernel15Ideal.Facts] : @Cert.Kernel15.main F _ = @Cert.Kernel15Ideal.main F _ := rfl
theorem defs_eq15 [Cert.Kernel15.Facts] [Cert.Kernel15Ideal.Facts] : @Cert.Kernel15.defs F _ _ = @Cert.Kernel15Ideal.defs F _ _ :=
  congrArg (Pipeline.defs _) (congrArg Defs.onTc (table rfl))

theorem main_eq16 [Cert.Kernel16.Facts] [Cert.Kernel16Ideal.Facts] : @Cert.Kernel16.main F _ = @Cert.Kernel16Ideal.main F _ := rfl
theorem defs_eq16 [Cert.Kernel16.Facts] [Cert.Kernel16Ideal.Facts] : @Cert.Kernel16.defs F _ _ = @Cert.Kernel16Ideal.defs F _ _ :=
  congrArg (Pipeline.defs _) (congrArg Defs.onTc (table rfl))

theorem main_eq17 [Cert.Kernel17.Facts] [Cert.Kernel17Ideal.Facts] : @Cert.Kernel17.main F _ = @Cert.Kernel17Ideal.main F _ := rfl
theorem defs_eq17 [Cert.Kernel17.Facts] [Cert.Kernel17Ideal.Facts] : @Cert.Kernel17.defs F _ _ = @Cert.Kernel17Ideal.defs F _ _ :=
  congrArg (Pipeline.defs _) (congrArg Defs.onTc (table rfl))

theorem main_eq18 [Cert.Kernel18.Facts] [Cert.Kernel18Ideal.Facts] : @Cert.Kernel18.main F _ = @Cert.Kernel18Ideal.main F _ := rfl
theorem defs_eq18 [Cert.Kernel18.Facts] [Cert.Kernel18Ideal.Facts] : @Cert.Kernel18.defs F _ _ = @Cert.Kernel18Ideal.defs F _ _ :=
  congrArg (Pipeline.defs _) (congrArg Defs.onTc (table rfl))

theorem main_eq19 [Cert.Kernel19.Facts] [Cert.Kernel19Ideal.Facts] : @Cert.Kernel19.main F _ = @Cert.Kernel19Ideal.main F _ := rfl
theorem defs_eq19 [Cert.Kernel19.Facts] [Cert.Kernel19Ideal.Facts] : @Cert.Kernel19.defs F _ _ = @Cert.Kernel19Ideal.defs F _ _ :=
  congrArg (Pipeline.defs _) (congrArg Defs.onTc (table rfl))

theorem main_eq20 [Cert.Kernel20.Facts] [Cert.Kernel20Ideal.Facts] : @Cert.Kernel20.main F _ = @Cert.Kernel20Ideal.main F _ := rfl
theorem defs_eq20 [Cert.Kernel20.Facts] [Cert.Kernel20Ideal.Facts] : @Cert.Kernel20.defs F _ _ = @Cert.Kernel20Ideal.defs F _ _ :=
  congrArg (Pipeline.defs _) (congrArg Defs.onTc (table rfl))

theorem main_eq21 [Cert.Kernel21.Facts] [Cert.Kernel21Ideal.Facts] : @Cert.Kernel21.main F _ = @Cert.Kernel21Ideal.main F _ := rfl
theorem defs_eq21 [Cert.Kernel21.Facts] [Cert.Kernel21Ideal.Facts] : @Cert.Kernel21.defs F _ _ = @Cert.Kernel21Ideal.defs F _ _ :=
  congrArg (Pipeline.defs _) (congrArg Defs.onTc (table rfl))

theorem main_eq22 [Cert.Kernel22.Facts] [Cert.Kernel22Ideal.Facts] : @Cert.Kernel22.main F _ = @Cert.Kernel22Ideal.main F _ := rfl
theorem defs_eq22 [Cert.Kernel22.Facts] [Cert.Kernel22Ideal.Facts] : @Cert.Kernel22.defs F _ _ = @Cert.Kernel22Ideal.defs F _ _ :=
  congrArg (Pipeline.defs _) (congrArg Defs.onTc (table rfl))

theorem main_eq23 [Cert.Kernel23.Facts] [Cert.Kernel23Ideal.Facts] : @Cert.Kernel23.main F _ = @Cert.Kernel23Ideal.main F _ := rfl
theorem defs_eq23 [Cert.Kernel23.Facts] [Cert.Kernel23Ideal.Facts] : @Cert.Kernel23.defs F _ _ = @Cert.Kernel23Ideal.defs F _ _ :=
  congrArg (Pipeline.defs _) (congrArg Defs.onTc (table rfl))

theorem main_eq24 [Cert.Kernel24.Facts] [Cert.Kernel24Ideal.Facts] : @Cert.Kernel24.main F _ = @Cert.Kernel24Ideal.main F _ := rfl
theorem defs_eq24 [Cert.Kernel24.Facts] [Cert.Kernel24Ideal.Facts] : @Cert.Kernel24.defs F _ _ = @Cert.Kernel24Ideal.defs F _ _ :=
  congrArg (Pipeline.defs _) (congrArg Defs.onTc (table rfl))

theorem main_eq25 [Cert.Kernel25.Facts] [Cert.Kernel25Ideal.Facts] : @Cert.Kernel25.main F _ = @Cert.Kernel25Ideal.main F _ := rfl
theorem defs_eq25 [Cert.Kernel25.Facts] [Cert.Kernel25Ideal.Facts] : @Cert.Kernel25.defs F _ _ = @Cert.Kernel25Ideal.defs F _ _ :=
  congrArg (Pipeline.defs _) (congrArg Defs.onTc (table rfl))

theorem main_eq26 [Cert.Kernel26.Facts] [Cert.Kernel26Ideal.Facts] : @Cert.Kernel26.main F _ = @Cert.Kernel26Ideal.main F _ := rfl
theorem defs_eq26 [Cert.Kernel26.Facts] [Cert.Kernel26Ideal.Facts] : @Cert.Kernel26.defs F _ _ = @Cert.Kernel26Ideal.defs F _ _ :=
  congrArg (Pipeline.defs _) (congrArg Defs.onTc (table rfl))

theorem main_eq27 [Cert.Kernel27.Facts] [Cert.Kernel27Ideal.Facts] : @Cert.Kernel27.main F _ = @Cert.Kernel27Ideal.main F _ := rfl
theorem defs_eq27 [Cert.Kernel27.Facts] [Cert.Kernel27Ideal.Facts] : @Cert.Kernel27.defs F _ _ = @Cert.Kernel27Ideal.defs F _ _ :=
  congrArg (Pipeline.defs _) (congrArg Defs.onTc (table rfl))

theorem main_eq28 [Cert.Kernel28.Facts] [Cert.Kernel28Ideal.Facts] : @Cert.Kernel28.main F _ = @Cert.Kernel28Ideal.main F _ := rfl
theorem defs_eq28 [Cert.Kernel28.Facts] [Cert.Kernel28Ideal.Facts] : @Cert.Kernel28.defs F _ _ = @Cert.Kernel28Ideal.defs F _ _ :=
  congrArg (Pipeline.defs _) (congrArg Defs.onTc (table rfl))

theorem main_eq29 [Cert.Kernel29.Facts] [Cert.Kernel29Ideal.Facts] : @Cert.Kernel29.main F _ = @Cert.Kernel29Ideal.main F _ := rfl
theorem defs_eq29 [Cert.Kernel29.Facts] [Cert.Kernel29Ideal.Facts] : @Cert.Kernel29.defs F _ _ = @Cert.Kernel29Ideal.defs F _ _ :=
  congrArg (Pipeline.defs _) (congrArg Defs.onTc (table rfl))

theorem main_eq30 [Cert.Kernel30.Facts] [Cert.Kernel30Ideal.Facts] : @Cert.Kernel30.main F _ = @Cert.Kernel30Ideal.main F _ := rfl
theorem defs_eq30 [Cert.Kernel30.Facts] [Cert.Kernel30Ideal.Facts] : @Cert.Kernel30.defs F _ _ = @Cert.Kernel30Ideal.defs F _ _ :=
  congrArg (Pipeline.defs _) (congrArg Defs.onTc (table rfl))

theorem main_eq31 [Cert.Kernel31.Facts] [Cert.Kernel31Ideal.Facts] : @Cert.Kernel31.main F _ = @Cert.Kernel31Ideal.main F _ := rfl
theorem defs_eq31 [Cert.Kernel31.Facts] [Cert.Kernel31Ideal.Facts] : @Cert.Kernel31.defs F _ _ = @Cert.Kernel31Ideal.defs F _ _ :=
  congrArg (Pipeline.defs _) (congrArg Defs.onTc (table rfl))

theorem main_eq32 [Cert.Kernel32.Facts] [Cert.Kernel32Ideal.Facts] : @Cert.Kernel32.main F _ = @Cert.Kernel32Ideal.main F _ := rfl
theorem defs_eq32 [Cert.Kernel32.Facts] [Cert.Kernel32Ideal.Facts] : @Cert.Kernel32.defs F _ _ = @Cert.Kernel32Ideal.defs F _ _ :=
  congrArg (Pipeline.defs _) (congrArg Defs.onTc (table rfl))

end Cert.Twin
-- ==== Proof.Norm.lean ====
/-
  The gradient of a projection's input through the projection and the norm before it, twice: for the gated MLP and the recurrent mixer.
-/
module

public import proofs.«01_k».proof.Proof.Facts
public import proofs.«01_k».proof.Proof.Row
public import proofs.«01_k».proof.Proof.Twins
public import proofs.«01_k».proof.Proof.Gen.Kernel2Ideal.Value
public import proofs.«01_k».proof.Proof.Gen.Reference2Ideal.Run
public import proofs.«01_k».proof.Proof.Gen.Kernel7Ideal.Value
public import proofs.«01_k».proof.Proof.Gen.Reference7Ideal.Run
public import Idealize.ShloMosaic.Lib.Claim
public import Idealize.ShloMosaic.Lib.Quiescent
public import Idealize.ShloMosaic.Lib.Pipeline.ValueKit

@[expose] public section

set_option maxRecDepth 16384

noncomputable section

/-! The results, as functions of the five arguments: the cotangent of the projected rows, the projection, the norm's input and scale, and
the cotangent that the calls after it hand over. -/

namespace Cert.Norm

open Idealize.ShloMosaic

variable {K : ℕ} (A : Vec Ideal ⟨2, ![16400, K]⟩ .bf16) (W : Vec Ideal ⟨2, ![1024, K]⟩ .f32) (H : Vec Ideal ⟨2, ![16400, 1024]⟩ .f32)
  (G : Vec Ideal ⟨1, ![1024]⟩ .f32) (U : Vec Ideal ⟨2, ![16400, 1024]⟩ .f32)

/-- The cotangent of the scaled row `R` before the scale. -/
def dn (R : Fin 16400) (d : Fin 1024) : EReal := ∑ l : Fin K, A (ix2 R l) * W (ix2 d l)

/-- The input's cotangent. -/
def dh : Vec Ideal ⟨2, ![16400, 1024]⟩ .f32 := fun j =>
  U j + Row.back (fun k => H (ix2 ⟨(j 0).val, (j 0).isLt⟩ k)) (fun k => dn A W ⟨(j 0).val, (j 0).isLt⟩ k * G (ix1 k)) ⟨(j 1).val, (j 1).isLt⟩

/-- One row's share of the scale's cotangent. -/
def share (d : Fin 1024) (R : Fin 16400) : EReal := dn A W R d * (H (ix2 R d) * Row.inv fun k => H (ix2 R k))

/-- The scale's cotangent. -/
def dg : Vec Ideal ⟨2, ![1, 1024]⟩ .f32 := fun j => ∑ R : Fin 16400, share A W H ⟨(j 1).val, (j 1).isLt⟩ R

end Cert.Norm

namespace Cert.Kernel2Ideal.Grad

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The four arguments and the input cotangent that the calls after it hand over. -/
abbrev X0 (c : Dev nD) : Vec Ideal S16400x5632 .bf16 := m ((c.tc : Thread nD τ).loc main_arg0)
abbrev X1 (c : Dev nD) : Vec Ideal S1024x5632 .f32 := m ((c.tc : Thread nD τ).loc main_arg1)
abbrev X2 (c : Dev nD) : Vec Ideal S16400x1024 .f32 := m ((c.tc : Thread nD τ).loc main_arg2)
abbrev X3 (c : Dev nD) : Vec Ideal S1024 .f32 := m ((c.tc : Thread nD τ).loc main_arg3)
abbrev X4 (c : Dev nD) : Vec Ideal S16400x1024 .f32 := m ((c.tc : Thread nD τ).loc main_arg4)

/-! One point's payloads at an index. -/

theorem mul_at (x : Vec Ideal S656x5632 .bf16) (w : Vec Ideal S5632x1024 .bf16) (r : Fin 656) (d : Fin 1024) :
    k0_pay2 x w (ix2 r d) = ∑ l : Fin 5632, x (ix2 r l) * w (ix2 l d) := by
  pointwise [k0_pay2]

theorem inv_at (h : Vec Ideal S656x1024 .f32) (r : Fin 656) : k0_pay3 h (ix2 r 0) = Row.inv fun k => h (ix2 r k) := by
  pointwise [k0_pay3]
  rfl

theorem hat_at (h : Vec Ideal S656x1024 .f32) (r : Fin 656) (d : Fin 1024) :
    k0_pay4 h (ix2 r d) = h (ix2 r d) * Row.inv fun k => h (ix2 r k) := by
  pointwise [k0_pay4]
  rw [inv_at]

theorem dh_at (x : Vec Ideal S656x5632 .bf16) (w : Vec Ideal S5632x1024 .bf16) (h : Vec Ideal S656x1024 .f32) (g : Vec Ideal S1x1024 .f32)
    (u : Vec Ideal S656x1024 .f32) (r : Fin 656) (d : Fin 1024) :
    k0_pay5 x w h g u (ix2 r d) = u (ix2 r d) + Row.back (fun k => h (ix2 r k)) (fun k => k0_pay2 x w (ix2 r k) * g (ix2 0 k)) d := by
  pointwise [k0_pay5]
  rw [inv_at]
  simp only [hat_at]
  rfl

theorem dg_at (x : Vec Ideal S656x5632 .bf16) (w : Vec Ideal S5632x1024 .bf16) (h : Vec Ideal S656x1024 .f32) (d : Fin 1024) :
    k0_pay6 x w h (ix2 0 d) = ∑ r : Fin 656, k0_pay2 x w (ix2 r d) * (h (ix2 r d) * Row.inv fun k => h (ix2 r k)) := by
  pointwise [k0_pay6]
  simp only [hat_at]

theorem add_at (v acc : Vec Ideal S1x1024 .f32) (j : S1x1024.Idx) : k0_pay1 v acc j = acc j + v j := by
  pointwise [k0_pay1]

/-! The staged blocks at an index. -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem row_lt (t : Fin cfg0.N) (r : Fin 656) : t.val * 656 + r.val < 16400 := by
  have := lt_of_lt_of_eq t.isLt N_0
  omega

variable (c : Dev nD)

theorem blk0 (t : Fin cfg0.N) (r : Fin 656) (l : Fin 5632) : iblk m c 0 t (ix2 r l) = X0 m c (ix2 ⟨t.val * 656 + r.val, row_lt t r⟩ l) := by
  have e : iblk m c 0 t (ix2 r l) = V m c main_arg0 (ix2 ⟨t.val * 656 + r.val, row_lt t r⟩ l) := by blk_ext [iblk, idx t]
  rw [e, V_main_arg0]

theorem blk1 (t : Fin cfg0.N) (l : Fin 5632) (d : Fin 1024) : iblk m c 1 t (ix2 l d) = X1 m c (ix2 d l) := by
  have e : iblk m c 1 t (ix2 l d) = V m c main_v1 (ix2 l d) := by blk_ext [iblk, idx t]
  rw [e]
  unfold V hostOps0
  after_results
  pointwise

theorem blk2 (t : Fin cfg0.N) (r : Fin 656) (d : Fin 1024) : iblk m c 2 t (ix2 r d) = X2 m c (ix2 ⟨t.val * 656 + r.val, row_lt t r⟩ d) := by
  have e : iblk m c 2 t (ix2 r d) = V m c main_arg2 (ix2 ⟨t.val * 656 + r.val, row_lt t r⟩ d) := by blk_ext [iblk, idx t]
  rw [e, V_main_arg2]

theorem blk3 (t : Fin cfg0.N) (d : Fin 1024) : iblk m c 3 t (ix2 0 d) = X3 m c (ix1 d) := by
  have e : iblk m c 3 t (ix2 0 d) = V m c main_v2 (ix2 0 d) := by blk_ext [iblk, idx t]
  rw [e]
  unfold V hostOps0
  after_results
  pointwise

theorem blk4 (t : Fin cfg0.N) (r : Fin 656) (d : Fin 1024) : iblk m c 4 t (ix2 r d) = X4 m c (ix2 ⟨t.val * 656 + r.val, row_lt t r⟩ d) := by
  have e : iblk m c 4 t (ix2 r d) = V m c main_arg4 (ix2 ⟨t.val * 656 + r.val, row_lt t r⟩ d) := by blk_ext [iblk, idx t]
  rw [e, V_main_arg4]

/-! The results. -/

theorem dn_blk (t : Fin cfg0.N) (r : Fin 656) (d : Fin 1024) :
    k0_pay2 (F := Ideal) (iblk m c 0 t) (iblk m c 1 t) (ix2 r d) = Norm.dn (X0 m c) (X1 m c) ⟨t.val * 656 + r.val, row_lt t r⟩ d := by
  rw [mul_at]
  exact Finset.sum_congr rfl fun l _ => by rw [blk0, blk1]

theorem dh_blk (t : Fin cfg0.N) (r : Fin 656) (d : Fin 1024) :
    k0_pay5 (F := Ideal) (iblk m c 0 t) (iblk m c 1 t) (iblk m c 2 t) (iblk m c 3 t) (iblk m c 4 t) (ix2 r d)
      = Norm.dh (X0 m c) (X1 m c) (X2 m c) (X3 m c) (X4 m c) (ix2 ⟨t.val * 656 + r.val, row_lt t r⟩ d) := by
  rw [dh_at, blk4]
  simp only [dn_blk, blk2, blk3]
  rfl

theorem dg_blk (t : Fin cfg0.N) (d : Fin 1024) :
    k0_pay6 (F := Ideal) (iblk m c 0 t) (iblk m c 1 t) (iblk m c 2 t) (ix2 0 d)
      = ∑ r : Fin 656, Norm.share (X0 m c) (X1 m c) (X2 m c) d ⟨t.val * 656 + r.val, row_lt t r⟩ := by
  rw [dg_at]
  exact Finset.sum_congr rfl fun r _ => by rw [dn_blk]; simp only [blk2]; rfl

theorem final5 : (dats m 0 c).arrAt 5 cfg0.N = Norm.dh (X0 m c) (X1 m c) (X2 m c) (X3 m c) (X4 m c) := by
  refine (dats m 0 c).arrAt_eq_of_covers 5 _ (by decide +kernel) fun t hf y => ?_
  obtain ⟨_, _, _, _, _, i5, _⟩ := idx t
  blk_simp [i5]
  rw [after0_5]
  have e : (outsAt0 m c t.val t.isLt).1 = k0_pay5 (F := Ideal) (iblk m c 0 t) (iblk m c 1 t) (iblk m c 2 t) (iblk m c 3 t) (iblk m c 4 t) := by
    by_cases h0 : t.val % 25 = 0
    · rw [outsAt0_A m c t h0 (by have := lt_of_lt_of_eq t.isLt N_0; omega)]
      frame_out
    · rw [outsAt0_B m c t h0 (by omega)]
      frame_out
  rw [e]
  obtain ⟨r, d, rfl⟩ : ∃ (r : Fin 656) (d : Fin 1024), y = ix2 r d :=
    ⟨⟨(y 0).val, (y 0).isLt⟩, ⟨(y 1).val, (y 1).isLt⟩, by idx_ext⟩
  rw [dh_blk]
  blk_ext [i5]

theorem final6 : (dats m 0 c).arrAt 6 cfg0.N = Norm.dg (X0 m c) (X1 m c) (X2 m c) := by
  refine (dats m 0 c).arrAt_eq_of_covers 6 _ (by decide +kernel) fun t hf y => ?_
  obtain ⟨_, _, _, _, _, _, i6⟩ := idx t
  blk_simp [i6]
  rw [after0_6, Pipeline.eq_sum_fin_of_reset_step_apply_of_flush (fun n h => (outsAt0 m c n h).2) 25 (fun _ => 0)
    (fun t j => k0_pay6 (F := Ideal) (iblk m c 0 t) (iblk m c 1 t) (iblk m c 2 t) j)
    (fun t h j => by rw [outsAt0_A m c t h (by have := lt_of_lt_of_eq t.isLt N_0; omega)]; frame_out; rw [zero_add])
    (fun t h j => by rw [outsAt0_B m c t h (by omega)]; frame_out; rw [add_at])
    t ((flush0_6 t).mp hf) _, zero_add]
  obtain ⟨d, rfl⟩ : ∃ d : Fin 1024, y = ix2 0 d := ⟨⟨(y 1).val, (y 1).isLt⟩, by idx_ext⟩
  refine Eq.trans ?_ (congrArg (Norm.dg (X0 m c) (X1 m c) (X2 m c)) (show (ix2 0 d : S1x1024.Idx) = _ by blk_ext [i6]))
  simp only [dg_blk]
  unfold Norm.dg
  refine Fin.sum_mul_add_congr fun s k hl => congrArg (Norm.share (X0 m c) (X1 m c) (X2 m c) d) (Fin.ext ?_)
  have := lt_of_lt_of_eq t.isLt N_0
  dsimp only
  omega

end Cert.Kernel2Ideal.Grad

namespace Cert.Proof

open Idealize.ShloMosaic Idealize.ShloMosaic.TcCoe Idealize.SL.Sem

set_option maxRecDepth 100000 in
theorem algebraic2 : Cert.algebraic_Kernel2Ideal_Reference2Ideal := by
  pair_intro
  · run_from Cert.Kernel2Ideal.Value.run_blocks m g
  · run_from Cert.Reference2Ideal.Value.run m' g'
    · rw [Cert.Kernel2Ideal.Grad.final5]
      obtain ⟨h0, h1, h2, h3, h4⟩ := hagree c
      unfold Cert.Reference2Ideal.Value.res_main_v44
      rw [h0, h1, h2, h3, h4]
      funext j
      idx_vars j
      unfold Cert.Norm.dh
      rw [Cert.Row.pull]
      pointwise [Cert.Row.sum_ends]
      rw [Fin.sum_univ_one]
      rfl
    · rw [Cert.Kernel2Ideal.Grad.final6]
      funext j
      idx_vars j
      unfold Cert.Norm.dg Cert.Norm.share
      pointwise [Cert.Row.sum_lead]
      exact Finset.sum_congr rfl fun R _ => mul_comm _ _

/-- The two readings have the same text, so the frame of the kernel as printed is the ideal reading's at the machine's floats. -/
theorem frame2 : Cert.quiescent_Kernel2 := fun m g _ => by
  rw [Cert.Twin.defs_eq2, Cert.Twin.main_eq2]
  exact Cert.Kernel2Ideal.Gen.frame (F := Bits) m g

theorem frame_ideal2 : Cert.quiescent_Kernel2Ideal := fun m g _ => Cert.Kernel2Ideal.Gen.frame m g

theorem frame_reference2 : Cert.quiescent_Reference2Ideal := fun m g _ =>
  (θ_run _ _ _).mono (fun r h => ⟨fun c => (h c).2.2, sem_eq_zero_of_no_sems (sig := Cert.Reference2Ideal.sig) (by decide) r.2⟩)
    (Cert.Reference2Ideal.Value.run m g)

end Cert.Proof

namespace Cert.Kernel7Ideal.Grad

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

abbrev X0 (c : Dev nD) : Vec Ideal S16400x2560 .bf16 := m ((c.tc : Thread nD τ).loc main_arg0)
abbrev X1 (c : Dev nD) : Vec Ideal S1024x2560 .f32 := m ((c.tc : Thread nD τ).loc main_arg1)
abbrev X2 (c : Dev nD) : Vec Ideal S16400x1024 .f32 := m ((c.tc : Thread nD τ).loc main_arg2)
abbrev X3 (c : Dev nD) : Vec Ideal S1024 .f32 := m ((c.tc : Thread nD τ).loc main_arg3)
abbrev X4 (c : Dev nD) : Vec Ideal S16400x1024 .f32 := m ((c.tc : Thread nD τ).loc main_arg4)

/-! One point's payloads at an index. -/

theorem mul_at (x : Vec Ideal S656x2560 .bf16) (w : Vec Ideal S2560x1024 .bf16) (r : Fin 656) (d : Fin 1024) :
    k0_pay2 x w (ix2 r d) = ∑ l : Fin 2560, x (ix2 r l) * w (ix2 l d) := by
  pointwise [k0_pay2]

theorem inv_at (h : Vec Ideal S656x1024 .f32) (r : Fin 656) : k0_pay3 h (ix2 r 0) = Row.inv fun k => h (ix2 r k) :=
  Kernel2Ideal.Grad.inv_at h r

theorem hat_at (h : Vec Ideal S656x1024 .f32) (r : Fin 656) (d : Fin 1024) :
    k0_pay4 h (ix2 r d) = h (ix2 r d) * Row.inv fun k => h (ix2 r k) :=
  Kernel2Ideal.Grad.hat_at h r d

theorem dh_at (x : Vec Ideal S656x2560 .bf16) (w : Vec Ideal S2560x1024 .bf16) (h : Vec Ideal S656x1024 .f32) (g : Vec Ideal S1x1024 .f32)
    (u : Vec Ideal S656x1024 .f32) (r : Fin 656) (d : Fin 1024) :
    k0_pay5 x w h g u (ix2 r d) = u (ix2 r d) + Row.back (fun k => h (ix2 r k)) (fun k => k0_pay2 x w (ix2 r k) * g (ix2 0 k)) d := by
  pointwise [k0_pay5]
  rw [inv_at]
  simp only [hat_at]
  rfl

theorem dg_at (x : Vec Ideal S656x2560 .bf16) (w : Vec Ideal S2560x1024 .bf16) (h : Vec Ideal S656x1024 .f32) (d : Fin 1024) :
    k0_pay6 x w h (ix2 0 d) = ∑ r : Fin 656, k0_pay2 x w (ix2 r d) * (h (ix2 r d) * Row.inv fun k => h (ix2 r k)) := by
  pointwise [k0_pay6]
  simp only [hat_at]

theorem add_at (v acc : Vec Ideal S1x1024 .f32) (j : S1x1024.Idx) : k0_pay1 v acc j = acc j + v j :=
  Kernel2Ideal.Grad.add_at v acc j

/-! The staged blocks at an index. -/

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem row_lt (t : Fin cfg0.N) (r : Fin 656) : t.val * 656 + r.val < 16400 := by
  have := lt_of_lt_of_eq t.isLt N_0
  omega

variable (c : Dev nD)

theorem blk0 (t : Fin cfg0.N) (r : Fin 656) (l : Fin 2560) : iblk m c 0 t (ix2 r l) = X0 m c (ix2 ⟨t.val * 656 + r.val, row_lt t r⟩ l) := by
  have e : iblk m c 0 t (ix2 r l) = V m c main_arg0 (ix2 ⟨t.val * 656 + r.val, row_lt t r⟩ l) := by blk_ext [iblk, idx t]
  rw [e, V_main_arg0]

theorem blk1 (t : Fin cfg0.N) (l : Fin 2560) (d : Fin 1024) : iblk m c 1 t (ix2 l d) = X1 m c (ix2 d l) := by
  have e : iblk m c 1 t (ix2 l d) = V m c main_v1 (ix2 l d) := by blk_ext [iblk, idx t]
  rw [e]
  unfold V hostOps0
  after_results
  pointwise

theorem blk2 (t : Fin cfg0.N) (r : Fin 656) (d : Fin 1024) : iblk m c 2 t (ix2 r d) = X2 m c (ix2 ⟨t.val * 656 + r.val, row_lt t r⟩ d) := by
  have e : iblk m c 2 t (ix2 r d) = V m c main_arg2 (ix2 ⟨t.val * 656 + r.val, row_lt t r⟩ d) := by blk_ext [iblk, idx t]
  rw [e, V_main_arg2]

theorem blk3 (t : Fin cfg0.N) (d : Fin 1024) : iblk m c 3 t (ix2 0 d) = X3 m c (ix1 d) := by
  have e : iblk m c 3 t (ix2 0 d) = V m c main_v2 (ix2 0 d) := by blk_ext [iblk, idx t]
  rw [e]
  unfold V hostOps0
  after_results
  pointwise

theorem blk4 (t : Fin cfg0.N) (r : Fin 656) (d : Fin 1024) : iblk m c 4 t (ix2 r d) = X4 m c (ix2 ⟨t.val * 656 + r.val, row_lt t r⟩ d) := by
  have e : iblk m c 4 t (ix2 r d) = V m c main_arg4 (ix2 ⟨t.val * 656 + r.val, row_lt t r⟩ d) := by blk_ext [iblk, idx t]
  rw [e, V_main_arg4]

/-! The results. -/

theorem dn_blk (t : Fin cfg0.N) (r : Fin 656) (d : Fin 1024) :
    k0_pay2 (F := Ideal) (iblk m c 0 t) (iblk m c 1 t) (ix2 r d) = Norm.dn (X0 m c) (X1 m c) ⟨t.val * 656 + r.val, row_lt t r⟩ d := by
  rw [mul_at]
  exact Finset.sum_congr rfl fun l _ => by rw [blk0, blk1]

theorem dh_blk (t : Fin cfg0.N) (r : Fin 656) (d : Fin 1024) :
    k0_pay5 (F := Ideal) (iblk m c 0 t) (iblk m c 1 t) (iblk m c 2 t) (iblk m c 3 t) (iblk m c 4 t) (ix2 r d)
      = Norm.dh (X0 m c) (X1 m c) (X2 m c) (X3 m c) (X4 m c) (ix2 ⟨t.val * 656 + r.val, row_lt t r⟩ d) := by
  rw [dh_at, blk4]
  simp only [dn_blk, blk2, blk3]
  rfl

theorem dg_blk (t : Fin cfg0.N) (d : Fin 1024) :
    k0_pay6 (F := Ideal) (iblk m c 0 t) (iblk m c 1 t) (iblk m c 2 t) (ix2 0 d)
      = ∑ r : Fin 656, Norm.share (X0 m c) (X1 m c) (X2 m c) d ⟨t.val * 656 + r.val, row_lt t r⟩ := by
  rw [dg_at]
  exact Finset.sum_congr rfl fun r _ => by rw [dn_blk]; simp only [blk2]; rfl

theorem final5 : (dats m 0 c).arrAt 5 cfg0.N = Norm.dh (X0 m c) (X1 m c) (X2 m c) (X3 m c) (X4 m c) := by
  refine (dats m 0 c).arrAt_eq_of_covers 5 _ (by decide +kernel) fun t hf y => ?_
  obtain ⟨_, _, _, _, _, i5, _⟩ := idx t
  blk_simp [i5]
  rw [after0_5]
  have e : (outsAt0 m c t.val t.isLt).1 = k0_pay5 (F := Ideal) (iblk m c 0 t) (iblk m c 1 t) (iblk m c 2 t) (iblk m c 3 t) (iblk m c 4 t) := by
    by_cases h0 : t.val % 25 = 0
    · rw [outsAt0_A m c t h0 (by have := lt_of_lt_of_eq t.isLt N_0; omega)]
      frame_out
    · rw [outsAt0_B m c t h0 (by omega)]
      frame_out
  rw [e]
  obtain ⟨r, d, rfl⟩ : ∃ (r : Fin 656) (d : Fin 1024), y = ix2 r d :=
    ⟨⟨(y 0).val, (y 0).isLt⟩, ⟨(y 1).val, (y 1).isLt⟩, by idx_ext⟩
  rw [dh_blk]
  blk_ext [i5]

theorem final6 : (dats m 0 c).arrAt 6 cfg0.N = Norm.dg (X0 m c) (X1 m c) (X2 m c) := by
  refine (dats m 0 c).arrAt_eq_of_covers 6 _ (by decide +kernel) fun t hf y => ?_
  obtain ⟨_, _, _, _, _, _, i6⟩ := idx t
  blk_simp [i6]
  rw [after0_6, Pipeline.eq_sum_fin_of_reset_step_apply_of_flush (fun n h => (outsAt0 m c n h).2) 25 (fun _ => 0)
    (fun t j => k0_pay6 (F := Ideal) (iblk m c 0 t) (iblk m c 1 t) (iblk m c 2 t) j)
    (fun t h j => by rw [outsAt0_A m c t h (by have := lt_of_lt_of_eq t.isLt N_0; omega)]; frame_out; rw [zero_add])
    (fun t h j => by rw [outsAt0_B m c t h (by omega)]; frame_out; rw [add_at])
    t ((flush0_6 t).mp hf) _, zero_add]
  obtain ⟨d, rfl⟩ : ∃ d : Fin 1024, y = ix2 0 d := ⟨⟨(y 1).val, (y 1).isLt⟩, by idx_ext⟩
  refine Eq.trans ?_ (congrArg (Norm.dg (X0 m c) (X1 m c) (X2 m c)) (show (ix2 0 d : S1x1024.Idx) = _ by blk_ext [i6]))
  simp only [dg_blk]
  unfold Norm.dg
  refine Fin.sum_mul_add_congr fun s k hl => congrArg (Norm.share (X0 m c) (X1 m c) (X2 m c) d) (Fin.ext ?_)
  have := lt_of_lt_of_eq t.isLt N_0
  dsimp only
  omega

end Cert.Kernel7Ideal.Grad

namespace Cert.Proof

open Idealize.ShloMosaic Idealize.ShloMosaic.TcCoe Idealize.SL.Sem

set_option maxRecDepth 100000 in
theorem algebraic7 : Cert.algebraic_Kernel7Ideal_Reference7Ideal := by
  pair_intro
  · run_from Cert.Kernel7Ideal.Value.run_blocks m g
  · run_from Cert.Reference7Ideal.Value.run m' g'
    · rw [Cert.Kernel7Ideal.Grad.final5]
      obtain ⟨h0, h1, h2, h3, h4⟩ := hagree c
      unfold Cert.Reference7Ideal.Value.res_main_v44
      rw [h0, h1, h2, h3, h4]
      funext j
      idx_vars j
      unfold Cert.Norm.dh
      rw [Cert.Row.pull]
      pointwise [Cert.Row.sum_ends]
      rw [Fin.sum_univ_one]
      rfl
    · rw [Cert.Kernel7Ideal.Grad.final6]
      funext j
      idx_vars j
      unfold Cert.Norm.dg Cert.Norm.share
      pointwise [Cert.Row.sum_lead]
      exact Finset.sum_congr rfl fun R _ => mul_comm _ _

theorem frame7 : Cert.quiescent_Kernel7 := fun m g _ => by
  rw [Cert.Twin.defs_eq7, Cert.Twin.main_eq7]
  exact Cert.Kernel7Ideal.Gen.frame (F := Bits) m g

theorem frame_ideal7 : Cert.quiescent_Kernel7Ideal := fun m g _ => Cert.Kernel7Ideal.Gen.frame m g

theorem frame_reference7 : Cert.quiescent_Reference7Ideal := fun m g _ =>
  (θ_run _ _ _).mono (fun r h => ⟨fun c => (h c).2.2, sem_eq_zero_of_no_sems (sig := Cert.Reference7Ideal.sig) (by decide) r.2⟩)
    (Cert.Reference7Ideal.Value.run m g)

end Cert.Proof

end
-- ==== Proof.Wgrads.lean ====
/-
  The weight gradients: products of two arrays over all rows, in column tiles that are each accumulated over five row tiles.
-/
module

public import proofs.«01_k».proof.Proof.Facts
public import proofs.«01_k».proof.Proof.Twins
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem

namespace Cert.Wgrad

/-- The transposed product over all rows. -/
def total {M : ℕ} (A : Vec Ideal ⟨2, ![16400, M]⟩ .bf16) (B : Vec Ideal ⟨2, ![16400, 1024]⟩ .bf16) : Vec Ideal ⟨2, ![M, 1024]⟩ .f32 :=
  fun j => ∑ l : Fin 16400, A (ix2 l ⟨(j 0).val, (j 0).isLt⟩) * B (ix2 l ⟨(j 1).val, (j 1).isLt⟩)

/-- The sum over the one batch element and the rows, its factors in the other order. -/
theorem batch {n : ℕ} (f g : Fin 1 → Fin n → EReal) : ∑ b, ∑ l, f b l * g b l = ∑ l, g 0 l * f 0 l :=
  (Fin.sum_univ_one _).trans (Finset.sum_congr rfl fun _ _ => mul_comm _ _)

end Cert.Wgrad

/-! The up projection of the gated MLP: four column tiles. -/

namespace Cert.Kernel3Ideal.Grad

open Cert.Kernel3Ideal Cert.Kernel3Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1408x1024 .f32) (x : Vec Ideal S3280x1408 .bf16) (y : Vec Ideal S3280x1024 .bf16) (j : S1408x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel3Ideal.Grad

namespace Cert.Proof

set_option maxRecDepth 100000 in
theorem algebraic3 : Cert.algebraic_Kernel3Ideal_Reference3Ideal := by
  pair_intro
  · run_from Cert.Kernel3Ideal.Value.run_blocks m g
  · run_from Cert.Reference3Ideal.Value.run m' g'
    rw [Cert.Kernel3Ideal.Grad.final]
    funext j
    unfold Cert.Wgrad.total
    pointwise
    exact Fin.sum_univ_one _

theorem frame3 : Cert.quiescent_Kernel3 := fun m g _ => by
  rw [Cert.Twin.defs_eq3, Cert.Twin.main_eq3]
  exact Cert.Kernel3Ideal.Gen.frame (F := Bits) m g

theorem frame_ideal3 : Cert.quiescent_Kernel3Ideal := fun m g _ => Cert.Kernel3Ideal.Gen.frame m g

theorem frame_reference3 : Cert.quiescent_Reference3Ideal := fun m g _ =>
  (θ_run _ _ _).mono (fun r h => ⟨fun c => (h c).2, sem_eq_zero_of_no_sems (sig := Cert.Reference3Ideal.sig) (by decide) r.2⟩)
    (Cert.Reference3Ideal.Value.run m g)

end Cert.Proof

/-! The down projection of the gated MLP: two column tiles. -/

namespace Cert.Kernel4Ideal.Grad

open Cert.Kernel4Ideal Cert.Kernel4Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1408x1024 .f32) (x : Vec Ideal S3280x1408 .bf16) (y : Vec Ideal S3280x1024 .bf16) (j : S1408x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel4Ideal.Grad

namespace Cert.Proof

set_option maxRecDepth 100000 in
theorem algebraic4 : Cert.algebraic_Kernel4Ideal_Reference4Ideal := by
  pair_intro
  · run_from Cert.Kernel4Ideal.Value.run_blocks m g
  · run_from Cert.Reference4Ideal.Value.run m' g'
    rw [Cert.Kernel4Ideal.Grad.final]
    funext j
    unfold Cert.Wgrad.total
    pointwise
    exact Cert.Wgrad.batch (fun _ _ => _) fun _ _ => _

theorem frame4 : Cert.quiescent_Kernel4 := fun m g _ => by
  rw [Cert.Twin.defs_eq4, Cert.Twin.main_eq4]
  exact Cert.Kernel4Ideal.Gen.frame (F := Bits) m g

theorem frame_ideal4 : Cert.quiescent_Kernel4Ideal := fun m g _ => Cert.Kernel4Ideal.Gen.frame m g

theorem frame_reference4 : Cert.quiescent_Reference4Ideal := fun m g _ =>
  (θ_run _ _ _).mono (fun r h => ⟨fun c => (h c).2, sem_eq_zero_of_no_sems (sig := Cert.Reference4Ideal.sig) (by decide) r.2⟩)
    (Cert.Reference4Ideal.Value.run m g)

end Cert.Proof

/-! The output projection of the short convolution mixer: one column tile. -/

namespace Cert.Kernel8Ideal.Grad

open Cert.Kernel8Ideal Cert.Kernel8Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1024x1024 .f32) (x : Vec Ideal S3280x1024 .bf16) (y : Vec Ideal S3280x1024 .bf16) (j : S1024x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel8Ideal.Grad

namespace Cert.Proof

set_option maxRecDepth 100000 in
theorem algebraic8 : Cert.algebraic_Kernel8Ideal_Reference8Ideal := by
  pair_intro
  · run_from Cert.Kernel8Ideal.Value.run_blocks m g
  · run_from Cert.Reference8Ideal.Value.run m' g'
    rw [Cert.Kernel8Ideal.Grad.final]
    funext j
    unfold Cert.Wgrad.total
    pointwise
    exact Cert.Wgrad.batch (fun _ _ => _) fun _ _ => _

theorem frame8 : Cert.quiescent_Kernel8 := fun m g _ => by
  rw [Cert.Twin.defs_eq8, Cert.Twin.main_eq8]
  exact Cert.Kernel8Ideal.Gen.frame (F := Bits) m g

theorem frame_ideal8 : Cert.quiescent_Kernel8Ideal := fun m g _ => Cert.Kernel8Ideal.Gen.frame m g

theorem frame_reference8 : Cert.quiescent_Reference8Ideal := fun m g _ =>
  (θ_run _ _ _).mono (fun r h => ⟨fun c => (h c).2, sem_eq_zero_of_no_sems (sig := Cert.Reference8Ideal.sig) (by decide) r.2⟩)
    (Cert.Reference8Ideal.Value.run m g)

end Cert.Proof

/-! The input projection of the short convolution mixer: three column tiles. -/

namespace Cert.Kernel9Ideal.Grad

open Cert.Kernel9Ideal Cert.Kernel9Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1024x1024 .f32) (x : Vec Ideal S3280x1024 .bf16) (y : Vec Ideal S3280x1024 .bf16) (j : S1024x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel9Ideal.Grad

namespace Cert.Proof

set_option maxRecDepth 100000 in
theorem algebraic9 : Cert.algebraic_Kernel9Ideal_Reference9Ideal := by
  pair_intro
  · run_from Cert.Kernel9Ideal.Value.run_blocks m g
  · run_from Cert.Reference9Ideal.Value.run m' g'
    rw [Cert.Kernel9Ideal.Grad.final]
    funext j
    unfold Cert.Wgrad.total
    pointwise
    exact Fin.sum_univ_one _

theorem frame9 : Cert.quiescent_Kernel9 := fun m g _ => by
  rw [Cert.Twin.defs_eq9, Cert.Twin.main_eq9]
  exact Cert.Kernel9Ideal.Gen.frame (F := Bits) m g

theorem frame_ideal9 : Cert.quiescent_Kernel9Ideal := fun m g _ => Cert.Kernel9Ideal.Gen.frame m g

theorem frame_reference9 : Cert.quiescent_Reference9Ideal := fun m g _ =>
  (θ_run _ _ _).mono (fun r h => ⟨fun c => (h c).2, sem_eq_zero_of_no_sems (sig := Cert.Reference9Ideal.sig) (by decide) r.2⟩)
    (Cert.Reference9Ideal.Value.run m g)

end Cert.Proof

/-! The output projection of the recurrent mixer: one column tile. -/

namespace Cert.Kernel10Ideal.Grad

open Cert.Kernel10Ideal Cert.Kernel10Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1280x1024 .f32) (x : Vec Ideal S3280x1280 .bf16) (y : Vec Ideal S3280x1024 .bf16) (j : S1280x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel10Ideal.Grad

namespace Cert.Proof

set_option maxRecDepth 100000 in
theorem algebraic10 : Cert.algebraic_Kernel10Ideal_Reference10Ideal := by
  pair_intro
  · run_from Cert.Kernel10Ideal.Value.run_blocks m g
  · run_from Cert.Reference10Ideal.Value.run m' g'
    rw [Cert.Kernel10Ideal.Grad.final]
    funext j
    unfold Cert.Wgrad.total
    pointwise
    exact Cert.Wgrad.batch (fun _ _ => _) fun _ _ => _

theorem frame10 : Cert.quiescent_Kernel10 := fun m g _ => by
  rw [Cert.Twin.defs_eq10, Cert.Twin.main_eq10]
  exact Cert.Kernel10Ideal.Gen.frame (F := Bits) m g

theorem frame_ideal10 : Cert.quiescent_Kernel10Ideal := fun m g _ => Cert.Kernel10Ideal.Gen.frame m g

theorem frame_reference10 : Cert.quiescent_Reference10Ideal := fun m g _ =>
  (θ_run _ _ _).mono (fun r h => ⟨fun c => (h c).2, sem_eq_zero_of_no_sems (sig := Cert.Reference10Ideal.sig) (by decide) r.2⟩)
    (Cert.Reference10Ideal.Value.run m g)

end Cert.Proof

/-! The input projection of the recurrent mixer: two column tiles. -/

namespace Cert.Kernel11Ideal.Grad

open Cert.Kernel11Ideal Cert.Kernel11Ideal.Gen

theorem idx : ∀ t : Fin cfg0.N, win0_0.index t = ![t.val % 5, t.val / 5] ∧ win0_1.index t = ![t.val % 5, 0] ∧ win0_2.index t = ![t.val / 5, 0] :=
  (by decide +kernel : ∀ t : Fin grid0.N, _)

theorem zero_at (j) : k0_pay1 (F := Ideal) j = 0 := by pointwise [k0_pay1]

theorem step_at (acc : Vec Ideal S1280x1024 .f32) (x : Vec Ideal S3280x1280 .bf16) (y : Vec Ideal S3280x1024 .bf16) (j : S1280x1024.Idx) :
    k0_pay2 acc x y j = acc j + ∑ l : Fin 3280, x (ix2 l ⟨(j 0).val, (j 0).isLt⟩) * y (ix2 l ⟨(j 1).val, (j 1).isLt⟩) := by
  pointwise [k0_pay2]

theorem final (m : (ℓ : Loc nD τ sig) → Buf (Elt Ideal) ℓ) (c : Dev nD) :
    (dats m 0 c).arrAt 2 cfg0.N = Cert.Wgrad.total (m ((c : Thread nD τ).loc main_arg0)) (m ((c : Thread nD τ).loc main_arg1)) := by
  refine (dats m 0 c).arrAt_eq_of_covers 2 _ (by decide +kernel) fun t hf y => ?_
  obtain ⟨i0, i1, i2⟩ := idx t
  blk_simp [i2]
  rw [after0_2, Pipeline.eq_sum_fin_of_reset_step_apply_of_flush (fun n h => outsAt0 m c n h) 5 (fun _ => 0) _
    (fun t h j => by rw [outsAt0_A m c t h]; frame_out; rw [step_at, zero_at])
    (fun t h j => by rw [outsAt0_B m c t h]; frame_out; rw [step_at]) t ((flush0_2 t).mp hf) _, zero_add]
  unfold Cert.Wgrad.total
  refine Fin.sum_mul_add_congr fun s k hl => ?_
  blk_point [iblk, V, idx t, idx ⟨_, Pipeline.run_point_lt_of_flush t ((flush0_2 t).mp hf) s⟩]

end Cert.Kernel11Ideal.Grad

namespace Cert.Proof

set_option maxRecDepth 100000 in
theorem algebraic11 : Cert.algebraic_Kernel11Ideal_Reference11Ideal := by
  pair_intro
  · run_from Cert.Kernel11Ideal.Value.run_blocks m g
  · run_from Cert.Reference11Ideal.Value.run m' g'
    rw [Cert.Kernel11Ideal.Grad.final]
    funext j
    unfold Cert.Wgrad.total
    pointwise
    exact Fin.sum_univ_one _

theorem frame11 : Cert.quiescent_Kernel11 := fun m g _ => by
  rw [Cert.Twin.defs_eq11, Cert.Twin.main_eq11]
  exact Cert.Kernel11Ideal.Gen.frame (F := Bits) m g

theorem frame_ideal11 : Cert.quiescent_Kernel11Ideal := fun m g _ => Cert.Kernel11Ideal.Gen.frame m g

theorem frame_reference11 : Cert.quiescent_Reference11Ideal := fun m g _ =>
  (θ_run _ _ _).mono (fun r h => ⟨fun c => (h c).2, sem_eq_zero_of_no_sems (sig := Cert.Reference11Ideal.sig) (by decide) r.2⟩)
    (Cert.Reference11Ideal.Value.run m g)

end Cert.Proof

end
-- ==== Proof.Resid.lean ====
/-
  The down projection with the residual added.
-/
module

public import proofs.«01_k».proof.Proof.Facts
public import proofs.«01_k».proof.Proof.Twins
public import proofs.«01_k».proof.Proof.Gen.Kernel12Ideal.Value
public import proofs.«01_k».proof.Proof.Gen.Reference12Ideal.Run
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem

namespace Cert.Kernel12Ideal.Grad

open Cert.Kernel12Ideal Cert.Kernel12Ideal.Gen

variable (m : (ℓ : Loc nD τ sig) → Buf (Elt Ideal) ℓ) (c : Dev nD)

abbrev X0 : Vec Ideal S16400x2816 .bf16 := m ((c.tc : Thread nD τ).loc main_arg0)
abbrev X1 : Vec Ideal S2816x1024 .f32 := m ((c.tc : Thread nD τ).loc main_arg1)
abbrev X2 : Vec Ideal S16400x1024 .f32 := m ((c.tc : Thread nD τ).loc main_arg2)

theorem sum_at (h : Vec Ideal S656x1024 .f32) (z : Vec Ideal S656x2816 .bf16) (w : Vec Ideal S2816x1024 .bf16) (r : Fin 656) (d : Fin 1024) :
    k0_pay1 h z w (ix2 r d) = h (ix2 r d) + ∑ l : Fin 2816, z (ix2 r l) * w (ix2 l d) := by
  pointwise [k0_pay1]

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem row_lt (t : Fin cfg0.N) (r : Fin 656) : t.val * 656 + r.val < 16400 := by
  have := lt_of_lt_of_eq t.isLt N_0
  omega

theorem blk0 (t : Fin cfg0.N) (r : Fin 656) (l : Fin 2816) : iblk m c 0 t (ix2 r l) = X0 m c (ix2 ⟨t.val * 656 + r.val, row_lt t r⟩ l) := by
  have e : iblk m c 0 t (ix2 r l) = V m c main_arg0 (ix2 ⟨t.val * 656 + r.val, row_lt t r⟩ l) := by blk_ext [iblk, idx t]
  rw [e, V_main_arg0]

theorem blk1 (t : Fin cfg0.N) (l : Fin 2816) (d : Fin 1024) : iblk m c 1 t (ix2 l d) = X1 m c (ix2 l d) := by
  have e : iblk m c 1 t (ix2 l d) = V m c main_v0 (ix2 l d) := by blk_ext [iblk, idx t]
  rw [e]
  unfold V hostOps0
  after_results
  pointwise

theorem blk2 (t : Fin cfg0.N) (r : Fin 656) (d : Fin 1024) : iblk m c 2 t (ix2 r d) = X2 m c (ix2 ⟨t.val * 656 + r.val, row_lt t r⟩ d) := by
  have e : iblk m c 2 t (ix2 r d) = V m c main_arg2 (ix2 ⟨t.val * 656 + r.val, row_lt t r⟩ d) := by blk_ext [iblk, idx t]
  rw [e, V_main_arg2]

/-- The result. -/
def sum : Vec Ideal S16400x1024 .f32 := fun j =>
  X2 m c j + ∑ l : Fin 2816, X0 m c (ix2 ⟨(j 0).val, (j 0).isLt⟩ l) * X1 m c (ix2 l ⟨(j 1).val, (j 1).isLt⟩)

theorem final : (dats m 0 c).arrAt 3 cfg0.N = sum m c := by
  refine (dats m 0 c).arrAt_eq_of_covers 3 _ (by decide +kernel) fun t hf y => ?_
  obtain ⟨_, _, _, i3⟩ := idx t
  blk_simp [i3]
  rw [after0_3]
  unfold out0_3
  frame_out
  obtain ⟨r, d, rfl⟩ : ∃ (r : Fin 656) (d : Fin 1024), y = ix2 r d :=
    ⟨⟨(y 0).val, (y 0).isLt⟩, ⟨(y 1).val, (y 1).isLt⟩, by idx_ext⟩
  rw [sum_at]
  refine Eq.trans ?_ (congrArg (sum m c) (show (ix2 ⟨t.val * 656 + r.val, row_lt t r⟩ d : S16400x1024.Idx) = _ by blk_ext [i3]))
  rw [blk2]
  simp only [blk0, blk1]
  rfl

end Cert.Kernel12Ideal.Grad

namespace Cert.Proof

set_option maxRecDepth 100000 in
theorem algebraic12 : Cert.algebraic_Kernel12Ideal_Reference12Ideal := by
  pair_intro
  · run_from Cert.Kernel12Ideal.Value.run_blocks m g
  · run_from Cert.Reference12Ideal.Value.run m' g'
    rw [Cert.Kernel12Ideal.Grad.final]
    funext j
    unfold Cert.Kernel12Ideal.Grad.sum
    idx_vars j
    pointwise

theorem frame12 : Cert.quiescent_Kernel12 := fun m g _ => by
  rw [Cert.Twin.defs_eq12, Cert.Twin.main_eq12]
  exact Cert.Kernel12Ideal.Gen.frame (F := Bits) m g

theorem frame_ideal12 : Cert.quiescent_Kernel12Ideal := fun m g _ => Cert.Kernel12Ideal.Gen.frame m g

theorem frame_reference12 : Cert.quiescent_Reference12Ideal := fun m g _ =>
  (θ_run _ _ _).mono (fun r h => ⟨fun c => (h c).2, sem_eq_zero_of_no_sems (sig := Cert.Reference12Ideal.sig) (by decide) r.2⟩)
    (Cert.Reference12Ideal.Value.run m g)

end Cert.Proof

end
-- ==== Proof.Up.lean ====
/-
  The gated MLP's forward pass up to the down projection: the norm, the up projection, the causal convolution and the gate.
-/
module

public import proofs.«01_k».proof.Proof.Facts
public import proofs.«01_k».proof.Proof.Row
public import proofs.«01_k».proof.Proof.Final
public import proofs.«01_k».proof.Proof.Twins
public import proofs.«01_k».proof.Proof.Gen.Kernel6Ideal.Frame
public import proofs.«01_k».proof.Proof.Gen.Reference6Ideal.Read
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

/-! The results, as functions of the arguments: the rows, the norm's scale, the projection and the convolution's taps. -/

namespace Cert.Up

open Idealize.ShloMosaic

abbrev ScP : Shape := ⟨2, ![1024, 5632]⟩

variable (H : Cert.Spec.ScH.Idx → EReal) (g : (⟨1, ![1024]⟩ : Shape).Idx → EReal) (W : ScP.Idx → EReal) (w : Cert.Spec.ScK.Idx → EReal)

/-- The normalized row. -/
def normed (R : Fin 16400) (d : Fin 1024) : EReal := H (ix2 R d) * (Cert.Row.inv fun k => H (ix2 R k)) * g (ix1 d)

/-- The projected row. -/
def rows : Cert.Spec.ScA.Idx → EReal := fun y => ∑ d : Fin 1024, normed H g ⟨(y 0).val, (y 0).isLt⟩ d * W (ix2 d ⟨(y 1).val, (y 1).isLt⟩)

/-- The gated product at time `n`. -/
def gated (n : ℕ) (f : Fin 2816) : EReal :=
  Cert.Spec.gate (rows H g W) w n f * Cert.Spec.sig (Cert.Spec.gate (rows H g W) w n f) * Cert.Spec.value (rows H g W) w n f

end Cert.Up

namespace Cert.Kernel6Ideal.Fwd

open Cert.Kernel6Ideal Cert.Kernel6Ideal.Gen
open Idealize.ShloMosaic Idealize.ShloMosaic.TcCoe Idealize.SL.Sem
open Idealize.ShloMosaic.Pipeline (Dat)
open Cert.Spec (time lag)

/-! One point's payloads at an index. -/

theorem norm_at (h : Vec Ideal S400x1024 .f32) (g : Vec Ideal S1x1024 .f32) (r : Fin 400) (d : Fin 1024) :
    k0_pay3 h g (ix2 r d) = h (ix2 r d) * (Cert.Row.inv fun k => h (ix2 r k)) * g (ix2 0 d) := by
  pointwise [k0_pay3]
  rfl

theorem mul_at (n : Vec Ideal S400x1024 .bf16) (w : Vec Ideal S1024x2816 .bf16) (r : Fin 400) (f : Fin 2816) :
    k0_pay4 n w (ix2 r f) = ∑ d : Fin 1024, n (ix2 r d) * w (ix2 d f) := by
  pointwise [k0_pay4]

section Conv

variable (i : ℕ) (f : Fin 2816) (G : ℕ → EReal) (v : FVec Ideal S400x2816 .f32) (w0 w1 w2 : FVec Ideal S1x2816 .f32)
  (p q : FVec Ideal S8x2816 .f32) (hv : ∀ r : Fin 400, v (ix2 r f) = G (time i r.val + 2))
  (hp : p (ix2 7 f) = G (i * 400 + 1)) (hq : q (ix2 7 f) = G (i * 400))
include hv hp hq

theorem conv_at (r : Fin 400) : k0_pay5 v w0 w1 w2 p q (ix2 r f)
      = w0 (ix2 0 f) * G (time i r.val) + w1 (ix2 0 f) * G (time i r.val + 1) + w2 (ix2 0 f) * G (time i r.val + 2) := by
  pointwise [k0_pay5]
  simp (disch := word_cmp_side) only [hlo_ix]
  refine congrArg₂ (· + ·) (congrArg₂ (· + ·) (congrArg (w0 (ix2 0 f) * ·) ?_) (congrArg (w1 (ix2 0 f) * ·) ?_))
    (congrArg (w2 (ix2 0 f) * ·) (hv r))
  · exact Shift.back2 i G (fun r => v (ix2 r f)) (fun x => p (ix2 x f)) (fun x => q (ix2 x f)) hv hp hq r
  · exact Shift.back1 i G (fun r => v (ix2 r f)) (fun x => p (ix2 x f)) hv hp r

end Conv

theorem carry_at (v : FVec Ideal S400x2816 .f32) (q : Fin 16) (f : Fin 2816) : k0_pay6 v (ix2 q f) = v (ix2 ⟨384 + q.val, by omega⟩ f) := by
  pointwise [k0_pay6]

theorem gated_at (x y : FVec Ideal S400x2816 .f32) (r : Fin 400) (f : Fin 2816) :
    k0_pay1 x y (k0_pay10 (F := Ideal) x) (ix2 r f) = x (ix2 r f) * Cert.Spec.sig (x (ix2 r f)) * y (ix2 r f) := by
  pointwise [k0_pay1, k0_pay10]
  unfold Cert.Spec.sig
  simp only [sub_eq_add_neg, zero_add]

/-! The staged blocks at an index. -/

variable (m : (ℓ : Loc nD τ sig) → Buf (Elt Ideal) ℓ) (c : Dev nD)

/-- The four arguments, and the projected rows. -/
abbrev X0 : FVec Ideal S16400x1024 .f32 := m ((c.tc : Thread nD τ).loc main_arg0)
abbrev X1 : FVec Ideal S1024 .f32 := m ((c.tc : Thread nD τ).loc main_arg1)
abbrev X2 : FVec Ideal S1024x5632 .f32 := m ((c.tc : Thread nD τ).loc main_arg2)
abbrev X3 : FVec Ideal S3x5632 .f32 := m ((c.tc : Thread nD τ).loc main_arg3)
abbrev A : Cert.Spec.ScA.Idx → EReal := Cert.Up.rows (X0 m c) (X1 m c) (X2 m c)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

theorem lt (t : Fin cfg0.N) : t.val < 41 := lt_of_lt_of_eq t.isLt N_0

theorem blk0 (t : Fin cfg0.N) (r : Fin 400) (d : Fin 1024) :
    iblk m c 0 t (ix2 r d) = X0 m c (ix2 ⟨time t.val r.val, Shift.time_lt (lt t) r⟩ d) := by
  have ht := lt t
  have e : iblk m c 0 t (ix2 r d) = V m c main_v2 (ix2 ⟨t.val * 400 + r.val, by omega⟩ d) := by blk_ext [iblk, idx t]
  rw [e]
  unfold V V0
  simp only [List.flatten_cons, List.flatten_nil, List.append_nil]
  unfold hostOps0
  after_results
  pointwise
  exact congrArg (X0 m c) (congrArg (fun x => ix2 x d) (Fin.ext (by unfold time; dsimp only; omega)))

theorem blk1 (t : Fin cfg0.N) (d : Fin 1024) : iblk m c 1 t (ix2 0 d) = X1 m c (ix1 d) := by
  have e : iblk m c 1 t (ix2 0 d) = V m c main_v3 (ix2 0 d) := by blk_ext [iblk, idx t]
  rw [e]
  unfold V V0
  simp only [List.flatten_cons, List.flatten_nil, List.append_nil]
  unfold hostOps0
  after_results
  pointwise

theorem blk2 (t : Fin cfg0.N) (d : Fin 1024) (f : Fin 5632) : iblk m c 2 t (ix2 d f) = X2 m c (ix2 d f) := by
  have e : iblk m c 2 t (ix2 d f) = V m c main_v4 (ix2 d f) := by blk_ext [iblk, idx t]
  rw [e]
  unfold V V0
  simp only [List.flatten_cons, List.flatten_nil, List.append_nil]
  unfold hostOps0
  after_results
  pointwise

theorem blk3 (t : Fin cfg0.N) (k : Fin 3) (f : Fin 5632) : iblk m c 3 t (ix2 k f) = X3 m c (ix2 k f) := by
  have e : iblk m c 3 t (ix2 k f) = V m c main_arg3 (ix2 k f) := by blk_ext [iblk, idx t]
  rw [e, V_main_arg3]

/-- The tile's normalized rows. -/
theorem norm_blk (t : Fin cfg0.N) (r : Fin 400) (d : Fin 1024) :
    k0_pay3 (iblk m c 0 t) (iblk m c 1 t) (ix2 r d) = Cert.Up.normed (X0 m c) (X1 m c) ⟨time t.val r.val, Shift.time_lt (lt t) r⟩ d := by
  rw [norm_at]
  simp only [blk0, blk1]
  rfl

/-- What one half of a tile (`cl` its columns) takes from its blocks: the rows projected on its columns, and the taps. -/
structure Half (t : Fin cfg0.N) (cl : Fin 2816 → Fin 5632) (v : FVec Ideal S400x2816 .f32) (w0 w1 w2 : FVec Ideal S1x2816 .f32) : Prop where
  rows : ∀ (r : Fin 400) f, v (ix2 r f) = lag (A m c) (time t.val r.val + 2) (cl f)
  tap0 : ∀ f, w0 (ix2 0 f) = X3 m c (ix2 0 (cl f))
  tap1 : ∀ f, w1 (ix2 0 f) = X3 m c (ix2 1 (cl f))
  tap2 : ∀ f, w2 (ix2 0 f) = X3 m c (ix2 2 (cl f))

theorem mul_blk (t : Fin cfg0.N) (w : Vec Ideal S1024x2816 .bf16) (cl : Fin 2816 → Fin 5632)
    (hw : ∀ (d : Fin 1024) f, w (ix2 d f) = X2 m c (ix2 d (cl f))) (r : Fin 400) (f : Fin 2816) :
    k0_pay4 (k0_pay3 (iblk m c 0 t) (iblk m c 1 t)) w (ix2 r f) = lag (A m c) (time t.val r.val + 2) (cl f) := by
  rw [mul_at, Cert.Spec.lag_row _ (Shift.time_lt (lt t) r)]
  exact Finset.sum_congr rfl fun d _ => by rw [norm_blk, hw]; rfl

theorem half_lo (t : Fin cfg0.N) : Half m c t Cert.Spec.lo
    (k0_pay4 (k0_pay3 (iblk m c 0 t) (iblk m c 1 t)) (View.ld (iblk m c 2 t) (Rect.unit ![0, 0] ![1024, 2816] inb_S1024x5632_S1024x2816_0_0)))
    (View.ld (iblk m c 3 t) (Rect.unit ![0, 0] ![1, 2816] inb_S3x5632_S1x2816_0_0))
    (View.ld (iblk m c 3 t) (Rect.unit ![1, 0] ![1, 2816] inb_S3x5632_S1x2816_1_0))
    (View.ld (iblk m c 3 t) (Rect.unit ![2, 0] ![1, 2816] inb_S3x5632_S1x2816_2_0)) where
  rows r f := by
    refine mul_blk m c t _ _ (fun d f => ?_) r f
    rw [← blk2 m c t]
    pointwise
    rfl
  tap0 f := by
    rw [← blk3 m c t]
    pointwise
    rfl
  tap1 f := by
    rw [← blk3 m c t]
    pointwise
    rfl
  tap2 f := by
    rw [← blk3 m c t]
    pointwise
    rfl

theorem half_hi (t : Fin cfg0.N) : Half m c t Cert.Spec.hi
    (k0_pay7 (k0_pay3 (iblk m c 0 t) (iblk m c 1 t)) (View.ld (iblk m c 2 t) (Rect.unit ![0, 2816] ![1024, 2816] inb_S1024x5632_S1024x2816_0_2816)))
    (View.ld (iblk m c 3 t) (Rect.unit ![0, 2816] ![1, 2816] inb_S3x5632_S1x2816_0_2816))
    (View.ld (iblk m c 3 t) (Rect.unit ![1, 2816] ![1, 2816] inb_S3x5632_S1x2816_1_2816))
    (View.ld (iblk m c 3 t) (Rect.unit ![2, 2816] ![1, 2816] inb_S3x5632_S1x2816_2_2816)) where
  rows r f := by
    refine mul_blk m c t _ _ (fun d f => ?_) r f
    rw [← blk2 m c t]
    pointwise
    rfl
  tap0 f := by
    rw [← blk3 m c t]
    pointwise
    rfl
  tap1 f := by
    rw [← blk3 m c t]
    pointwise
    rfl
  tap2 f := by
    rw [← blk3 m c t]
    pointwise
    rfl

variable {m c}

/-- The two rows before a tile, for one half. -/
def Before (t : Fin cfg0.N) (cl : Fin 2816 → Fin 5632) (p q : FVec Ideal S8x2816 .f32) : Prop :=
  ∀ f, p (ix2 7 f) = lag (A m c) (t.val * 400 + 1) (cl f) ∧ q (ix2 7 f) = lag (A m c) (t.val * 400) (cl f)

section Z

variable {t : Fin cfg0.N} {cl : Fin 2816 → Fin 5632} {v u : FVec Ideal S400x2816 .f32} {w0 w1 w2 z0 z1 z2 : FVec Ideal S1x2816 .f32}
  {p q p' q' : FVec Ideal S8x2816 .f32}

theorem Half.conv (L : Half m c t cl v w0 w1 w2) (B : Before (m := m) (c := c) t cl p q) (r : Fin 400) (f : Fin 2816) :
    k0_pay5 v w0 w1 w2 p q (ix2 r f) = Cert.Spec.conv (A m c) (X3 m c) (time t.val r.val) (cl f) := by
  rw [conv_at t.val f (fun n => lag (A m c) n (cl f)) v w0 w1 w2 p q (fun r => L.rows r f) (B f).1 (B f).2, L.tap0, L.tap1, L.tap2]
  rfl

theorem gated_blk (L : Half m c t Cert.Spec.lo v w0 w1 w2) (L' : Half m c t Cert.Spec.hi u z0 z1 z2)
    (B : Before (m := m) (c := c) t Cert.Spec.lo p q) (B' : Before (m := m) (c := c) t Cert.Spec.hi p' q') (r : Fin 400) (f : Fin 2816) :
    k0_pay1 (k0_pay5 v w0 w1 w2 p q) (k0_pay8 u z0 z1 z2 p' q') (k0_pay10 (F := Ideal) (k0_pay5 v w0 w1 w2 p q)) (ix2 r f)
      = Cert.Up.gated (X0 m c) (X1 m c) (X2 m c) (X3 m c) (time t.val r.val) f := by
  rw [gated_at, L.conv B, show k0_pay8 u z0 z1 z2 p' q' (ix2 r f) = _ from L'.conv B' r f]
  rfl

end Z

variable (m c)

/-! What a point leaves. -/

theorem at_n (t : Fin cfg0.N) (r : Fin 400) (d : Fin 1024) :
    (outsAt0 m c t.val t.isLt).1 (ix2 r d) = Cert.Up.normed (X0 m c) (X1 m c) ⟨time t.val r.val, Shift.time_lt (lt t) r⟩ d := by
  by_cases h : t.val % 41 = 0
  · rw [outsAt0_A m c t h]
    frame_out
    exact norm_blk m c t r d
  · rw [outsAt0_B m c t h]
    frame_out
    exact norm_blk m c t r d

theorem at_a (t : Fin cfg0.N) (r : Fin 400) (d : Fin 5632) :
    (outsAt0 m c t.val t.isLt).2.1 (ix2 r d) = lag (A m c) (time t.val r.val + 2) d := by
  by_cases h : t.val % 41 = 0
  · rw [outsAt0_A m c t h]
    frame_out
    canon_tiles x hx
    case piece0 =>
      idx_vars x
      obtain rfl : r = x0 := Fin.ext hx0
      obtain rfl : d = Cert.Spec.hi x1 := Fin.ext hx1
      exact (half_hi m c t).rows r x1
    case piece1 =>
      idx_vars x
      obtain rfl : r = x0 := Fin.ext hx0
      obtain rfl : d = Cert.Spec.lo x1 := Fin.ext hx1
      exact (half_lo m c t).rows r x1
  · rw [outsAt0_B m c t h]
    frame_out
    canon_tiles x hx
    case piece0 =>
      idx_vars x
      obtain rfl : r = x0 := Fin.ext hx0
      obtain rfl : d = Cert.Spec.hi x1 := Fin.ext hx1
      exact (half_hi m c t).rows r x1
    case piece1 =>
      idx_vars x
      obtain rfl : r = x0 := Fin.ext hx0
      obtain rfl : d = Cert.Spec.lo x1 := Fin.ext hx1
      exact (half_lo m c t).rows r x1

theorem carry_blk (t : Fin cfg0.N) (cl : Fin 2816 → Fin 5632) {v : FVec Ideal S400x2816 .f32} {w0 w1 w2 : FVec Ideal S1x2816 .f32}
    (L : Half m c t cl v w0 w1 w2) (q : Fin 16) (f : Fin 2816) :
    k0_pay6 v (ix2 q f) = lag (A m c) (time t.val (384 + q.val) + 2) (cl f) :=
  (carry_at v q f).trans (L.rows _ f)

theorem at_carry (t : Fin cfg0.N) (q : Fin 16) (d : Fin 5632) :
    (outsAt0 m c t.val t.isLt).2.2.2 (ix2 q d) = lag (A m c) (time t.val (384 + q.val) + 2) d := by
  by_cases h : t.val % 41 = 0
  · rw [outsAt0_A m c t h]
    frame_out
    refine (Cert.KernelIdeal.Val.canon_append [_] [_, _] _ (View.cover_of_tiled_head _ _ _ (by rfl) _)).trans ?_
    canon_tiles x hx
    case piece0 =>
      idx_vars x
      obtain rfl : q = x0 := Fin.ext hx0
      obtain rfl : d = Cert.Spec.hi x1 := Fin.ext hx1
      exact carry_blk m c t _ (half_hi m c t) q x1
    case piece1 =>
      idx_vars x
      obtain rfl : q = x0 := Fin.ext hx0
      obtain rfl : d = Cert.Spec.lo x1 := Fin.ext hx1
      exact carry_blk m c t _ (half_lo m c t) q x1
  · rw [outsAt0_B m c t h]
    frame_out
    canon_tiles x hx
    case piece0 =>
      idx_vars x
      obtain rfl : q = x0 := Fin.ext hx0
      obtain rfl : d = Cert.Spec.hi x1 := Fin.ext hx1
      exact carry_blk m c t _ (half_hi m c t) q x1
    case piece1 =>
      idx_vars x
      obtain rfl : q = x0 := Fin.ext hx0
      obtain rfl : d = Cert.Spec.lo x1 := Fin.ext hx1
      exact carry_blk m c t _ (half_lo m c t) q x1

/-- The carried rows that point `t` finds. -/
theorem carried (t : Fin cfg0.N) (h : ¬t.val % 41 = 0) (hp : t.val - 1 < cfg0.N) (d : Fin 5632) :
    (outsAt0 m c (t.val - 1) hp).2.2.2 (ix2 15 d) = lag (A m c) (t.val * 400 + 1) d
      ∧ (outsAt0 m c (t.val - 1) hp).2.2.2 (ix2 7 d) = lag (A m c) (t.val * 400) d := by
  have ht : t.val ≠ 0 := fun e => h (by rw [e])
  constructor
  · refine (at_carry m c ⟨t.val - 1, hp⟩ 15 d).trans (congrArg (fun n => lag (A m c) n d) ?_)
    show (t.val - 1) * 400 + (384 + 15) % 8 * 50 + (384 + 15) / 8 + 2 = _
    omega
  · refine (at_carry m c ⟨t.val - 1, hp⟩ 7 d).trans (congrArg (fun n => lag (A m c) n d) ?_)
    show (t.val - 1) * 400 + (384 + 7) % 8 * 50 + (384 + 7) / 8 + 2 = _
    omega

theorem at_z (t : Fin cfg0.N) (r : Fin 400) (d : Fin 2816) :
    (outsAt0 m c t.val t.isLt).2.2.1 (ix2 r d) = Cert.Up.gated (X0 m c) (X1 m c) (X2 m c) (X3 m c) (time t.val r.val) d := by
  have ht := lt t
  by_cases h : t.val % 41 = 0
  · rw [outsAt0_A m c t h]
    frame_out
    refine gated_blk (half_lo m c t) (half_hi m c t) (fun f => ?_) (fun f => ?_) r d
    · rw [Cert.Spec.lag_zero _ (by omega), Cert.Spec.lag_zero _ (by omega)]
      constructor
      · rw [View.readCov_fill _ _ _ _ _ (by decide)]
        pointwise [k0_pay2]
      · rw [View.readCov_fill _ _ _ _ _ (by decide)]
        pointwise [k0_pay2]
    · rw [Cert.Spec.lag_zero _ (by omega), Cert.Spec.lag_zero _ (by omega)]
      constructor
      · simp (disch := decide) only [↓View.readCov_skip]
        rw [View.readCov_fill _ _ _ _ _ (by decide)]
        pointwise [k0_pay2]
      · simp (disch := decide) only [↓View.readCov_skip]
        rw [View.readCov_fill _ _ _ _ _ (by decide)]
        pointwise [k0_pay2]
  · rw [outsAt0_B m c t h]
    frame_out
    rw [read_unread_whole]
    refine gated_blk (half_lo m c t) (half_hi m c t) (fun f => ⟨?_, ?_⟩) (fun f => ⟨?_, ?_⟩) r d
    · rw [← (carried m c t h _ _).1]
      pointwise
      rfl
    · rw [← (carried m c t h _ _).2]
      pointwise
      rfl
    · rw [← (carried m c t h _ _).1]
      pointwise
      rfl
    · rw [← (carried m c t h _ _).2]
      pointwise
      rfl

/-! The arrays, in tile order: row `n` of the array is time `at n`. -/

abbrev row (n : ℕ) : ℕ := n / 400 * 400 + n % 8 * 50 + n / 8 % 50

theorem row_eq (t : Fin cfg0.N) (r : Fin 400) : time t.val r.val = row (t.val * 400 + r.val) := by
  unfold time row
  omega

theorem row_lt {n : ℕ} (h : n < 16400) : row n < 16400 := by
  unfold row
  omega

theorem arr4 : (dats m 0 c).arrAt 4 cfg0.N = fun y : S16400x1024.Idx =>
    Cert.Up.normed (X0 m c) (X1 m c) ⟨row (y 0).val, row_lt (y 0).isLt⟩ (y 1) := by
  refine (dats m 0 c).arrAt_eq_of_covers 4 _ (by decide +kernel) fun t hf y => ?_
  have ht := lt t
  have e1 : (win0_4.blk t).view.emb y 1 = (⟨(y 1).val, (y 1).isLt⟩ : Fin 1024) := Fin.ext (by blk_simp [idx t])
  blk_simp [idx t]
  rw [after0_4, e1]
  revert y
  change ∀ y : S400x1024.Idx, _
  intro y e1
  idx_vars y
  refine (at_n m c t y0 y1).trans ?_
  exact congrArg (fun n => Cert.Up.normed (X0 m c) (X1 m c) n y1) (Fin.ext (row_eq t y0))

theorem arr5 : (dats m 0 c).arrAt 5 cfg0.N = fun y : S16400x5632.Idx => lag (A m c) (row (y 0).val + 2) (y 1) := by
  refine (dats m 0 c).arrAt_eq_of_covers 5 _ (by decide +kernel) fun t hf y => ?_
  have ht := lt t
  have e1 : (win0_5.blk t).view.emb y 1 = (⟨(y 1).val, (y 1).isLt⟩ : Fin 5632) := Fin.ext (by blk_simp [idx t])
  blk_simp [idx t]
  rw [after0_5, e1]
  revert y
  change ∀ y : S400x5632.Idx, _
  intro y e1
  idx_vars y
  refine (at_a m c t y0 y1).trans ?_
  exact congrArg (fun n => lag (A m c) (n + 2) y1) (row_eq t y0)

theorem arr6 : (dats m 0 c).arrAt 6 cfg0.N = fun y : S16400x2816.Idx =>
    Cert.Up.gated (X0 m c) (X1 m c) (X2 m c) (X3 m c) (row (y 0).val) (y 1) := by
  refine (dats m 0 c).arrAt_eq_of_covers 6 _ (by decide +kernel) fun t hf y => ?_
  have ht := lt t
  have e1 : (win0_6.blk t).view.emb y 1 = (⟨(y 1).val, (y 1).isLt⟩ : Fin 2816) := Fin.ext (by blk_simp [idx t])
  blk_simp [idx t]
  rw [after0_6, e1]
  revert y
  change ∀ y : S400x2816.Idx, _
  intro y e1
  idx_vars y
  refine (at_z m c t y0 y1).trans ?_
  exact congrArg (fun n => Cert.Up.gated (X0 m c) (X1 m c) (X2 m c) (X3 m c) n y1) (row_eq t y0)

/-- The arrays after the region, as the host operations that follow it read them. -/
theorem left (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr (cfgs 0).spec (by decide) c (V0 m c) (fun w => (dats m 0 c).arrAt w (cfgs 0).N) w

/-- The results, in time order. -/
theorem res_n (n : Fin 16400) (d : Fin 1024) :
    Pipeline.afterTail₀ cfgs (dats m) 0 (V0 m) [hostOps1] c main_v8 (ix2 n d) = Cert.Up.normed (X0 m c) (X1 m c) n d := by
  unfold Pipeline.afterTail₀
  simp only [List.flatten_cons, List.flatten_nil, List.append_nil]
  unfold hostOps1
  after_results
  have e := (left m c 4).trans (arr4 m c)
  dsimp only [Pipeline.arrRef] at e
  erw [e]
  pointwise
  refine congrArg (fun k => Cert.Up.normed (X0 m c) (X1 m c) k d) (Fin.ext (Cert.KernelIdeal.Val.untile n.val))

theorem res_a (n : Fin 16400) (d : Fin 5632) :
    Pipeline.afterTail₀ cfgs (dats m) 0 (V0 m) [hostOps1] c main_v11 (ix2 n d) = A m c (ix2 n d) := by
  unfold Pipeline.afterTail₀
  simp only [List.flatten_cons, List.flatten_nil, List.append_nil]
  unfold hostOps1
  after_results
  have e := (left m c 5).trans (arr5 m c)
  dsimp only [Pipeline.arrRef] at e
  erw [e]
  pointwise
  refine (congrArg (fun k => lag (A m c) (k + 2) d) (Cert.KernelIdeal.Val.untile n.val)).trans ?_
  exact Cert.Spec.lag_row (A m c) n.isLt d

theorem res_z (n : Fin 16400) (d : Fin 2816) :
    Pipeline.afterTail₀ cfgs (dats m) 0 (V0 m) [hostOps1] c main_v14 (ix2 n d)
      = Cert.Up.gated (X0 m c) (X1 m c) (X2 m c) (X3 m c) n.val d := by
  unfold Pipeline.afterTail₀
  simp only [List.flatten_cons, List.flatten_nil, List.append_nil]
  unfold hostOps1
  after_results
  have e := (left m c 6).trans (arr6 m c)
  dsimp only [Pipeline.arrRef] at e
  erw [e]
  pointwise
  refine congrArg (fun k => Cert.Up.gated (X0 m c) (X1 m c) (X2 m c) (X3 m c) k d) (Cert.KernelIdeal.Val.untile n.val)

end Cert.Kernel6Ideal.Fwd

/-! The reference's results at an index. -/

namespace Cert.Reference6Ideal.Read

open Cert.Reference6Ideal Cert.Reference6Ideal.Gen
open Idealize.ShloMosaic Idealize.ShloMosaic.TcCoe Idealize.SL.Sem

variable (x0 : FVec Ideal S16400x1024 .f32) (x1 : FVec Ideal S1024 .f32) (x2 : FVec Ideal S1024x5632 .f32) (x3 : FVec Ideal S3x5632 .f32)

theorem norm_at (n : Fin 16400) (d : Fin 1024) : val_main_v13 (F := Ideal) x0 x1 (ix3 0 n d) = Cert.Up.normed x0 x1 n d := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  unfold Cert.Up.normed Cert.Row.inv Cert.Row.meanSq
  simp only [zero_add]

theorem rows_at (n : Fin 16400) (c : Fin 5632) : val_main_v14 (F := Ideal) x0 x1 x2 (ix3 0 n c) = Cert.Up.rows x0 x1 x2 (ix2 n c) := by
  pointwise [val_main_v14, norm_at]
  rfl

theorem padded (n : Fin 16402) (c : Fin 5632) :
    val_main_v16 (F := Ideal) x0 x1 x2 (ix3 0 n c) = Cert.Spec.lag (Cert.Up.rows x0 x1 x2) n.val c := by
  pointwise [val_main_v16, val_main_v15, val_main_cst_2, rows_at]
  unfold Cert.Spec.lag
  by_cases h : (n : ℕ) < 2
  · rw [dif_pos h, dif_neg (by omega)]
  · rw [dif_neg h, dif_pos ⟨by omega, n.isLt⟩]

theorem conv_at (n : Fin 16400) (c : Fin 5632) :
    val_main_v36 (F := Ideal) x0 x1 x2 x3 (ix3 0 n c) = Cert.Spec.conv (Cert.Up.rows x0 x1 x2) x3 n.val c := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, padded]
  unfold Cert.Spec.conv
  rw [add_comm 1 (n : ℕ), add_comm 2 (n : ℕ), mul_comm (x3 _), mul_comm (x3 _), mul_comm (x3 _)]

theorem gate_at (n : Fin 16400) (f : Fin 2816) :
    val_main_v37 (F := Ideal) x0 x1 x2 x3 (ix3 0 n f) = Cert.Spec.gate (Cert.Up.rows x0 x1 x2) x3 n.val f := by
  pointwise [val_main_v37, conv_at]
  rfl

theorem res_n (n : Fin 16400) (d : Fin 1024) : val_main_v42 (F := Ideal) x0 x1 (ix2 n d) = Cert.Up.normed x0 x1 n d := by
  pointwise [val_main_v42, val_main_v41, norm_at]

theorem res_a (n : Fin 16400) (c : Fin 5632) : val_main_v43 (F := Ideal) x0 x1 x2 (ix2 n c) = Cert.Up.rows x0 x1 x2 (ix2 n c) := by
  pointwise [val_main_v43, rows_at]

theorem res_z (n : Fin 16400) (f : Fin 2816) : val_main_v45 (F := Ideal) x0 x1 x2 x3 (ix2 n f) = Cert.Up.gated x0 x1 x2 x3 n.val f := by
  pointwise [val_main_v45, val_main_v44, val_main_v40, val_main_v39, val_main_v38, val_main_call0_v5, val_main_call0_v4, val_main_call0_v3,
    val_main_call0_v2, val_main_call0_v1, val_main_call0_v0, val_main_call0_cst, val_main_call0_cst_0, gate_at, conv_at]
  rfl

end Cert.Reference6Ideal.Read

namespace Cert.Proof

open Idealize.ShloMosaic Idealize.ShloMosaic.TcCoe Idealize.SL.Sem

set_option maxRecDepth 100000 in
theorem algebraic6 : Cert.algebraic_Kernel6Ideal_Reference6Ideal := by
  pair_intro
  · run_from Cert.Kernel6Ideal.Gen.run_main m g
    · exact Cert.Kernel6Ideal.Gen.W_main_arg0 m (Cert.Kernel6Ideal.Gen.dats m) c
    · exact Cert.Kernel6Ideal.Gen.W_main_arg1 m (Cert.Kernel6Ideal.Gen.dats m) c
    · exact Cert.Kernel6Ideal.Gen.W_main_arg2 m (Cert.Kernel6Ideal.Gen.dats m) c
  · run_from Cert.Reference6Ideal.Value.run m' g'
    all_goals obtain ⟨e0, e1, e2, e3⟩ := hagree c
    · rw [Cert.Reference6Ideal.Read.val_main_v42_eq]
      funext j
      idx_vars j
      exact (Cert.Reference6Ideal.Read.res_n _ _ j0 j1).trans (Cert.Kernel6Ideal.Fwd.res_n m c j0 j1).symm
    · rw [Cert.Reference6Ideal.Read.val_main_v43_eq]
      funext j
      idx_vars j
      exact (Cert.Reference6Ideal.Read.res_a _ _ _ j0 j1).trans (Cert.Kernel6Ideal.Fwd.res_a m c j0 j1).symm
    · rw [Cert.Reference6Ideal.Read.val_main_v45_eq, e0, e1, e2, e3]
      funext j
      idx_vars j
      exact (Cert.Reference6Ideal.Read.res_z _ _ _ _ j0 j1).trans (Cert.Kernel6Ideal.Fwd.res_z m c j0 j1).symm

theorem frame6 : Cert.quiescent_Kernel6 := fun m g _ => by
  rw [Cert.Twin.defs_eq6, Cert.Twin.main_eq6]
  exact Cert.Kernel6Ideal.Gen.frame (F := Bits) m g

theorem frame_ideal6 : Cert.quiescent_Kernel6Ideal := fun m g _ => Cert.Kernel6Ideal.Gen.frame m g

theorem frame_reference6 : Cert.quiescent_Reference6Ideal := fun m g _ =>
  (θ_run _ _ _).mono (fun r h => ⟨fun c => (h c).2.2.2, sem_eq_zero_of_no_sems (sig := Cert.Reference6Ideal.sig) (by decide) r.2⟩)
    (Cert.Reference6Ideal.Value.run m g)

end Cert.Proof

end
-- ==== Proof.HoldSpec.lean ====
/-
  The gated convolution's gradients, on time rows: the projected row's three parts are the outer gate, the inner gate and the
  value; the product of the last two is convolved, gated and projected.
-/
module

public import proofs.«01_k».proof.Proof.Spec

@[expose] public section

set_option maxRecDepth 16384

noncomputable section

namespace Cert.Hold

open Idealize.ShloMosaic

abbrev ScO : Shape := ⟨2, ![1024, 1024]⟩
abbrev ScP : Shape := ⟨2, ![16400, 3072]⟩
abbrev ScT : Shape := ⟨2, ![3, 1024]⟩

/-- Column `f` of the outer gate, of the inner gate, of the value. -/
def outer (f : Fin 1024) : Fin 3072 := ⟨f.val, by omega⟩
def inner (f : Fin 1024) : Fin 3072 := ⟨1024 + f.val, by omega⟩
def value (f : Fin 1024) : Fin 3072 := ⟨2048 + f.val, by omega⟩

variable (dh : Cert.Spec.ScH.Idx → EReal) (W : ScO.Idx → EReal) (p : ScP.Idx → EReal) (w : ScT.Idx → EReal)

/-- The convolved product at time `n - 2`, zero before the first row. -/
def lag (n : ℕ) (f : Fin 1024) : EReal :=
  if h : 2 ≤ n ∧ n < 16402 then p (ix2 ⟨n - 2, by omega⟩ (inner f)) * p (ix2 ⟨n - 2, by omega⟩ (value f)) else 0

/-- The convolution at time `n`. -/
def conv (n : ℕ) (f : Fin 1024) : EReal :=
  w (ix2 0 f) * lag p n f + w (ix2 1 f) * lag p (n + 1) f + w (ix2 2 f) * lag p (n + 2) f

/-- The cotangent of the gated convolution at row `n`. -/
def dq (n : Fin 16400) (f : Fin 1024) : EReal := ∑ e : Fin 1024, dh (ix2 n e) * W (ix2 f e)

/-- The cotangent of the convolution at time `n`, zero after the last row. -/
def du (n : ℕ) (f : Fin 1024) : EReal := if h : n < 16400 then dq dh W ⟨n, h⟩ f * p (ix2 ⟨n, h⟩ (outer f)) else 0

/-- The cotangent of the convolved product at time `n`. -/
def dcv (n : ℕ) (f : Fin 1024) : EReal :=
  w (ix2 0 f) * du dh W p (n + 2) f + w (ix2 1 f) * du dh W p (n + 1) f + w (ix2 2 f) * du dh W p n f

/-- The gradient of the projected row `n`. -/
def dp (n : Fin 16400) (d : Fin 3072) : EReal :=
  if h : d.val < 1024 then dq dh W n ⟨d.val, h⟩ * conv p w n.val ⟨d.val, h⟩
  else if h : d.val < 2048 then dcv dh W p w n.val ⟨d.val - 1024, by omega⟩ * p (ix2 n (value ⟨d.val - 1024, by omega⟩))
  else dcv dh W p w n.val ⟨d.val - 2048, by omega⟩ * p (ix2 n (inner ⟨d.val - 2048, by omega⟩))

/-- One row's part of the gradient of tap `k`. -/
def part (k : ℕ) (f : Fin 1024) (n : ℕ) : EReal := du dh W p n f * lag p (n + k) f

/-- The gradient of tap `k`. -/
def dw (k : ℕ) (f : Fin 1024) : EReal := ∑ n : Fin 16400, part dh W p k f n.val

theorem dp_outer (n : Fin 16400) (f : Fin 1024) : dp dh W p w n (outer f) = dq dh W n f * conv p w n.val f := by
  unfold dp outer
  rw [dif_pos f.isLt]

theorem dp_inner (n : Fin 16400) (f : Fin 1024) : dp dh W p w n (inner f) = dcv dh W p w n.val f * p (ix2 n (value f)) := by
  have e : (⟨(inner f).val - 1024, by unfold inner; dsimp only; omega⟩ : Fin 1024) = f := Fin.ext (by unfold inner; dsimp only; omega)
  unfold dp
  rw [dif_neg (by unfold inner; dsimp only; omega), dif_pos (by unfold inner; dsimp only; omega), e]

theorem dp_value (n : Fin 16400) (f : Fin 1024) : dp dh W p w n (value f) = dcv dh W p w n.val f * p (ix2 n (inner f)) := by
  have e : (⟨(value f).val - 2048, by unfold value; dsimp only; omega⟩ : Fin 1024) = f := Fin.ext (by unfold value; dsimp only; omega)
  unfold dp
  rw [dif_neg (by unfold value; dsimp only; omega), dif_neg (by unfold value; dsimp only; omega), e]

theorem du_end {n : ℕ} (h : 16400 ≤ n) (f : Fin 1024) : du dh W p n f = 0 := dif_neg (by omega)

theorem lag_row {n : ℕ} (h : n < 16400) (f : Fin 1024) : lag p (n + 2) f = p (ix2 ⟨n, h⟩ (inner f)) * p (ix2 ⟨n, h⟩ (value f)) := by
  unfold lag
  rw [dif_pos ⟨by omega, by omega⟩]
  rfl

theorem lag_zero {n : ℕ} (h : n < 2) (f : Fin 1024) : lag p n f = 0 := dif_neg (by omega)

end Cert.Hold

end
-- ==== Proof.HoldTile.lean ====
/-
  One strip of 256 columns of one tile of the gated convolution's backward kernel, read at an index. The kernel works its four
  strips with the same lines, so what is said here of the lines of the first strip serves all four.
-/
module

public import proofs.«01_k».proof.Proof.HoldSpec
public import proofs.«01_k».proof.Proof.Shift
public import proofs.«01_k».proof.Proof.Gen.Kernel5Ideal.Skeleton
public import Idealize.ShloMosaic.Lib.Pipeline.ValueKit
public import Idealize.ShloMosaic.Lib.WordCmp

@[expose] public section

set_option maxRecDepth 16384

noncomputable section

namespace Cert.Kernel5Ideal.Tile

open Cert.Kernel5Ideal Cert.Kernel5Ideal.Gen
open Idealize.ShloMosaic Idealize.ShloMosaic.TcCoe Idealize.SL.Sem
open Cert.Spec (time)
open Cert.Hold (outer inner value)

/-- What a strip reads: the taps, the rows of the cast cotangent and the weights' columns, the strip's columns of the three
    parts of the projected rows, and of the two groups of rows before the tile. -/
structure Strip where
  w0 : FVec Ideal S1x256 .f32
  w1 : FVec Ideal S1x256 .f32
  w2 : FVec Ideal S1x256 .f32
  rows : FVec Ideal S400x1024 .bf16
  cols : FVec Ideal S1024x256 .bf16
  bg : FVec Ideal S400x256 .f32
  cg : FVec Ideal S400x256 .f32
  v : FVec Ideal S400x256 .f32
  cg1 : FVec Ideal S8x256 .f32
  v1 : FVec Ideal S8x256 .f32
  cg2 : FVec Ideal S8x256 .f32
  v2 : FVec Ideal S8x256 .f32

variable (ic : grid0.Coords) (S : Strip)

/-- The word that says whether this is the last point, whose tile has nothing before it. -/
abbrev oldest : BitVec 1 := Scalar.cmpi .eq (BitVec.ofNat 32 (ic 0).val) 40#32

/-- What the strip's lines compute: the product, the rows of the convolved product now, one and two steps before, the
    convolution's cotangent, and the stored pieces. -/
def dq : FVec Ideal S400x256 .f32 := k0_pay7 S.rows S.cols
def now : FVec Ideal S400x256 .f32 := k0_pay14 (k0_pay9 (F := Ideal) S.cg) (k0_pay10 (F := Ideal) S.v)
def one : FVec Ideal S400x256 .f32 :=
  k0_pay16 (oldest ic) (k0_pay9 (F := Ideal) S.cg) (k0_pay10 (F := Ideal) S.v) (k0_pay11 (F := Ideal) S.cg1 S.v1) (k0_pay12 (F := Ideal))
def two : FVec Ideal S400x256 .f32 :=
  k0_pay15 (oldest ic) (k0_pay9 (F := Ideal) S.cg) (k0_pay10 (F := Ideal) S.v) (k0_pay11 (F := Ideal) S.cg1 S.v1) (k0_pay12 (F := Ideal)) S.cg2 S.v2
def du : FVec Ideal S400x256 .f32 := k0_pay17 (dq S) (k0_pay8 (F := Ideal) S.bg)
def dcv (e0 e1 : FVec Ideal S8x256 .f32) : FVec Ideal S400x256 .f32 :=
  k0_pay21 S.w0 S.w1 S.w2 (du S) e0 e1 (k0_pay18 (dq S) (k0_pay8 (F := Ideal) S.bg) e0) (k0_pay19 (dq S) (k0_pay8 (F := Ideal) S.bg)) k0_pay20
def dpOuter : FVec Ideal S400x256 .bf16 := k0_pay22 S.w0 S.w1 S.w2 (dq S) (now S) (two ic S) (one ic S)
def dpInner (e0 e1 : FVec Ideal S8x256 .f32) : FVec Ideal S400x256 .bf16 :=
  k0_pay23 S.w0 S.w1 S.w2 (k0_pay10 (F := Ideal) S.v) (du S) e0 e1 (k0_pay18 (dq S) (k0_pay8 (F := Ideal) S.bg) e0)
    (k0_pay19 (dq S) (k0_pay8 (F := Ideal) S.bg)) k0_pay20
def dpValue (e0 e1 : FVec Ideal S8x256 .f32) : FVec Ideal S400x256 .bf16 :=
  k0_pay24 S.w0 S.w1 S.w2 (k0_pay9 (F := Ideal) S.cg) (du S) e0 e1 (k0_pay18 (dq S) (k0_pay8 (F := Ideal) S.bg) e0)
    (k0_pay19 (dq S) (k0_pay8 (F := Ideal) S.bg)) k0_pay20
def tap (x : FVec Ideal S400x256 .f32) (acc : FVec Ideal S1x256 .f32) : FVec Ideal S1x256 .f32 := k0_pay25 x (du S) acc
def carry : FVec Ideal S16x256 .f32 := k0_pay28 (du S)

/-- What the strip with columns `cl` of tile `i` reads of the arguments. -/
structure Reads (dh : Cert.Spec.ScH.Idx → EReal) (W : Cert.Hold.ScO.Idx → EReal) (p : Cert.Hold.ScP.Idx → EReal) (w : Cert.Hold.ScT.Idx → EReal)
    (i : ℕ) (hi : i < 41) (cl : Fin 256 → Fin 1024) : Prop where
  tap0 : ∀ f, S.w0 (ix2 0 f) = w (ix2 0 (cl f))
  tap1 : ∀ f, S.w1 (ix2 0 f) = w (ix2 1 (cl f))
  tap2 : ∀ f, S.w2 (ix2 0 f) = w (ix2 2 (cl f))
  row : ∀ (r : Fin 400) e, S.rows (ix2 r e) = dh (ix2 ⟨time i r.val, Shift.time_lt hi r⟩ e)
  col : ∀ e f, S.cols (ix2 e f) = W (ix2 (cl f) e)
  gate : ∀ (r : Fin 400) f, S.bg (ix2 r f) = p (ix2 ⟨time i r.val, Shift.time_lt hi r⟩ (outer (cl f)))
  hold : ∀ (r : Fin 400) f, S.cg (ix2 r f) = p (ix2 ⟨time i r.val, Shift.time_lt hi r⟩ (inner (cl f)))
  val : ∀ (r : Fin 400) f, S.v (ix2 r f) = p (ix2 ⟨time i r.val, Shift.time_lt hi r⟩ (value (cl f)))
  before1 : ∀ f, (if (ic 0).val = 40 then 0 else S.cg1 (ix2 7 f) * S.v1 (ix2 7 f)) = Cert.Hold.lag p (i * 400 + 1) (cl f)
  before2 : ∀ f, (if (ic 0).val = 40 then 0 else S.cg2 (ix2 7 f) * S.v2 (ix2 7 f)) = Cert.Hold.lag p (i * 400) (cl f)

variable {ic S} {dh : Cert.Spec.ScH.Idx → EReal} {W : Cert.Hold.ScO.Idx → EReal} {p : Cert.Hold.ScP.Idx → EReal}
  {w : Cert.Hold.ScT.Idx → EReal} {i : ℕ} {hi : i < 41} {cl : Fin 256 → Fin 1024} (R : Reads ic S dh W p w i hi cl)
include R

theorem dq_at (r : Fin 400) (f : Fin 256) : dq S (ix2 r f) = Cert.Hold.dq dh W ⟨time i r.val, Shift.time_lt hi r⟩ (cl f) := by
  unfold dq
  pointwise [k0_pay7]
  exact Finset.sum_congr rfl fun e _ => by rw [R.row, R.col]

theorem now_at (r : Fin 400) (f : Fin 256) : now S (ix2 r f) = Cert.Hold.lag p (time i r.val + 2) (cl f) := by
  unfold now
  pointwise [k0_pay14, k0_pay9, k0_pay10]
  rw [R.hold, R.val, Cert.Hold.lag_row]

theorem one_at (r : Fin 400) (f : Fin 256) : one ic S (ix2 r f) = Cert.Hold.lag p (time i r.val + 1) (cl f) := by
  have hv : ∀ r : Fin 400, S.cg (ix2 r f) * S.v (ix2 r f) = Cert.Hold.lag p (time i r.val + 2) (cl f) := fun r => by
    rw [R.hold, R.val, Cert.Hold.lag_row]
  unfold one
  pointwise [k0_pay16, k0_pay14, k0_pay13, k0_pay12, k0_pay11, k0_pay10, k0_pay9]
  simp (disch := word_cmp_side) only [hlo_ix]
  exact Shift.back1 i (fun n => Cert.Hold.lag p n (cl f)) (fun r => S.cg (ix2 r f) * S.v (ix2 r f))
    (fun q => if (ic 0).val = 40 then 0 else S.cg1 (ix2 q f) * S.v1 (ix2 q f)) hv (R.before1 f) r

theorem two_at (r : Fin 400) (f : Fin 256) : two ic S (ix2 r f) = Cert.Hold.lag p (time i r.val) (cl f) := by
  have hv : ∀ r : Fin 400, S.cg (ix2 r f) * S.v (ix2 r f) = Cert.Hold.lag p (time i r.val + 2) (cl f) := fun r => by
    rw [R.hold, R.val, Cert.Hold.lag_row]
  unfold two
  pointwise [k0_pay15, k0_pay14, k0_pay13, k0_pay12, k0_pay11, k0_pay10, k0_pay9]
  simp (disch := word_cmp_side) only [hlo_ix]
  exact Shift.back2 i (fun n => Cert.Hold.lag p n (cl f)) (fun r => S.cg (ix2 r f) * S.v (ix2 r f))
    (fun q => if (ic 0).val = 40 then 0 else S.cg1 (ix2 q f) * S.v1 (ix2 q f))
    (fun q => if (ic 0).val = 40 then 0 else S.cg2 (ix2 q f) * S.v2 (ix2 q f)) hv (R.before1 f) (R.before2 f) r

theorem du_at (r : Fin 400) (f : Fin 256) : du S (ix2 r f) = Cert.Hold.du dh W p (time i r.val) (cl f) := by
  unfold du
  pointwise [k0_pay17, k0_pay8]
  rw [dq_at R, R.gate]
  unfold Cert.Hold.du
  rw [dif_pos (Shift.time_lt hi r)]

theorem dpOuter_at (r : Fin 400) (f : Fin 256) :
    dpOuter ic S (ix2 r f) = Cert.Hold.dp dh W p w ⟨time i r.val, Shift.time_lt hi r⟩ (outer (cl f)) := by
  unfold dpOuter
  pointwise [k0_pay22]
  rw [dq_at R, now_at R, one_at R, two_at R, R.tap0, R.tap1, R.tap2, Cert.Hold.dp_outer]
  rfl

theorem tap_at (k : ℕ) (x : FVec Ideal S400x256 .f32) (acc : FVec Ideal S1x256 .f32) (f : Fin 256) {A : EReal} (hA : acc (ix2 0 f) = A)
    (hx : ∀ r : Fin 400, x (ix2 r f) = Cert.Hold.lag p (time i r.val + k) (cl f)) :
    tap S x acc (ix2 0 f) = A + ∑ r : Fin 400, Cert.Hold.part dh W p k (cl f) (time i r.val) := by
  unfold tap
  pointwise [k0_pay25]
  rw [hA]
  refine congrArg (A + ·) (Finset.sum_congr rfl fun r _ => ?_)
  rw [du_at R, hx]
  rfl

theorem carry_at (q : Fin 16) (f : Fin 256) : carry S (ix2 q f) = Cert.Hold.du dh W p (time i q.val) (cl f) := by
  unfold carry
  pointwise [k0_pay28]
  exact du_at R _ _

section After

variable {e0 e1 : FVec Ideal S8x256 .f32} (h0 : ∀ f, e0 (ix2 0 f) = Cert.Hold.du dh W p ((i + 1) * 400) (cl f))
  (h1 : ∀ f, e1 (ix2 0 f) = Cert.Hold.du dh W p ((i + 1) * 400 + 1) (cl f))
include h0 h1

/-- The convolution's transpose: the rows one and two steps later come from the later groups, for the last groups from the
    first groups one row below, and from the later tile for the last row. -/
theorem dcv_at (r : Fin 400) (f : Fin 256) : dcv S e0 e1 (ix2 r f) = Cert.Hold.dcv dh W p w (time i r.val) (cl f) := by
  have hd : ∀ r : Fin 400, k0_pay17 (dq S) (k0_pay8 (F := Ideal) S.bg) (ix2 r f) = Cert.Hold.du dh W p (time i r.val) (cl f) :=
    fun r => du_at R r f
  unfold dcv du
  pointwise [k0_pay21, k0_pay20, k0_pay19, k0_pay18]
  simp (disch := word_cmp_side) only [hlo_ix]
  rw [R.tap0, R.tap1, R.tap2]
  refine congrArg₂ (· + ·) (congrArg₂ (· + ·) (congrArg (w (ix2 0 (cl f)) * ·) ?_) (congrArg (w (ix2 1 (cl f)) * ·) ?_))
    (congrArg (w (ix2 2 (cl f)) * ·) (hd r))
  · exact Shift.ahead2 i (fun n => Cert.Hold.du dh W p n (cl f)) (fun r => k0_pay17 (dq S) (k0_pay8 (F := Ideal) S.bg) (ix2 r f))
      (fun q => e0 (ix2 q f)) (fun q => e1 (ix2 q f)) hd (h0 f) (h1 f) r
  · exact Shift.ahead1 i (fun n => Cert.Hold.du dh W p n (cl f)) (fun r => k0_pay17 (dq S) (k0_pay8 (F := Ideal) S.bg) (ix2 r f))
      (fun q => e0 (ix2 q f)) hd (h0 f) r

theorem dpInner_at (r : Fin 400) (f : Fin 256) :
    dpInner S e0 e1 (ix2 r f) = Cert.Hold.dp dh W p w ⟨time i r.val, Shift.time_lt hi r⟩ (inner (cl f)) := by
  have e : dpInner S e0 e1 (ix2 r f) = dcv S e0 e1 (ix2 r f) * S.v (ix2 r f) := by
    unfold dpInner dcv
    pointwise [k0_pay23, k0_pay10]
  rw [e, dcv_at R h0 h1, R.val, Cert.Hold.dp_inner]

theorem dpValue_at (r : Fin 400) (f : Fin 256) :
    dpValue S e0 e1 (ix2 r f) = Cert.Hold.dp dh W p w ⟨time i r.val, Shift.time_lt hi r⟩ (value (cl f)) := by
  have e : dpValue S e0 e1 (ix2 r f) = dcv S e0 e1 (ix2 r f) * S.cg (ix2 r f) := by
    unfold dpValue dcv
    pointwise [k0_pay24, k0_pay9]
  rw [e, dcv_at R h0 h1, R.hold, Cert.Hold.dp_value]

end After

end Cert.Kernel5Ideal.Tile

end
-- ==== Proof.HoldBody.lean ====
/-
  The run of the gated convolution's backward kernel. The grid has 41 points; the first one (the condition `cond0_0` holds) clears the carried rows and the
  weight gradient, the others take both from the point before. `state` says what each point leaves, `body_at` is the body's
  triple at every point, `launch_run` the run of @main.
-/
module

public import proofs.«01_k».proof.Proof.Gen.Kernel5Ideal.Frame.RunB
public import Idealize.ShloMosaic.Lib.Claim

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a point leaves to the next one or writes back: the gradient of the input, the cast cotangent, the
    gradient of the weights so far, and the rows carried to the earlier tile. -/
structure St (F : FTy → Type) [FloatOps F] where
  dp : Vec F S400x3072 .bf16
  dhb : Vec F S400x1024 .bf16
  dw : Vec F S3x1024 .f32
  carry : Vec F S16x1024 .f32

/-- The buffers given by the pieces stored into each. -/
def St.of (L6 : List (View.Piece (Elt F) S400x3072 .bf16)) (L7 : List (View.Piece (Elt F) S400x1024 .bf16))
    (L8 : List (View.Piece (Elt F) S3x1024 .f32)) (LS : List (View.Piece (Elt F) S16x1024 .f32)) : St F where
  dp := VO0_6.read (Elt F) (VO0_6.writes (Elt F) VO0_6.junk L6)
  dhb := VO0_7.read (Elt F) (VO0_7.writes (Elt F) VO0_7.junk L7)
  dw := VO0_8.read (Elt F) (VO0_8.writes (Elt F) VO0_8.junk L8)
  carry := VS0_0.read (Elt F) (VS0_0.writes (Elt F) VS0_0.junk LS)

/-- The body's run at a point where the condition holds, at the point's staging buffers and blocks. -/
def runFirst (c : Dev nD) (t : Fin cfg0.N) (h : cond0_0 (grid0.coords t)) :=
  kernelRun0_A (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) h (iblk m c 0 t) (iblk m c 1 t) (iblk m c 2 t) (iblk m c 3 t) (iblk m c 4 t) (iblk m c 5 t)

/-- The body's run at any other point, over the weight gradient and the carried rows it finds. -/
def runNext (c : Dev nD) (t : Fin cfg0.N) (h : ¬cond0_0 (grid0.coords t)) (dw : Vec F S3x1024 .f32) (carry : Vec F S16x1024 .f32) :=
  kernelRun0_B (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0
    (Memref.isWhole_whole _) h (iblk m c 0 t) (iblk m c 1 t) (iblk m c 2 t) (iblk m c 3 t) (iblk m c 4 t) (iblk m c 5 t) dw carry

def first (c : Dev nD) (t : Fin cfg0.N) (h : cond0_0 (grid0.coords t)) : St F :=
  .of (runFirst m c t h).1 (runFirst m c t h).2.1 (runFirst m c t h).2.2.1 (runFirst m c t h).2.2.2.1

def next (c : Dev nD) (t : Fin cfg0.N) (h : ¬cond0_0 (grid0.coords t)) (s : St F) : St F :=
  .of (runNext m c t h s.dw s.carry).1 (runNext m c t h s.dw s.carry).2.1 (runNext m c t h s.dw s.carry).2.2.1
    (runNext m c t h s.dw s.carry).2.2.2.1

theorem cond_first (t : Fin cfg0.N) (h : t.val = 0) : cond0_0 (grid0.coords t) := (hcond0_0 t).mpr (by omega)
theorem cond_next (t : Fin cfg0.N) (h : t.val ≠ 0) : ¬cond0_0 (grid0.coords t) := fun e => by
  have := (hcond0_0 t).mp e
  have : t.val < 41 := lt_of_lt_of_eq t.isLt N_0
  omega

/-- What the points up to and including point `n` leave. -/
def state (c : Dev nD) : (n : ℕ) → n < cfg0.N → St F
  | 0, hn => first m c ⟨0, hn⟩ (cond_first ⟨0, hn⟩ rfl)
  | n + 1, hn => next m c ⟨n + 1, hn⟩ (cond_next ⟨n + 1, hn⟩ (Nat.succ_ne_zero n)) (state c n (Nat.lt_of_succ_lt hn))

/-- The rows carried into position `n`: anything before the first point. -/
def Inv (c : Dev nD) : (n : ℕ) → n ≤ cfg0.N → sProp 𝕄
  | 0, _ => Pipeline.ΦA spec0 c
  | n + 1, hn => iprop(iprop(owns (c : Thread nD τ) scM0_0 fullShare ((state m c n hn).carry)) ∗ (∃ r, prngReg c r))

/-- Each input's buffer keeps its block; the outputs' are at `state`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t.val t.isLt).dp
    | ⟨7, _⟩ => (state m c t.val t.isLt).dhb
    | ⟨8, _⟩ => (state m c t.val t.isLt).dw
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem kept3 (c : Dev nD) (t : Fin cfg0.N) : (dats m 0 c).after 3 t = iblk m c 3 t := by dsimp only [dats]
theorem kept4 (c : Dev nD) (t : Fin cfg0.N) : (dats m 0 c).after 4 t = iblk m c 4 t := by dsimp only [dats]
theorem kept5 (c : Dev nD) (t : Fin cfg0.N) : (dats m 0 c).after 5 t = iblk m c 5 t := by dsimp only [dats]
theorem left6 (c : Dev nD) (t : Fin cfg0.N) : (dats m 0 c).after 6 t = (state m c t.val t.isLt).dp := by dsimp only [dats]
theorem left7 (c : Dev nD) (t : Fin cfg0.N) : (dats m 0 c).after 7 t = (state m c t.val t.isLt).dhb := by dsimp only [dats]
theorem left8 (c : Dev nD) (t : Fin cfg0.N) : (dats m 0 c).after 8 t = (state m c t.val t.isLt).dw := by dsimp only [dats]

theorem found0 (c : Dev nD) (t : Fin cfg0.N) (d) : (dats m 0 c).before 0 t d = iblk m c 0 t :=
  before0_0_of m _ (A_eq m c 0) (kept0 m c) t d
theorem found1 (c : Dev nD) (t : Fin cfg0.N) (d) : (dats m 0 c).before 1 t d = iblk m c 1 t :=
  before0_1_of m _ (A_eq m c 1) (kept1 m c) t d
theorem found2 (c : Dev nD) (t : Fin cfg0.N) (d) : (dats m 0 c).before 2 t d = iblk m c 2 t :=
  before0_2_of m _ (A_eq m c 2) (kept2 m c) t d
theorem found3 (c : Dev nD) (t : Fin cfg0.N) (d) : (dats m 0 c).before 3 t d = iblk m c 3 t :=
  before0_3_of m _ (A_eq m c 3) (kept3 m c) t d
theorem found4 (c : Dev nD) (t : Fin cfg0.N) (d) : (dats m 0 c).before 4 t d = iblk m c 4 t :=
  before0_4_of m _ (A_eq m c 4) (kept4 m c) t d
theorem found5 (c : Dev nD) (t : Fin cfg0.N) (d) : (dats m 0 c).before 5 t d = iblk m c 5 t :=
  before0_5_of m _ (A_eq m c 5) (kept5 m c) t d

/-- The weight gradient's buffer is not written back before the last point, so a later point finds what the one before left. -/
theorem found8 (c : Dev nD) (n : ℕ) (hn : n + 1 < cfg0.N) (d) :
    (dats m 0 c).before 8 ⟨n + 1, hn⟩ d = (state m c n (Nat.lt_of_succ_lt hn)).dw := by
  have hN : n + 1 < 41 := lt_of_lt_of_eq hn N_0
  rw [Dat.before_out_kept _ 8 rfl ⟨n + 1, hn⟩ (Nat.succ_ne_zero n)
    (Bool.eq_false_iff.mpr fun h => by have := (flush0_8 _).mp h; dsimp only at this; omega) (fun _ => rfl) (fun _ _ => rfl)]
  dsimp only [dats]
  rfl

/-- What the body needs at point `t` -/
def need (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it gives, the outputs at `s`. -/
def give (c : Dev nD) (t : Fin cfg0.N) (s : St F) : sProp 𝕄 :=
  iprop(iprop(iprop(owns (c : Thread nD τ) scM0_0 fullShare s.carry) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare s.dp
    ∗ owns (c : Thread nD τ) (ms0_7 t) fullShare s.dhb
    ∗ owns (c : Thread nD τ) (ms0_8 t) fullShare s.dw)

/-- The stored pieces cover their buffers, so what the buffers end with is the pieces alone (`St.of`). -/
theorem pack (c : Dev nD) (t : Fin cfg0.N) (L6 : List (View.Piece (Elt F) S400x3072 .bf16)) (L7 : List (View.Piece (Elt F) S400x1024 .bf16))
    (L8 : List (View.Piece (Elt F) S3x1024 .f32)) (LS : List (View.Piece (Elt F) S16x1024 .f32))
    (h6 : ∀ y, ∃ p ∈ L6, y ∈ p.1.set) (h7 : ∀ y, ∃ p ∈ L7, y ∈ p.1.set) (h8 : ∀ y, ∃ p ∈ L8, y ∈ p.1.set) (hS : ∀ y, ∃ p ∈ LS, y ∈ p.1.set) :
    iprop((∃ r, prngReg c r) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ (∃ f, (ms0_6 t).view.loc (c : Thread nD τ) ↦[(ms0_6 t).view.set]{fullShare} (ms0_6 t).view.writes (Elt F) f L6)
      ∗ (∃ f, (ms0_7 t).view.loc (c : Thread nD τ) ↦[(ms0_7 t).view.set]{fullShare} (ms0_7 t).view.writes (Elt F) f L7)
      ∗ (∃ f, (ms0_8 t).view.loc (c : Thread nD τ) ↦[(ms0_8 t).view.set]{fullShare} (ms0_8 t).view.writes (Elt F) f L8)
      ∗ (∃ f, scM0_0.view.loc (c : Thread nD τ) ↦[scM0_0.view.set]{fullShare} scM0_0.view.writes (Elt F) f LS))
    ⊢ give m c t (.of L6 L7 L8 LS) := by
  unfold give St.of; dsimp only
  iintro ⟨Hg, Ho, H0, H1, H2, H3, H4, H5, ⟨%e6, H6⟩, ⟨%e7, H7⟩, ⟨%e8, H8⟩, ⟨%es, HS⟩⟩
  isplitl [HS Hg]
  · isplitl [HS]
    · unfold owns; iexists _; isplitr
      swap; · iexact HS
      ipureintro; exact View.read_writes_of_cover _ _ _ _ _ hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ h6
  isplitl [H7]
  · unfold owns; iexists _; isplitr
    swap; · iexact H7
    ipureintro; exact View.read_writes_of_cover _ _ _ _ _ h7
  unfold owns; iexists _; isplitr
  swap; · iexact H8
  ipureintro; exact View.read_writes_of_cover _ _ _ _ _ h8

set_option maxHeartbeats 1600000 in
/-- The first point's body: the buffers it stores into may hold anything. -/
theorem body_first (c : Dev nD) (t : Fin cfg0.N) (h0 : t.val = 0) :
    need m c t ⊢ wp frame (wpE (defs₀ (F := F)) Variants.none c none) Set.univ (bodyAt0 t)
      (fun _ => give m c t (first m c t (cond_first t h0))) := by
  unfold need bodyAt0
  simp only [found0, found1, found2, found3, found4, found5]
  rw [show (dats m 0 c).Φ t.castSucc = Pipeline.ΦA spec0 c by obtain ⟨_ | n, hn⟩ := t; · rfl
                                                              · exact absurd h0 (Nat.succ_ne_zero n), PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runFirst m c t (cond_first t h0)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, H6, H7, H8, HS⟩
  unfold first
  iapply (pack m c t _ _ _ _ (View.cover_of_tiledL (runFirst m c t (cond_first t h0)).1 S400x256.size (by sl_kernel_rfl))
    (View.cover_of_tiledL (runFirst m c t (cond_first t h0)).2.1 S400x1024.size (by sl_kernel_rfl))
    (View.cover_of_tiledBy (runFirst m c t (cond_first t h0)).2.2.1 ![1, 256] (by sl_kernel_rfl))
    (View.cover_of_wholeMem (runFirst m c t (cond_first t h0)).2.2.2.1 (by unfold runFirst; sl_whole_mem)))
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

set_option maxHeartbeats 1600000 in
/-- A later point's body, over what the point before left. -/
theorem body_next (c : Dev nD) (n : ℕ) (hn : n + 1 < cfg0.N) :
    need m c ⟨n + 1, hn⟩ ⊢ wp frame (wpE (defs₀ (F := F)) Variants.none c none) Set.univ (bodyAt0 ⟨n + 1, hn⟩)
      (fun _ => give m c ⟨n + 1, hn⟩ (next m c ⟨n + 1, hn⟩ (cond_next ⟨n + 1, hn⟩ (Nat.succ_ne_zero n))
        (state m c n (Nat.lt_of_succ_lt hn)))) := by
  unfold need bodyAt0
  simp only [found0, found1, found2, found3, found4, found5, found8]
  rw [show (dats m 0 c).Φ (Fin.castSucc ⟨n + 1, hn⟩) = Inv m c (n + 1) (Nat.le_of_lt hn) from rfl, Inv]
  generalize hs : state m c n (Nat.lt_of_succ_lt hn) = s
  have hc : ¬cond0_0 (grid0.coords ⟨n + 1, hn⟩) := cond_next ⟨n + 1, hn⟩ (Nat.succ_ne_zero n)
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runNext m c ⟨n + 1, hn⟩ hc s.dw s.carry).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, H6, H7, H8, HS⟩
  unfold next
  iapply (pack m c ⟨n + 1, hn⟩ _ _ _ _ (View.cover_of_tiledL (runNext m c ⟨n + 1, hn⟩ hc s.dw s.carry).1 S400x256.size (by sl_kernel_rfl))
    (View.cover_of_tiledL (runNext m c ⟨n + 1, hn⟩ hc s.dw s.carry).2.1 S400x1024.size (by sl_kernel_rfl))
    (View.cover_of_tiledL (runNext m c ⟨n + 1, hn⟩ hc s.dw s.carry).2.2.1 S1x256.size (by sl_kernel_rfl))
    (View.cover_of_tiledL (runNext m c ⟨n + 1, hn⟩ hc s.dw s.carry).2.2.2.1 S16x256.size (by sl_kernel_rfl)))
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- The body at every point. -/
theorem body_at (c : Dev nD) (t : Fin cfg0.N) :
    need m c t ⊢ wp frame (wpE (defs₀ (F := F)) Variants.none c none) Set.univ (bodyAt0 t) (fun _ => give m c t (state m c t.val t.isLt)) := by
  obtain ⟨_ | n, hn⟩ := t
  · exact body_first m c ⟨0, hn⟩ rfl
  · exact body_next m c n hn

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (body_at m c t) rfl .rfl fun _ => ?_
  unfold give
  rw [kept0, kept1, kept2, kept3, kept4, kept5, left6, left7, left8]
  exact .rfl

theorem enter (c : Dev nD) : Pipeline.ΦA spec0 c ⊢ (dats m 0 c).Φ 0 := Idealize.SL.BI.Entails.refl _

/-- After the last point the carried rows are forgotten. -/
theorem leave (c : Dev nD) : (dats m 0 c).Φ (Fin.last cfg0.N) ⊢ Pipeline.ΦA spec0 c := by
  rw [show (dats m 0 c).Φ (Fin.last cfg0.N) = Inv m c (40 + 1) (le_of_eq N_0.symm) from rfl, Inv, PhiA0_eq]
  iintro ⟨HS, Hg⟩
  isplitl [HS]
  · iexists _; iexact HS
  iexact Hg

set_option backward.isDefEq.respectTransparency.types false in
set_option maxHeartbeats 800000 in
/-- The run of @main, with every counter at zero at the end. -/
theorem launch_run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launch_run m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (launch_run m ρ))

end Cert.Kernel5Ideal.Body

end
-- ==== Proof.HoldVal.lean ====
/-
  The gated convolution's backward kernel: its blocks on time rows, what one strip reads of them, and what a point stores.
-/
module

public import proofs.«01_k».proof.Proof.HoldTile
public import proofs.«01_k».proof.Proof.HoldBody
public import proofs.«01_k».proof.Proof.Val
public import Idealize.ShloMosaic.Lib.Claim
public import Idealize.ShloMosaic.Lib.Pipeline.ReadBack

@[expose] public section

set_option maxRecDepth 16384

noncomputable section

namespace Cert.Kernel5Ideal.Val

open Cert.Kernel5Ideal Cert.Kernel5Ideal.Gen Cert.Kernel5Ideal.Body
open Idealize.ShloMosaic Idealize.ShloMosaic.TcCoe Idealize.SL.Sem
open Idealize.ShloMosaic.Pipeline (Dat)
open Cert.Spec (time)
open Cert.Hold (outer inner value)
open Cert.KernelIdeal.Val (canon_append)

variable (m : (ℓ : Loc nD τ sig) → Buf (Elt Ideal) ℓ) (c : Dev nD)

/-- The four arguments. -/
abbrev X0 : FVec Ideal S16400x1024 .f32 := m ((c.tc : Thread nD τ).loc main_arg0)
abbrev X1 : FVec Ideal S1024x1024 .f32 := m ((c.tc : Thread nD τ).loc main_arg1)
abbrev X2 : FVec Ideal S16400x3072 .f32 := m ((c.tc : Thread nD τ).loc main_arg2)
abbrev X3 : FVec Ideal S3x1024 .f32 := m ((c.tc : Thread nD τ).loc main_arg3)

theorem entry4 (R : Fin 16400) (d : Fin 1024) :
    V m c main_v4 (ix2 R d) = X0 m c (ix2 ⟨R.val / 400 * 400 + R.val % 8 * 50 + R.val / 8 % 50, by omega⟩ d) := by
  unfold V V0
  simp only [List.flatten_cons, List.flatten_nil, List.append_nil]
  unfold hostOps0
  after_results
  pointwise

theorem entry7 (R : Fin 16400) (d : Fin 3072) :
    V m c main_v7 (ix2 R d) = X2 m c (ix2 ⟨R.val / 400 * 400 + R.val % 8 * 50 + R.val / 8 % 50, by omega⟩ d) := by
  unfold V V0
  simp only [List.flatten_cons, List.flatten_nil, List.append_nil]
  unfold hostOps0
  after_results
  pointwise

theorem entry1 (d : Fin 1024) (f : Fin 1024) : V m c main_v1 (ix2 d f) = X1 m c (ix2 f d) := by
  unfold V V0
  simp only [List.flatten_cons, List.flatten_nil, List.append_nil]
  unfold hostOps0
  after_results
  pointwise

theorem idx_val : ∀ t : Fin cfg0.N, win0_0.index t = ![40 - t.val, 0] ∧ win0_1.index t = ![0, 0]
    ∧ win0_2.index t = ![40 - t.val, 0] ∧ win0_3.index t = ![(40 - t.val) * 50 - 1, 0] ∧ win0_4.index t = ![(40 - t.val) * 50 - 2, 0]
    ∧ win0_5.index t = ![0, 0] ∧ win0_6.index t = ![40 - t.val, 0] ∧ win0_7.index t = ![40 - t.val, 0] ∧ win0_8.index t = ![0, 0] :=
  (by decide +kernel : ∀ t : Fin grid0.N, _)

theorem coords_val : ∀ t : Fin cfg0.N, (grid0.coords t 0).val = t.val := (by decide +kernel : ∀ t : Fin grid0.N, _)

theorem blk0 (t : Fin cfg0.N) (r : Fin 400) (d : Fin 1024) :
    iblk m c 0 t (ix2 r d) = X0 m c (ix2 ⟨time (40 - t.val) r.val, Shift.time_lt (by omega) r⟩ d) := by
  have e : iblk m c 0 t (ix2 r d) = V m c main_v4 (ix2 ⟨(40 - t.val) * 400 + r.val, by omega⟩ d) := by blk_ext [iblk, idx_val t]
  rw [e, entry4]
  exact congrArg (X0 m c) (congrArg (fun x => ix2 x d) (Fin.ext (by unfold time; dsimp only; omega)))

theorem blk1 (t : Fin cfg0.N) (d : Fin 1024) (f : Fin 1024) : iblk m c 1 t (ix2 d f) = X1 m c (ix2 f d) := by
  have e : iblk m c 1 t (ix2 d f) = V m c main_v1 (ix2 d f) := by blk_ext [iblk, idx_val t]
  rw [e, entry1]

theorem blk2 (t : Fin cfg0.N) (r : Fin 400) (d : Fin 3072) :
    iblk m c 2 t (ix2 r d) = X2 m c (ix2 ⟨time (40 - t.val) r.val, Shift.time_lt (by omega) r⟩ d) := by
  have e : iblk m c 2 t (ix2 r d) = V m c main_v7 (ix2 ⟨(40 - t.val) * 400 + r.val, by omega⟩ d) := by blk_ext [iblk, idx_val t]
  rw [e, entry7]
  exact congrArg (X2 m c) (congrArg (fun x => ix2 x d) (Fin.ext (by unfold time; dsimp only; omega)))

/-- The last row of the first group before the tile is the row before the tile's first; the last point takes zero for it. -/
theorem blk3 (t : Fin cfg0.N) (f : Fin 1024) :
    (if (grid0.coords t 0).val = 40 then (0 : EReal) else (show EReal from iblk m c 3 t (ix2 7 (inner f))) * (show EReal from iblk m c 3 t (ix2 7 (value f))))
      = Cert.Hold.lag (X2 m c) ((40 - t.val) * 400 + 1) f := by
  have ht : t.val < 41 := lt_of_lt_of_eq t.isLt N_0
  rw [coords_val t]
  by_cases h : t.val = 40
  · rw [if_pos h, Cert.Hold.lag_zero _ (by omega)]
  · rw [if_neg h]
    have e : ∀ d : Fin 3072, iblk m c 3 t (ix2 7 d) = X2 m c (ix2 ⟨(40 - t.val) * 400 - 1, by omega⟩ d) := fun d => by
      have e : iblk m c 3 t (ix2 7 d) = V m c main_v7 (ix2 ⟨((40 - t.val) * 50 - 1) * 8 + 7, by omega⟩ d) := by blk_ext [iblk, idx_val t]
      rw [e, entry7]
      exact congrArg (X2 m c) (congrArg (fun x => ix2 x d) (Fin.ext (by dsimp only; omega)))
    rw [e, e, show (40 - t.val) * 400 + 1 = (40 - t.val) * 400 - 1 + 2 by omega, Cert.Hold.lag_row _ (by omega)]

theorem blk4 (t : Fin cfg0.N) (f : Fin 1024) :
    (if (grid0.coords t 0).val = 40 then (0 : EReal) else (show EReal from iblk m c 4 t (ix2 7 (inner f))) * (show EReal from iblk m c 4 t (ix2 7 (value f))))
      = Cert.Hold.lag (X2 m c) ((40 - t.val) * 400) f := by
  have ht : t.val < 41 := lt_of_lt_of_eq t.isLt N_0
  rw [coords_val t]
  by_cases h : t.val = 40
  · rw [if_pos h, Cert.Hold.lag_zero _ (by omega)]
  · rw [if_neg h]
    have e : ∀ d : Fin 3072, iblk m c 4 t (ix2 7 d) = X2 m c (ix2 ⟨(40 - t.val) * 400 - 2, by omega⟩ d) := fun d => by
      have e : iblk m c 4 t (ix2 7 d) = V m c main_v7 (ix2 ⟨((40 - t.val) * 50 - 2) * 8 + 7, by omega⟩ d) := by blk_ext [iblk, idx_val t]
      rw [e, entry7]
      exact congrArg (X2 m c) (congrArg (fun x => ix2 x d) (Fin.ext (by dsimp only; omega)))
    rw [e, e, show Cert.Hold.lag (X2 m c) ((40 - t.val) * 400) f = Cert.Hold.lag (X2 m c) ((40 - t.val) * 400 - 2 + 2) f from
      congrArg (fun n => Cert.Hold.lag (X2 m c) n f) (by omega), Cert.Hold.lag_row _ (by omega)]

theorem blk5 (t : Fin cfg0.N) (k : Fin 3) (d : Fin 1024) : iblk m c 5 t (ix2 k d) = X3 m c (ix2 k d) := by
  have e : iblk m c 5 t (ix2 k d) = V m c main_arg3 (ix2 k d) := by blk_ext [iblk, idx_val t]
  rw [e, V_main_arg3]

/-- Column `f` of the strip that begins at column `s`. -/
def colAt (s : ℕ) (hs : s + 256 ≤ 1024) (f : Fin 256) : Fin 1024 := ⟨s + f.val, by omega⟩

/-- The strip of point `t` that begins at column `s`. -/
def strip (t : Fin cfg0.N) (s : ℕ) (hs : s + 256 ≤ 1024) : Tile.Strip where
  w0 := View.ld (iblk m c 5 t) (Rect.unit ![0, s] ![1, 256] (by intro a; fin_cases a <;> simp <;> omega))
  w1 := View.ld (iblk m c 5 t) (Rect.unit ![1, s] ![1, 256] (by intro a; fin_cases a <;> simp <;> omega))
  w2 := View.ld (iblk m c 5 t) (Rect.unit ![2, s] ![1, 256] (by intro a; fin_cases a <;> simp <;> omega))
  rows := k0_pay6 (F := Ideal) (iblk m c 0 t)
  cols := View.ld (iblk m c 1 t) (Rect.unit ![0, s] ![1024, 256] (by intro a; fin_cases a <;> simp <;> omega))
  bg := View.ld (iblk m c 2 t) (Rect.unit ![0, s] ![400, 256] (by intro a; fin_cases a <;> simp <;> omega))
  cg := View.ld (iblk m c 2 t) (Rect.unit ![0, 1024 + s] ![400, 256] (by intro a; fin_cases a <;> simp <;> omega))
  v := View.ld (iblk m c 2 t) (Rect.unit ![0, 2048 + s] ![400, 256] (by intro a; fin_cases a <;> simp <;> omega))
  cg1 := View.ld (iblk m c 3 t) (Rect.unit ![0, 1024 + s] ![8, 256] (by intro a; fin_cases a <;> simp <;> omega))
  v1 := View.ld (iblk m c 3 t) (Rect.unit ![0, 2048 + s] ![8, 256] (by intro a; fin_cases a <;> simp <;> omega))
  cg2 := View.ld (iblk m c 4 t) (Rect.unit ![0, 1024 + s] ![8, 256] (by intro a; fin_cases a <;> simp <;> omega))
  v2 := View.ld (iblk m c 4 t) (Rect.unit ![0, 2048 + s] ![8, 256] (by intro a; fin_cases a <;> simp <;> omega))

theorem at_inner {s : ℕ} (hs : s + 256 ≤ 1024) (f : Fin 256) {h : 1024 + s + f.val < 3072} :
    (⟨1024 + s + f.val, h⟩ : Fin 3072) = inner (colAt s hs f) := Fin.ext (Nat.add_assoc _ _ _)

theorem at_value {s : ℕ} (hs : s + 256 ≤ 1024) (f : Fin 256) {h : 2048 + s + f.val < 3072} :
    (⟨2048 + s + f.val, h⟩ : Fin 3072) = value (colAt s hs f) := Fin.ext (Nat.add_assoc _ _ _)

theorem reads (t : Fin cfg0.N) (s : ℕ) (hs : s + 256 ≤ 1024) :
    Tile.Reads (grid0.coords t) (strip m c t s hs) (X0 m c) (X1 m c) (X2 m c) (X3 m c) (40 - t.val) (by omega) (colAt s hs) where
  tap0 f := by
    rw [← blk5 m c t]
    unfold strip
    pointwise
    rfl
  tap1 f := by
    rw [← blk5 m c t]
    unfold strip
    pointwise
    rfl
  tap2 f := by
    rw [← blk5 m c t]
    unfold strip
    pointwise
    rfl
  row r e := by
    rw [← blk0 m c t]
    unfold strip
    pointwise [k0_pay6]
  col e f := by
    rw [← blk1 m c t]
    unfold strip
    pointwise
    rfl
  gate r f := by
    rw [← blk2 m c t]
    unfold strip
    pointwise
    rfl
  hold r f := by
    rw [← blk2 m c t]
    unfold strip
    pointwise
    rw [at_inner hs]
  val r f := by
    rw [← blk2 m c t]
    unfold strip
    pointwise
    rw [at_value hs]
  before1 f := by
    rw [← blk3 m c t]
    unfold strip
    pointwise
    rw [at_inner hs, at_value hs]
  before2 f := by
    rw [← blk4 m c t]
    unfold strip
    pointwise
    rw [at_inner hs, at_value hs]

/-- The later rows' cotangent that point `t` finds in the carried rows. -/
def Carried (t : Fin cfg0.N) (x : FVec Ideal S16x1024 .f32) : Prop :=
  ∀ (q : Fin 16) (d : Fin 1024), x (ix2 q d) = Cert.Hold.du (X0 m c) (X1 m c) (X2 m c) (time (41 - t.val) q.val) d

/-- The group of the carried rows that begins at row `q`, in the strip's columns. -/
def group (x : Vec Ideal S16x1024 .f32) (q : ℕ) (hq : q + 8 ≤ 16) (s : ℕ) (hs : s + 256 ≤ 1024) : Vec Ideal S8x256 .f32 :=
  View.ld x (Rect.unit ![q, s] ![8, 256] (by intro a; fin_cases a <;> simp <;> omega))

/-- Their first rows are the two rows after the tile. -/
theorem later0 {t : Fin cfg0.N} {x : FVec Ideal S16x1024 .f32} (hx : Carried m c t x) (s : ℕ) (hs : s + 256 ≤ 1024) (f : Fin 256) :
    group x 0 (by decide) s hs (ix2 0 f) = Cert.Hold.du (X0 m c) (X1 m c) (X2 m c) ((40 - t.val + 1) * 400) (colAt s hs f) := by
  have ht : t.val < 41 := lt_of_lt_of_eq t.isLt N_0
  rw [show (40 - t.val + 1) * 400 = time (41 - t.val) 0 by unfold time; omega]
  refine Eq.trans ?_ (hx 0 _)
  unfold group
  pointwise
  rfl

theorem later1 {t : Fin cfg0.N} {x : FVec Ideal S16x1024 .f32} (hx : Carried m c t x) (s : ℕ) (hs : s + 256 ≤ 1024) (f : Fin 256) :
    group x 8 (by decide) s hs (ix2 0 f) = Cert.Hold.du (X0 m c) (X1 m c) (X2 m c) ((40 - t.val + 1) * 400 + 1) (colAt s hs f) := by
  have ht : t.val < 41 := lt_of_lt_of_eq t.isLt N_0
  rw [show (40 - t.val + 1) * 400 + 1 = time (41 - t.val) 8 by unfold time; omega]
  refine Eq.trans ?_ (hx 8 _)
  unfold group
  pointwise
  rfl

/-- What a strip stores, at an index of the tile. -/
theorem stored_outer {t : Fin cfg0.N} (s : ℕ) (hs : s + 256 ≤ 1024) (r : Fin 400) (f : Fin 256) (d : Fin 3072) (hd : d.val = s + f.val)
    {y : FVec Ideal S400x256 .bf16} (hy : y = Tile.dpOuter (grid0.coords t) (strip m c t s hs)) :
    y (ix2 r f) = Cert.Hold.dp (X0 m c) (X1 m c) (X2 m c) (X3 m c) ⟨time (40 - t.val) r.val, Shift.time_lt (by omega) r⟩ d := by
  obtain rfl : d = outer (colAt s hs f) := Fin.ext hd
  rw [hy]
  exact Tile.dpOuter_at (reads m c t s hs) r f

theorem stored_inner {t : Fin cfg0.N} {x : FVec Ideal S16x1024 .f32} (hx : Carried m c t x) (s : ℕ) (hs : s + 256 ≤ 1024) (r : Fin 400) (f : Fin 256)
    (d : Fin 3072) (hd : d.val = 1024 + s + f.val) {y : FVec Ideal S400x256 .bf16}
    (hy : y = Tile.dpInner (strip m c t s hs) (group x 0 (by decide) s hs) (group x 8 (by decide) s hs)) :
    y (ix2 r f) = Cert.Hold.dp (X0 m c) (X1 m c) (X2 m c) (X3 m c) ⟨time (40 - t.val) r.val, Shift.time_lt (by omega) r⟩ d := by
  obtain rfl : d = Cert.Hold.inner (colAt s hs f) := Fin.ext (hd.trans (Nat.add_assoc _ _ _))
  rw [hy]
  exact Tile.dpInner_at (reads m c t s hs) (later0 m c hx s hs) (later1 m c hx s hs) r f

theorem stored_value {t : Fin cfg0.N} {x : FVec Ideal S16x1024 .f32} (hx : Carried m c t x) (s : ℕ) (hs : s + 256 ≤ 1024) (r : Fin 400) (f : Fin 256)
    (d : Fin 3072) (hd : d.val = 2048 + s + f.val) {y : FVec Ideal S400x256 .bf16}
    (hy : y = Tile.dpValue (strip m c t s hs) (group x 0 (by decide) s hs) (group x 8 (by decide) s hs)) :
    y (ix2 r f) = Cert.Hold.dp (X0 m c) (X1 m c) (X2 m c) (X3 m c) ⟨time (40 - t.val) r.val, Shift.time_lt (by omega) r⟩ d := by
  obtain rfl : d = value (colAt s hs f) := Fin.ext (hd.trans (Nat.add_assoc _ _ _))
  rw [hy]
  exact Tile.dpValue_at (reads m c t s hs) (later0 m c hx s hs) (later1 m c hx s hs) r f

theorem stored_carry {t : Fin cfg0.N} (s : ℕ) (hs : s + 256 ≤ 1024) (q : Fin 16) (f : Fin 256) (d : Fin 1024) (hd : d.val = s + f.val)
    {y : FVec Ideal S16x256 .f32} (hy : y = Tile.carry (strip m c t s hs)) :
    y (ix2 q f) = Cert.Hold.du (X0 m c) (X1 m c) (X2 m c) (time (40 - t.val) q.val) d := by
  obtain rfl : d = colAt s hs f := Fin.ext hd
  rw [hy]
  exact Tile.carry_at (reads m c t s hs) q f

/-- What a strip adds to the row of tap `k`. -/
theorem stored_tap {t : Fin cfg0.N} (s : ℕ) (hs : s + 256 ≤ 1024) (k : ℕ) (f : Fin 256) (d : Fin 1024) (hd : d.val = s + f.val)
    {x : FVec Ideal S400x256 .f32} (hx : ∀ r : Fin 400, x (ix2 r f) = Cert.Hold.lag (X2 m c) (time (40 - t.val) r.val + k) (colAt s hs f))
    {acc y : FVec Ideal S1x256 .f32} (hy : y = Tile.tap (strip m c t s hs) x acc) {A : EReal} (hA : acc (ix2 0 f) = A) :
    y (ix2 0 f) = A + ∑ r : Fin 400, Cert.Hold.part (X0 m c) (X1 m c) (X2 m c) k d (time (40 - t.val) r.val) := by
  obtain rfl : d = colAt s hs f := Fin.ext hd
  rw [hy]
  exact Tile.tap_at (reads m c t s hs) k x acc f hA hx

theorem stored_tap0 {t : Fin cfg0.N} (s : ℕ) (hs : s + 256 ≤ 1024) (f : Fin 256) (d : Fin 1024) (hd : d.val = s + f.val)
    {acc y : FVec Ideal S1x256 .f32} (hy : y = Tile.tap (strip m c t s hs) (Tile.two (grid0.coords t) (strip m c t s hs)) acc)
    {A : EReal} (hA : acc (ix2 0 f) = A) :
    y (ix2 0 f) = A + ∑ r : Fin 400, Cert.Hold.part (X0 m c) (X1 m c) (X2 m c) 0 d (time (40 - t.val) r.val) := by
  refine stored_tap m c s hs 0 f d hd (fun r => ?_) hy hA
  exact Tile.two_at (reads m c t s hs) r f

theorem stored_tap1 {t : Fin cfg0.N} (s : ℕ) (hs : s + 256 ≤ 1024) (f : Fin 256) (d : Fin 1024) (hd : d.val = s + f.val)
    {acc y : FVec Ideal S1x256 .f32} (hy : y = Tile.tap (strip m c t s hs) (Tile.one (grid0.coords t) (strip m c t s hs)) acc)
    {A : EReal} (hA : acc (ix2 0 f) = A) :
    y (ix2 0 f) = A + ∑ r : Fin 400, Cert.Hold.part (X0 m c) (X1 m c) (X2 m c) 1 d (time (40 - t.val) r.val) := by
  refine stored_tap m c s hs 1 f d hd (fun r => ?_) hy hA
  exact Tile.one_at (reads m c t s hs) r f

theorem stored_tap2 {t : Fin cfg0.N} (s : ℕ) (hs : s + 256 ≤ 1024) (f : Fin 256) (d : Fin 1024) (hd : d.val = s + f.val)
    {acc y : FVec Ideal S1x256 .f32} (hy : y = Tile.tap (strip m c t s hs) (Tile.now (strip m c t s hs)) acc)
    {A : EReal} (hA : acc (ix2 0 f) = A) :
    y (ix2 0 f) = A + ∑ r : Fin 400, Cert.Hold.part (X0 m c) (X1 m c) (X2 m c) 2 d (time (40 - t.val) r.val) := by
  refine stored_tap m c s hs 2 f d hd (fun r => ?_) hy hA
  exact Tile.now_at (reads m c t s hs) r f

set_option maxHeartbeats 1000000 in
theorem next_dp (t : Fin cfg0.N) (h : ¬cond0_0 (grid0.coords t)) (s : St Ideal) (hs : Carried m c t s.carry) (r : Fin 400) (d : Fin 3072) :
    (next m c t h s).dp (ix2 r d) = Cert.Hold.dp (X0 m c) (X1 m c) (X2 m c) (X3 m c) ⟨time (40 - t.val) r.val, Shift.time_lt (by omega) r⟩ d := by
  unfold next St.of runNext
  dsimp only
  frame_out
  rw [read_unread_whole]
  canon_tiles x hx
  all_goals
    idx_vars x
    obtain rfl : r = x0 := Fin.ext hx0
  case piece0 => refine stored_value m c hs 768 (by decide) r x1 d hx1 ?_; unfold strip group; rfl
  case piece1 => refine stored_inner m c hs 768 (by decide) r x1 d hx1 ?_; unfold strip group; rfl
  case piece2 => refine stored_outer m c 768 (by decide) r x1 d hx1 ?_; unfold strip; rfl
  case piece3 => refine stored_value m c hs 512 (by decide) r x1 d hx1 ?_; unfold strip group; rfl
  case piece4 => refine stored_inner m c hs 512 (by decide) r x1 d hx1 ?_; unfold strip group; rfl
  case piece5 => refine stored_outer m c 512 (by decide) r x1 d hx1 ?_; unfold strip; rfl
  case piece6 => refine stored_value m c hs 256 (by decide) r x1 d hx1 ?_; unfold strip group; rfl
  case piece7 => refine stored_inner m c hs 256 (by decide) r x1 d hx1 ?_; unfold strip group; rfl
  case piece8 => refine stored_outer m c 256 (by decide) r x1 d hx1 ?_; unfold strip; rfl
  case piece9 => refine stored_value m c hs 0 (by decide) r x1 d hx1 ?_; unfold strip group; rfl
  case piece10 => refine stored_inner m c hs 0 (by decide) r x1 d hx1 ?_; unfold strip group; rfl
  case piece11 => refine stored_outer m c 0 (by decide) r x1 d (by omega) ?_; unfold strip; rfl

end Cert.Kernel5Ideal.Val

end
-- ==== Proof.HoldStore.lean ====
/-
  The gated convolution's backward kernel: the cast cotangent, the carried rows, and the first point's rows.
-/
module

public import proofs.«01_k».proof.Proof.HoldVal

@[expose] public section

set_option maxRecDepth 16384

noncomputable section

namespace Cert.Kernel5Ideal.Val

open Cert.Kernel5Ideal Cert.Kernel5Ideal.Gen Cert.Kernel5Ideal.Body
open Idealize.ShloMosaic Idealize.ShloMosaic.TcCoe Idealize.SL.Sem
open Idealize.ShloMosaic.Pipeline (Dat)
open Cert.Spec (time)
open Cert.KernelIdeal.Val (canon_append)

variable (m : (ℓ : Loc nD τ sig) → Buf (Elt Ideal) ℓ) (c : Dev nD)

/-- Nothing is carried to the first point, and nothing comes after its rows. -/
theorem carried_zero (t : Fin cfg0.N) (ht : t.val = 0) : Carried m c t (k0_pay4 (F := Ideal)) := fun q d => by
  rw [Cert.Hold.du_end _ _ _ (by unfold time; omega)]
  pointwise [k0_pay4]

theorem next_dhb (t : Fin cfg0.N) (h : ¬cond0_0 (grid0.coords t)) (s : St Ideal) (r : Fin 400) (d : Fin 1024) :
    (next m c t h s).dhb (ix2 r d) = X0 m c (ix2 ⟨time (40 - t.val) r.val, Shift.time_lt (by omega) r⟩ d) := by
  unfold next St.of runNext
  dsimp only
  frame_out
  rw [← blk0 m c t r d]
  pointwise [k0_pay6]

theorem first_dhb (t : Fin cfg0.N) (h : cond0_0 (grid0.coords t)) (r : Fin 400) (d : Fin 1024) :
    (first m c t h).dhb (ix2 r d) = X0 m c (ix2 ⟨time (40 - t.val) r.val, Shift.time_lt (by omega) r⟩ d) := by
  unfold first St.of runFirst
  dsimp only
  frame_out
  rw [← blk0 m c t r d]
  pointwise [k0_pay6]

set_option maxHeartbeats 1000000 in
theorem next_carry (t : Fin cfg0.N) (h : ¬cond0_0 (grid0.coords t)) (s : St Ideal) (q : Fin 16) (d : Fin 1024) :
    (next m c t h s).carry (ix2 q d) = Cert.Hold.du (X0 m c) (X1 m c) (X2 m c) (time (40 - t.val) q.val) d := by
  unfold next St.of runNext
  dsimp only
  frame_out
  canon_tiles x hx
  all_goals
    idx_vars x
    obtain rfl : q = x0 := Fin.ext hx0
  case piece0 => refine stored_carry m c 768 (by decide) q x1 d hx1 ?_; unfold strip; rfl
  case piece1 => refine stored_carry m c 512 (by decide) q x1 d hx1 ?_; unfold strip; rfl
  case piece2 => refine stored_carry m c 256 (by decide) q x1 d hx1 ?_; unfold strip; rfl
  case piece3 => refine stored_carry m c 0 (by decide) q x1 d (by omega) ?_; unfold strip; rfl

set_option maxHeartbeats 1000000 in
theorem first_carry (t : Fin cfg0.N) (h : cond0_0 (grid0.coords t)) (q : Fin 16) (d : Fin 1024) :
    (first m c t h).carry (ix2 q d) = Cert.Hold.du (X0 m c) (X1 m c) (X2 m c) (time (40 - t.val) q.val) d := by
  unfold first St.of runFirst
  dsimp only
  frame_out
  refine (canon_append [_] [_, _, _, _] _ (View.cover_of_tiled_head _ _ _ (by rfl) _)).trans ?_
  canon_tiles x hx
  all_goals
    idx_vars x
    obtain rfl : q = x0 := Fin.ext hx0
  case piece0 => refine stored_carry m c 768 (by decide) q x1 d hx1 ?_; unfold strip; rfl
  case piece1 => refine stored_carry m c 512 (by decide) q x1 d hx1 ?_; unfold strip; rfl
  case piece2 => refine stored_carry m c 256 (by decide) q x1 d hx1 ?_; unfold strip; rfl
  case piece3 => refine stored_carry m c 0 (by decide) q x1 d (by omega) ?_; unfold strip; rfl

set_option maxHeartbeats 2000000 in
theorem first_dp (t : Fin cfg0.N) (h : cond0_0 (grid0.coords t)) (ht : t.val = 0) (r : Fin 400) (d : Fin 3072) :
    (first m c t h).dp (ix2 r d) = Cert.Hold.dp (X0 m c) (X1 m c) (X2 m c) (X3 m c) ⟨time (40 - t.val) r.val, Shift.time_lt (by omega) r⟩ d := by
  have hs := carried_zero m c t ht
  unfold first St.of runFirst
  dsimp only
  frame_out
  canon_tiles x hx
  all_goals
    idx_vars x
    obtain rfl : r = x0 := Fin.ext hx0
    try simp (disch := decide) only [↓View.readCov_skip, View.readCov_fill]
  case piece0 => refine stored_value m c hs 768 (by decide) r x1 d hx1 ?_; unfold strip group; rfl
  case piece1 => refine stored_inner m c hs 768 (by decide) r x1 d hx1 ?_; unfold strip group; rfl
  case piece2 => refine stored_outer m c 768 (by decide) r x1 d hx1 ?_; unfold strip; rfl
  case piece3 => refine stored_value m c hs 512 (by decide) r x1 d hx1 ?_; unfold strip group; rfl
  case piece4 => refine stored_inner m c hs 512 (by decide) r x1 d hx1 ?_; unfold strip group; rfl
  case piece5 => refine stored_outer m c 512 (by decide) r x1 d hx1 ?_; unfold strip; rfl
  case piece6 => refine stored_value m c hs 256 (by decide) r x1 d hx1 ?_; unfold strip group; rfl
  case piece7 => refine stored_inner m c hs 256 (by decide) r x1 d hx1 ?_; unfold strip group; rfl
  case piece8 => refine stored_outer m c 256 (by decide) r x1 d hx1 ?_; unfold strip; rfl
  case piece9 => refine stored_value m c hs 0 (by decide) r x1 d hx1 ?_; unfold strip group; rfl
  case piece10 => refine stored_inner m c hs 0 (by decide) r x1 d hx1 ?_; unfold strip group; rfl
  case piece11 => refine stored_outer m c 0 (by decide) r x1 d (by omega) ?_; unfold strip; rfl

end Cert.Kernel5Ideal.Val

end
-- ==== Proof.HoldDw.lean ====
/-
  The gated convolution's backward kernel: the tap gradients' block after each grid point.
-/
module

public import proofs.«01_k».proof.Proof.HoldVal

@[expose] public section

set_option maxRecDepth 16384

noncomputable section

namespace Cert.Kernel5Ideal.Val

open Cert.Kernel5Ideal Cert.Kernel5Ideal.Gen Cert.Kernel5Ideal.Body
open Idealize.ShloMosaic Idealize.ShloMosaic.TcCoe Idealize.SL.Sem
open Idealize.ShloMosaic.Pipeline (Dat)
open Cert.Spec (time)
open Cert.KernelIdeal.Val (canon_append)

variable (m : (ℓ : Loc nD τ sig) → Buf (Elt Ideal) ℓ) (c : Dev nD)

/-- The last strip's columns of the block's middle tap. -/
def middle (x : Vec Ideal S3x1024 .f32) : Vec Ideal S1x256 .f32 := View.ld x (Rect.unit ![1, 768] ![1, 256] inb_S3x1024_S1x256_1_768)

set_option maxHeartbeats 2000000 in
theorem next_dw (t : Fin cfg0.N) (h : ¬cond0_0 (grid0.coords t)) (s : St Ideal) (k : Fin 3) (d : Fin 1024) :
    (next m c t h s).dw (ix2 k d) = (show EReal from s.dw (ix2 k d))
      + ∑ r : Fin 400, Cert.Hold.part (X0 m c) (X1 m c) (X2 m c) k.val d (time (40 - t.val) r.val) := by
  unfold next St.of runNext
  dsimp only
  frame_out
  canon_tiles x hx
  all_goals
    idx_vars x
    obtain rfl : x0 = 0 := Subsingleton.elim _ _
  case piece0 =>
    obtain rfl : k = 2 := Fin.ext hx0
    obtain rfl : d = colAt 768 (by decide) x1 := Fin.ext hx1
    apply stored_tap2 m c 768 (by decide) x1 _ rfl
    · unfold strip; rfl
    · pointwise
      rfl
  case piece1 =>
    obtain rfl : k = 1 := Fin.ext hx0
    obtain rfl : d = colAt 768 (by decide) x1 := Fin.ext hx1
    apply stored_tap1 m c 768 (by decide) x1 _ rfl (acc := middle s.dw)
    · unfold strip; rfl
    · pointwise [middle]
      rfl
  case piece2 =>
    obtain rfl : k = 0 := Fin.ext hx0
    obtain rfl : d = colAt 768 (by decide) x1 := Fin.ext hx1
    apply stored_tap0 m c 768 (by decide) x1 _ rfl
    · unfold strip; rfl
    · pointwise
      rfl
  case piece3 =>
    obtain rfl : k = 2 := Fin.ext hx0
    obtain rfl : d = colAt 512 (by decide) x1 := Fin.ext hx1
    apply stored_tap2 m c 512 (by decide) x1 _ rfl
    · unfold strip; rfl
    · pointwise
      rfl
  case piece4 =>
    obtain rfl : k = 1 := Fin.ext hx0
    obtain rfl : d = colAt 512 (by decide) x1 := Fin.ext hx1
    apply stored_tap1 m c 512 (by decide) x1 _ rfl
    · unfold strip; rfl
    · pointwise
      rfl
  case piece5 =>
    obtain rfl : k = 0 := Fin.ext hx0
    obtain rfl : d = colAt 512 (by decide) x1 := Fin.ext hx1
    apply stored_tap0 m c 512 (by decide) x1 _ rfl
    · unfold strip; rfl
    · pointwise
      rfl
  case piece6 =>
    obtain rfl : k = 2 := Fin.ext hx0
    obtain rfl : d = colAt 256 (by decide) x1 := Fin.ext hx1
    apply stored_tap2 m c 256 (by decide) x1 _ rfl
    · unfold strip; rfl
    · pointwise
      rfl
  case piece7 =>
    obtain rfl : k = 1 := Fin.ext hx0
    obtain rfl : d = colAt 256 (by decide) x1 := Fin.ext hx1
    apply stored_tap1 m c 256 (by decide) x1 _ rfl
    · unfold strip; rfl
    · pointwise
      rfl
  case piece8 =>
    obtain rfl : k = 0 := Fin.ext hx0
    obtain rfl : d = colAt 256 (by decide) x1 := Fin.ext hx1
    apply stored_tap0 m c 256 (by decide) x1 _ rfl
    · unfold strip; rfl
    · pointwise
      rfl
  case piece9 =>
    obtain rfl : k = 2 := Fin.ext hx0
    obtain rfl : d = colAt 0 (by decide) x1 := Fin.ext (hx1.trans (Nat.zero_add _).symm)
    apply stored_tap2 m c 0 (by decide) x1 _ rfl
    · unfold strip; rfl
    · pointwise
      exact congrArg (fun x => s.dw (ix2 _ x)) (Fin.ext (Nat.zero_add _).symm)
  case piece10 =>
    obtain rfl : k = 1 := Fin.ext hx0
    obtain rfl : d = colAt 0 (by decide) x1 := Fin.ext (hx1.trans (Nat.zero_add _).symm)
    apply stored_tap1 m c 0 (by decide) x1 _ rfl
    · unfold strip; rfl
    · pointwise
      exact congrArg (fun x => s.dw (ix2 _ x)) (Fin.ext (Nat.zero_add _).symm)
  case piece11 =>
    obtain rfl : k = 0 := Fin.ext hx0
    obtain rfl : d = colAt 0 (by decide) x1 := Fin.ext (hx1.trans (Nat.zero_add _).symm)
    apply stored_tap0 m c 0 (by decide) x1 _ rfl
    · unfold strip; rfl
    · pointwise
      exact congrArg (fun x => s.dw (ix2 _ x)) (Fin.ext (Nat.zero_add _).symm)

set_option maxHeartbeats 2000000 in
theorem first_dw (t : Fin cfg0.N) (h : cond0_0 (grid0.coords t)) (k : Fin 3) (d : Fin 1024) :
    (first m c t h).dw (ix2 k d)
      = 0 + ∑ r : Fin 400, Cert.Hold.part (X0 m c) (X1 m c) (X2 m c) k.val d (time (40 - t.val) r.val) := by
  unfold first St.of runFirst
  dsimp only
  frame_out
  refine (canon_append [_] [_, _, _, _, _, _, _, _, _, _, _, _] _ (View.cover_of_tiled_head _ _ _ (by rfl) _)).trans ?_
  canon_tiles x hx
  all_goals
    idx_vars x
    obtain rfl : x0 = 0 := Subsingleton.elim _ _
    try simp (disch := decide) only [↓View.readCov_skip, View.readCov_fill]
  case piece0 =>
    obtain rfl : k = 2 := Fin.ext hx0
    apply stored_tap2 m c 768 (by decide) x1 d hx1
    · unfold strip; rfl
    · pointwise [k0_pay5]
  case piece1 =>
    obtain rfl : k = 1 := Fin.ext hx0
    apply stored_tap1 m c 768 (by decide) x1 d hx1 (acc := middle (k0_pay5 (F := Ideal)))
    · unfold strip; rfl
    · pointwise [middle, k0_pay5]
  case piece2 =>
    obtain rfl : k = 0 := Fin.ext hx0
    apply stored_tap0 m c 768 (by decide) x1 d hx1
    · unfold strip; rfl
    · pointwise [k0_pay5]
  case piece3 =>
    obtain rfl : k = 2 := Fin.ext hx0
    apply stored_tap2 m c 512 (by decide) x1 d hx1
    · unfold strip; rfl
    · pointwise [k0_pay5]
  case piece4 =>
    obtain rfl : k = 1 := Fin.ext hx0
    apply stored_tap1 m c 512 (by decide) x1 d hx1
    · unfold strip; rfl
    · pointwise [k0_pay5]
  case piece5 =>
    obtain rfl : k = 0 := Fin.ext hx0
    apply stored_tap0 m c 512 (by decide) x1 d hx1
    · unfold strip; rfl
    · pointwise [k0_pay5]
  case piece6 =>
    obtain rfl : k = 2 := Fin.ext hx0
    apply stored_tap2 m c 256 (by decide) x1 d hx1
    · unfold strip; rfl
    · pointwise [k0_pay5]
  case piece7 =>
    obtain rfl : k = 1 := Fin.ext hx0
    apply stored_tap1 m c 256 (by decide) x1 d hx1
    · unfold strip; rfl
    · pointwise [k0_pay5]
  case piece8 =>
    obtain rfl : k = 0 := Fin.ext hx0
    apply stored_tap0 m c 256 (by decide) x1 d hx1
    · unfold strip; rfl
    · pointwise [k0_pay5]
  case piece9 =>
    obtain rfl : k = 2 := Fin.ext hx0
    apply stored_tap2 m c 0 (by decide) x1 d (by omega)
    · unfold strip; rfl
    · pointwise [k0_pay5]
  case piece10 =>
    obtain rfl : k = 1 := Fin.ext hx0
    apply stored_tap1 m c 0 (by decide) x1 d (by omega)
    · unfold strip; rfl
    · pointwise [k0_pay5]
  case piece11 =>
    obtain rfl : k = 0 := Fin.ext hx0
    apply stored_tap0 m c 0 (by decide) x1 d (by omega)
    · unfold strip; rfl
    · pointwise [k0_pay5]

end Cert.Kernel5Ideal.Val

end
-- ==== Proof.HoldRef.lean ====
/-
  The reference's results read at an index: the gated convolution's gradients.
-/
module

public import proofs.«01_k».proof.Proof.HoldSpec
public import proofs.«01_k».proof.Proof.Gen.Reference5Ideal.Read
public import Idealize.ShloMosaic.Lib.Pipeline.ValueKit

@[expose] public section

set_option maxRecDepth 16384

noncomputable section

namespace Cert.Reference5Ideal.Read

open Cert.Reference5Ideal Cert.Reference5Ideal.Gen
open Idealize.ShloMosaic Idealize.ShloMosaic.TcCoe Idealize.SL.Sem

variable (x0 : FVec Ideal S16400x1024 .f32) (x1 : FVec Ideal S1024x1024 .f32) (x2 : FVec Ideal S16400x3072 .f32)
  (x3 : FVec Ideal S3x1024 .f32)

theorem padded (n : Fin 16402) (f : Fin 1024) : val_main_v6 (F := Ideal) x2 (ix3 0 n f) = Cert.Hold.lag x2 n.val f := by
  pointwise [val_main_v6, val_main_v5, val_main_v4, val_main_v3, val_main_v2, val_main_v0, val_main_cst]
  unfold Cert.Hold.lag
  by_cases h : (n : ℕ) < 2
  · rw [dif_pos h, dif_neg (by omega)]
  · rw [dif_neg h, dif_pos ⟨by omega, n.isLt⟩]
    rfl

theorem conv_at (n : Fin 16400) (f : Fin 1024) : val_main_v27 (F := Ideal) x2 x3 (ix3 0 n f) = Cert.Hold.conv x2 x3 n.val f := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, padded]
  unfold Cert.Hold.conv
  rw [add_comm 1 (n : ℕ), add_comm 2 (n : ℕ), mul_comm (x3 _), mul_comm (x3 _), mul_comm (x3 _)]

theorem dq_at (n : Fin 16400) (f : Fin 1024) : val_main_v32 (F := Ideal) x0 x1 (ix3 0 n f) = Cert.Hold.dq x0 x1 n f := by
  pointwise [val_main_v32, val_main_v31]
  rfl

theorem du_at (n : Fin 16400) (f : Fin 1024) : val_main_v33 (F := Ideal) x0 x1 x2 (ix3 0 n f) = Cert.Hold.du x0 x1 x2 n.val f := by
  pointwise [val_main_v33, val_main_v1, val_main_v0, dq_at]
  unfold Cert.Hold.du
  rw [dif_pos n.isLt, mul_comm]
  rfl

/-- The convolution's transpose: the three shifted products, zero past the last row. -/
theorem dcv_at (n : Fin 16400) (f : Fin 1024) :
    val_main_v67 (F := Ideal) x0 x1 x2 x3 (ix3 0 n f) = Cert.Hold.dcv x0 x1 x2 x3 n.val f := by
  pointwise [val_main_v67, val_main_v65, val_main_v64, val_main_v59, val_main_v58, val_main_v54, val_main_v53, val_main_v48,
    val_main_v47, val_main_v43, val_main_v39, val_main_v38, val_main_v24, val_main_v23, val_main_v22, val_main_v17, val_main_v16,
    val_main_v15, val_main_v11, val_main_v10, val_main_v9, val_main_cst_12, val_main_cst_8, val_main_cst_4, du_at]
  unfold Cert.Hold.dcv
  have e1 : 2 + (n : ℕ) - 1 = n + 1 := by omega
  rw [e1, add_comm 2 (n : ℕ), mul_comm (x3 (ix2 0 f)), mul_comm (x3 (ix2 1 f)), mul_comm (x3 (ix2 2 f)), add_comm (_ * _ + _ * _),
    add_comm (Cert.Hold.du x0 x1 x2 (n + 2) f * _), ← add_assoc]
  have f1 : (if h : 1 ≤ (n : ℕ) + 2 ∧ (n : ℕ) + 1 < 16400 then Cert.Hold.du x0 x1 x2 (n + 1) f * x3 (ix2 1 f) else 0)
      = Cert.Hold.du x0 x1 x2 (n + 1) f * x3 (ix2 1 f) := by
    by_cases h : (n : ℕ) + 1 < 16400
    · rw [dif_pos ⟨by omega, h⟩]
    · rw [dif_neg (by omega), Cert.Hold.du_end _ _ _ (by omega), zero_mul]
  have f2 : (if h : (n : ℕ) + 2 < 16400 then Cert.Hold.du x0 x1 x2 (n + 2) f * x3 (ix2 0 f) else 0)
      = Cert.Hold.du x0 x1 x2 (n + 2) f * x3 (ix2 0 f) := by
    by_cases h : (n : ℕ) + 2 < 16400
    · rw [dif_pos h]
    · rw [dif_neg (by omega), Cert.Hold.du_end _ _ _ (by omega), zero_mul]
  rw [f1, f2]

theorem dp_at (n : Fin 16400) (d : Fin 3072) : val_main_v72 (F := Ideal) x0 x1 x2 x3 (ix2 n d) = Cert.Hold.dp x0 x1 x2 x3 n d := by
  pointwise [val_main_v72, val_main_v71, val_main_v70, val_main_v69, val_main_v68, val_main_v34, val_main_v3, val_main_v2, val_main_v0,
    val_main_cst_13, dcv_at, conv_at, dq_at]
  rw [Fin.sum_univ_one]
  unfold Cert.Hold.dp
  have hd := d.isLt
  by_cases h1 : (d : ℕ) < 1024
  · rw [dif_pos h1, dif_pos h1]
  · rw [dif_neg h1, dif_neg h1]
    by_cases h2 : (d : ℕ) < 2048
    · rw [dif_pos (by omega), dif_pos h2]
      rfl
    · rw [dif_neg (by omega), dif_neg h2]
      have e : (d : ℕ) - 1024 - 1024 = d - 2048 := by omega
      have e' : ∀ a b : ℕ, a = b → ∀ (ha : 1024 + a < 3072) (hb : 1024 + b < 3072) (ha' : a < 1024) (hb' : b < 1024),
          x2 (ix2 n ⟨1024 + a, ha⟩) * Cert.Hold.dcv x0 x1 x2 x3 ↑n ⟨a, ha'⟩ =
            Cert.Hold.dcv x0 x1 x2 x3 ↑n ⟨b, hb'⟩ * x2 (ix2 n ⟨1024 + b, hb⟩) := by
        rintro a _ rfl ha hb ha' hb'
        exact mul_comm _ _
      exact e' _ _ e _ (by omega) _ (by omega)

theorem dhb_at (n : Fin 16400) (d : Fin 1024) : val_main_v73 (F := Ideal) x0 (ix2 n d) = x0 (ix2 n d) := by
  pointwise [val_main_v73]

/-- A sum over two axes of extent one is the entry there. -/
theorem ones (v : S1x1x1024.Idx → EReal) (c : Fin 1024) :
    Ideal.hostReduceAdd reducesTo_S1x1x1024_S1024_d0_1 v 0 (ix1 c) = v (ix3 0 0 c) := by
  unfold Ideal.hostReduceAdd
  have e : (Finset.univ.filter fun i => reducesTo_S1x1x1024_S1024_d0_1.drop i = ix1 c) = {(ix3 0 0 c : S1x1x1024.Idx)} := by
    ext i
    idx_vars i
    have hd : reducesTo_S1x1x1024_S1024_d0_1.drop (ix3 i0 i1 i2) = ix1 i2 := by
      funext b
      fin_cases b
      rfl
    simp only [Finset.mem_filter, Finset.mem_univ, true_and, Finset.mem_singleton, hd]
    obtain rfl : i0 = 0 := Subsingleton.elim _ _
    obtain rfl : i1 = 0 := Subsingleton.elim _ _
    constructor
    · intro h
      have := congrFun h 0
      exact congrArg (fun x => ix3 0 0 x) this
    · intro h
      have := congrFun h 2
      exact congrArg (fun x => ix1 x) this
  rw [e, Finset.sum_singleton, zero_add]

theorem dw_at (k : Fin 3) (f : Fin 1024) : val_main_v63 (F := Ideal) x0 x1 x2 (ix2 k f) = Cert.Hold.dw x0 x1 x2 k.val f := by
  pointwise [val_main_v63, val_main_v62, val_main_v61, val_main_v60, val_main_v57, val_main_v56, val_main_v55, val_main_v52,
    val_main_v51, val_main_v50, val_main_v49, val_main_v46, val_main_v45, val_main_v44, val_main_v42, val_main_v41, val_main_v40,
    val_main_v37, val_main_v36, val_main_v35, val_main_v21, val_main_v14, val_main_v8, padded, ones, val_main_cst_1,
    val_main_cst_2, val_main_cst_3, val_main_cst_5, val_main_cst_6, val_main_cst_7, val_main_cst_9, val_main_cst_10,
    val_main_cst_11, du_at]
  unfold Cert.Hold.dw Cert.Hold.part
  fin_vals k with hk
  all_goals simp only [hk]
  · rw [dif_neg (by omega), dif_neg (by omega), dif_pos (by omega), zero_add, zero_add]
    exact Finset.sum_congr rfl fun x _ => by rw [mul_comm, add_zero]
  · rw [dif_neg (by omega), dif_pos (by omega), dif_neg (by omega), zero_add, add_zero]
    exact Finset.sum_congr rfl fun x _ => by rw [mul_comm, add_comm]
  · rw [dif_pos (by omega), dif_neg (by omega), dif_neg (by omega), add_zero, add_zero]
    exact Finset.sum_congr rfl fun x _ => by rw [mul_comm, add_comm]

end Cert.Reference5Ideal.Read

end
-- ==== Proof.Hold.lean ====
/-
  The gated convolution's backward kernel: what the grid points leave, the whole arrays, the time order, and the claims.
-/
module

public import proofs.«01_k».proof.Defs
public import proofs.«01_k».proof.Proof.Facts
public import proofs.«01_k».proof.Proof.HoldStore
public import proofs.«01_k».proof.Proof.HoldDw
public import proofs.«01_k».proof.Proof.HoldRef
public import proofs.«01_k».proof.Proof.Final
public import proofs.«01_k».proof.Proof.Twins
public import Idealize.ShloMosaic.Lib.Claim
public import Idealize.ShloMosaic.Lib.Quiescent
public import Idealize.ShloMosaic.Lib.Pipeline.ValueKit

@[expose] public section

set_option maxRecDepth 16384

noncomputable section

namespace Cert.Kernel5Ideal.Val

open Cert.Kernel5Ideal Cert.Kernel5Ideal.Gen Cert.Kernel5Ideal.Body
open Idealize.ShloMosaic Idealize.ShloMosaic.TcCoe Idealize.SL.Sem
open Idealize.ShloMosaic.Pipeline (Dat)
open Cert.Spec (time)

variable (m : (ℓ : Loc nD τ sig) → Buf (Elt Ideal) ℓ) (c : Dev nD)

theorem carried (n : ℕ) (hn : n < cfg0.N) (q : Fin 16) (d : Fin 1024) :
    (state m c n hn).carry (ix2 q d) = Cert.Hold.du (X0 m c) (X1 m c) (X2 m c) (time (40 - n) q.val) d := by
  cases n with
  | zero => exact first_carry m c ⟨0, hn⟩ _ q d
  | succ n => exact next_carry m c ⟨n + 1, hn⟩ _ _ q d

theorem state_dp (t : Fin cfg0.N) (r : Fin 400) (d : Fin 3072) :
    (state m c t.val t.isLt).dp (ix2 r d) = Cert.Hold.dp (X0 m c) (X1 m c) (X2 m c) (X3 m c) ⟨time (40 - t.val) r.val, Shift.time_lt (by omega) r⟩ d := by
  obtain ⟨n, hn⟩ := t
  cases n with
  | zero => exact first_dp m c ⟨0, hn⟩ _ rfl r d
  | succ n =>
    refine next_dp m c ⟨n + 1, hn⟩ _ _ (fun q d => ?_) r d
    have e := carried m c n (Nat.lt_of_succ_lt hn) q d
    rw [show 41 - (n + 1) = 40 - n by omega]
    exact e

theorem state_dhb (t : Fin cfg0.N) (r : Fin 400) (d : Fin 1024) :
    (state m c t.val t.isLt).dhb (ix2 r d) = X0 m c (ix2 ⟨time (40 - t.val) r.val, Shift.time_lt (by omega) r⟩ d) := by
  obtain ⟨n, hn⟩ := t
  cases n with
  | zero => exact first_dhb m c ⟨0, hn⟩ _ r d
  | succ n => exact next_dhb m c ⟨n + 1, hn⟩ _ _ r d

theorem state_dw (n : ℕ) (hn : n < cfg0.N) (k : Fin 3) (d : Fin 1024) :
    (state m c n hn).dw (ix2 k d)
      = ∑ p : Fin (n + 1), ∑ r : Fin 400, Cert.Hold.part (X0 m c) (X1 m c) (X2 m c) k.val d (time (40 - p.val) r.val) := by
  induction n with
  | zero =>
    rw [Fin.sum_univ_one]
    exact (first_dw m c ⟨0, hn⟩ _ k d).trans (zero_add _)
  | succ n ih =>
    rw [Fin.sum_univ_castSucc]
    refine (next_dw m c ⟨n + 1, hn⟩ _ _ k d).trans ?_
    exact congrArg (· + _) (ih (Nat.lt_of_succ_lt hn))

theorem state_last (t : Fin cfg0.N) (ht : t.val = 40) (k : Fin 3) (d : Fin 1024) :
    (state m c t.val t.isLt).dw (ix2 k d) = Cert.Hold.dw (X0 m c) (X1 m c) (X2 m c) k.val d := by
  have e : ∀ n, n = 40 → ∑ p : Fin (n + 1), ∑ r : Fin 400, Cert.Hold.part (X0 m c) (X1 m c) (X2 m c) k.val d (time (40 - p.val) r.val)
      = Cert.Hold.dw (X0 m c) (X1 m c) (X2 m c) k.val d := by
    intro n hn
    subst hn
    exact Cert.Spec.sum_tiles fun n => Cert.Hold.part (X0 m c) (X1 m c) (X2 m c) k.val d n
  exact (state_dw m c t.val t.isLt k d).trans (e t.val ht)

/-- The rows' gradient, in tile order. -/
theorem arr6 : (dats m 0 c).arrAt 6 cfg0.N = fun y : S16400x3072.Idx =>
    Cert.Hold.dp (X0 m c) (X1 m c) (X2 m c) (X3 m c) ⟨(y 0).val / 400 * 400 + (y 0).val % 8 * 50 + (y 0).val / 8 % 50, by
      have : (y 0).val < 16400 := (y 0).isLt
      omega⟩ (y 1) := by
  refine (dats m 0 c).arrAt_eq_of_covers 6 _ (by decide +kernel) fun t hf y => ?_
  have ht : t.val < 41 := lt_of_lt_of_eq t.isLt N_0
  have e1 : (win0_6.blk t).view.emb y 1 = (⟨(y 1).val, (y 1).isLt⟩ : Fin 3072) := Fin.ext (by blk_simp [idx_val t])
  blk_simp [idx_val t]
  rw [left6, e1]
  revert y
  change ∀ y : S400x3072.Idx, _
  intro y e1
  idx_vars y
  refine (state_dp m c t y0 y1).trans ?_
  refine congrArg (fun n => Cert.Hold.dp (X0 m c) (X1 m c) (X2 m c) (X3 m c) n y1) (Fin.ext ?_)
  show time (40 - t.val) y0.val = ((40 - t.val) * 400 + y0.val) / 400 * 400 + ((40 - t.val) * 400 + y0.val) % 8 * 50
    + ((40 - t.val) * 400 + y0.val) / 8 % 50
  unfold time
  omega

theorem arr7 : (dats m 0 c).arrAt 7 cfg0.N = fun y : S16400x1024.Idx =>
    X0 m c (ix2 ⟨(y 0).val / 400 * 400 + (y 0).val % 8 * 50 + (y 0).val / 8 % 50, by
      have : (y 0).val < 16400 := (y 0).isLt
      omega⟩ (y 1)) := by
  refine (dats m 0 c).arrAt_eq_of_covers 7 _ (by decide +kernel) fun t hf y => ?_
  have ht : t.val < 41 := lt_of_lt_of_eq t.isLt N_0
  have e1 : (win0_7.blk t).view.emb y 1 = (⟨(y 1).val, (y 1).isLt⟩ : Fin 1024) := Fin.ext (by blk_simp [idx_val t])
  blk_simp [idx_val t]
  rw [left7, e1]
  revert y
  change ∀ y : S400x1024.Idx, _
  intro y e1
  idx_vars y
  refine (state_dhb m c t y0 y1).trans ?_
  refine congrArg (fun n => X0 m c (ix2 n y1)) (Fin.ext ?_)
  show time (40 - t.val) y0.val = ((40 - t.val) * 400 + y0.val) / 400 * 400 + ((40 - t.val) * 400 + y0.val) % 8 * 50
    + ((40 - t.val) * 400 + y0.val) / 8 % 50
  unfold time
  omega

/-- The taps' gradient: the last point leaves the sum over all tiles, so over all rows. -/
theorem arr8 : (dats m 0 c).arrAt 8 cfg0.N = fun y : S3x1024.Idx =>
    Cert.Hold.dw (X0 m c) (X1 m c) (X2 m c) (y 0).val (y 1) := by
  refine (dats m 0 c).arrAt_eq_of_covers 8 _ (by decide +kernel) fun t hf y => ?_
  have ht : t.val = 40 := by
    have := (flush0_8 t).mp hf
    have : t.val < 41 := lt_of_lt_of_eq t.isLt N_0
    omega
  have e1 : (win0_8.blk t).view.emb y 1 = (⟨(y 1).val, (y 1).isLt⟩ : Fin 1024) := Fin.ext (by blk_simp [idx_val t])
  blk_simp [idx_val t]
  rw [left8, e1]
  revert y
  change ∀ y : S3x1024.Idx, _
  intro y e1
  idx_vars y
  exact state_last m c t ht y0 y1

/-- The arrays after the region, as the host operations that follow it read them. -/
theorem left (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Dat.withArrays_arrAt (dats m 0 c) sharedIn0 (V0 m c) (A_eq m c) w

/-- The kernel's first result: the rows' gradient in time order. -/
theorem res_dp (n : Fin 16400) (d : Fin 3072) :
    Pipeline.afterTail₀ cfgs (dats m) 0 (V0 m) [hostOps1] c main_v11 (ix2 n d)
      = Cert.Hold.dp (X0 m c) (X1 m c) (X2 m c) (X3 m c) n d := by
  unfold Pipeline.afterTail₀
  simp only [List.flatten_cons, List.flatten_nil, List.append_nil]
  unfold hostOps1
  after_results
  have e := (left m c 6).trans (arr6 m c)
  dsimp only [Pipeline.arrRef] at e
  erw [e]
  pointwise
  refine congrArg (fun k => Cert.Hold.dp (X0 m c) (X1 m c) (X2 m c) (X3 m c) k d) (Fin.ext (Cert.KernelIdeal.Val.untile n.val))

theorem res_dhb (n : Fin 16400) (d : Fin 1024) :
    Pipeline.afterTail₀ cfgs (dats m) 0 (V0 m) [hostOps1] c main_v14 (ix2 n d) = X0 m c (ix2 n d) := by
  unfold Pipeline.afterTail₀
  simp only [List.flatten_cons, List.flatten_nil, List.append_nil]
  unfold hostOps1
  after_results
  erw [(left m c 7).trans (arr7 m c)]
  pointwise
  refine congrArg (fun k => X0 m c (ix2 k d)) (Fin.ext (Cert.KernelIdeal.Val.untile n.val))

end Cert.Kernel5Ideal.Val

namespace Cert.Proof

open Idealize.ShloMosaic Idealize.ShloMosaic.TcCoe Idealize.SL.Sem

set_option maxRecDepth 100000 in
theorem algebraic5 : Cert.algebraic_Kernel5Ideal_Reference5Ideal := by
  pair_intro
  · run_from Cert.Kernel5Ideal.Body.run_main m g
    · exact Cert.Kernel5Ideal.Gen.W_main_arg0 m (Cert.Kernel5Ideal.Body.dats m) c
    · exact Cert.Kernel5Ideal.Gen.W_main_arg1 m (Cert.Kernel5Ideal.Body.dats m) c
    · exact Cert.Kernel5Ideal.Gen.W_main_arg2 m (Cert.Kernel5Ideal.Body.dats m) c
  · run_from Cert.Reference5Ideal.Value.run m' g'
    all_goals obtain ⟨e0, e1, e2, e3⟩ := hagree c
    · rw [Cert.Reference5Ideal.Read.val_main_v72_eq, e0, e1, e2, e3]
      funext j
      idx_vars j
      exact (Cert.Reference5Ideal.Read.dp_at _ _ _ _ j0 j1).trans (Cert.Kernel5Ideal.Val.res_dp m c j0 j1).symm
    · rw [Cert.Reference5Ideal.Read.val_main_v73_eq]
      funext j
      idx_vars j
      exact (Cert.Reference5Ideal.Read.dhb_at _ j0 j1).trans (Cert.Kernel5Ideal.Val.res_dhb m c j0 j1).symm
    · rw [Cert.Reference5Ideal.Read.val_main_v63_eq, e0, e1, e2, Cert.Kernel5Ideal.Val.arr8]
      funext j
      idx_vars j
      exact Cert.Reference5Ideal.Read.dw_at _ _ _ j0 j1

theorem frame5 : Cert.quiescent_Kernel5 := fun m g _ => by
  rw [Cert.Twin.defs_eq5, Cert.Twin.main_eq5]
  exact Cert.Kernel5Ideal.Body.frame (F := Bits) m g

theorem frame_ideal5 : Cert.quiescent_Kernel5Ideal := fun m g _ => Cert.Kernel5Ideal.Body.frame m g

theorem frame_reference5 : Cert.quiescent_Reference5Ideal := fun m g _ =>
  (θ_run _ _ _).mono (fun r h => ⟨fun c => (h c).2.2.2, sem_eq_zero_of_no_sems (sig := Cert.Reference5Ideal.sig) (by decide) r.2⟩)
    (Cert.Reference5Ideal.Value.run m g)

end Cert.Proof

end
-- ==== Proof.Adam.lean ====
/-
  One AdamW step: the weight's change and the two moments, entry by entry.  The three array identities are proved once, for an
  array of any shape; each kernel's blocks tile its arrays, so its claim is these three at its own shape.
-/
module

public import proofs.«01_k».proof.Proof.Facts
public import proofs.«01_k».proof.Proof.Twins
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem

namespace Cert.Adam

variable {S : Shape} (h : (⟨0, ![]⟩ : Shape).BroadcastsInDim S ![]) (w g m v : FVec Ideal S .f32)

/-- One of the step's numbers in every entry of an array. -/
abbrev all (b : BitVec 32) : FVec Ideal S .f32 := broadcastInDim S ![] h (constant (⟨0, ![]⟩ : Shape) .f32 b)

/-- The first moment, entry by entry: nine tenths of the old one and a tenth of the gradient. -/
theorem first : addf (mulf (all h 0x3F666666#32) m) (mulf (all h 0x3DCCCCCD#32) g)
    = fun i => FloatOps.addf (FloatOps.mulf (Scalar.ofBits .f32 0x3F666666#32) (m i)) (FloatOps.mulf (Scalar.ofBits .f32 0x3DCCCCCD#32) (g i)) := rfl

/-- The second moment, entry by entry: 0.999 of the old one and 0.001 of the gradient's square. -/
theorem second : addf (mulf (all h 0x3F7FBE77#32) v) (mulf (all h 0x3A83126F#32) (mulf g g))
    = fun i => FloatOps.addf (FloatOps.mulf (Scalar.ofBits .f32 0x3F7FBE77#32) (v i))
        (FloatOps.mulf (Scalar.ofBits .f32 0x3A83126F#32) (FloatOps.mulf (g i) (g i))) := rfl

/-- The weight's change, entry by entry: the first moment over the root of the second, each divided by what ten steps have left of
    it, and the weight's own decay. -/
theorem change :
    mulf (all h 0xBA83126F#32) (addf (Host.divf
        (Host.divf (addf (mulf (all h 0x3F666666#32) m) (mulf (all h 0x3DCCCCCD#32) g)) (all h 0x3F26BD02#32))
        (addf (Host.sqrt (Host.divf (addf (mulf (all h 0x3F7FBE77#32) v) (mulf (all h 0x3A83126F#32) (mulf g g))) (all h 0x3C231ACC#32)))
          (all h 0x322BCC77#32))) (mulf (all h 0x3C23D70A#32) w))
    = fun i => FloatOps.mulf (Scalar.ofBits .f32 0xBA83126F#32) (FloatOps.addf (FloatOps.divf
        (FloatOps.divf (FloatOps.addf (FloatOps.mulf (Scalar.ofBits .f32 0x3F666666#32) (m i)) (FloatOps.mulf (Scalar.ofBits .f32 0x3DCCCCCD#32) (g i))) (Scalar.ofBits .f32 0x3F26BD02#32))
        (FloatOps.addf (FloatOps.sqrt (FloatOps.divf (FloatOps.addf (FloatOps.mulf (Scalar.ofBits .f32 0x3F7FBE77#32) (v i)) (FloatOps.mulf (Scalar.ofBits .f32 0x3A83126F#32) (FloatOps.mulf (g i) (g i)))) (Scalar.ofBits .f32 0x3C231ACC#32)))
          (Scalar.ofBits .f32 0x322BCC77#32))) (FloatOps.mulf (Scalar.ofBits .f32 0x3C23D70A#32) (w i))) := rfl

end Cert.Adam

namespace Cert.Proof

theorem algebraic13 : Cert.algebraic_Kernel13Ideal_Reference13Ideal := by
  pair_intro
  · run_from Cert.Kernel13Ideal.Value.run m g
  · run_from Cert.Reference13Ideal.Value.run m' g'
    · exact Cert.Adam.change _ _ _ _ _
    · exact Cert.Adam.first _ _ _
    · exact Cert.Adam.second _ _ _

theorem frame13 : Cert.quiescent_Kernel13 := fun m g _ => by
  rw [Cert.Twin.defs_eq13, Cert.Twin.main_eq13]
  exact Cert.Kernel13Ideal.Gen.frame (F := Bits) m g

theorem frame_ideal13 : Cert.quiescent_Kernel13Ideal := fun m g _ => Cert.Kernel13Ideal.Gen.frame m g

theorem frame_reference13 : Cert.quiescent_Reference13Ideal := fun m g _ =>
  (θ_run _ _ _).mono (fun r h => ⟨fun c => (h c).2.2.2, sem_eq_zero_of_no_sems (sig := Cert.Reference13Ideal.sig) (by decide) r.2⟩)
    (Cert.Reference13Ideal.Value.run m g)

theorem algebraic14 : Cert.algebraic_Kernel14Ideal_Reference14Ideal := by
  pair_intro
  · run_from Cert.Kernel14Ideal.Value.run m g
  · run_from Cert.Reference14Ideal.Value.run m' g'
    · exact Cert.Adam.change _ _ _ _ _
    · exact Cert.Adam.first _ _ _
    · exact Cert.Adam.second _ _ _

theorem frame14 : Cert.quiescent_Kernel14 := fun m g _ => by
  rw [Cert.Twin.defs_eq14, Cert.Twin.main_eq14]
  exact Cert.Kernel14Ideal.Gen.frame (F := Bits) m g

theorem frame_ideal14 : Cert.quiescent_Kernel14Ideal := fun m g _ => Cert.Kernel14Ideal.Gen.frame m g

theorem frame_reference14 : Cert.quiescent_Reference14Ideal := fun m g _ =>
  (θ_run _ _ _).mono (fun r h => ⟨fun c => (h c).2.2.2, sem_eq_zero_of_no_sems (sig := Cert.Reference14Ideal.sig) (by decide) r.2⟩)
    (Cert.Reference14Ideal.Value.run m g)

theorem algebraic15 : Cert.algebraic_Kernel15Ideal_Reference15Ideal := by
  pair_intro
  · run_from Cert.Kernel15Ideal.Value.run m g
  · run_from Cert.Reference15Ideal.Value.run m' g'
    · exact Cert.Adam.change _ _ _ _ _
    · exact Cert.Adam.first _ _ _
    · exact Cert.Adam.second _ _ _

theorem frame15 : Cert.quiescent_Kernel15 := fun m g _ => by
  rw [Cert.Twin.defs_eq15, Cert.Twin.main_eq15]
  exact Cert.Kernel15Ideal.Gen.frame (F := Bits) m g

theorem frame_ideal15 : Cert.quiescent_Kernel15Ideal := fun m g _ => Cert.Kernel15Ideal.Gen.frame m g

theorem frame_reference15 : Cert.quiescent_Reference15Ideal := fun m g _ =>
  (θ_run _ _ _).mono (fun r h => ⟨fun c => (h c).2.2.2, sem_eq_zero_of_no_sems (sig := Cert.Reference15Ideal.sig) (by decide) r.2⟩)
    (Cert.Reference15Ideal.Value.run m g)

theorem algebraic16 : Cert.algebraic_Kernel16Ideal_Reference16Ideal := by
  pair_intro
  · run_from Cert.Kernel16Ideal.Value.run m g
  · run_from Cert.Reference16Ideal.Value.run m' g'
    · exact Cert.Adam.change _ _ _ _ _
    · exact Cert.Adam.first _ _ _
    · exact Cert.Adam.second _ _ _

theorem frame16 : Cert.quiescent_Kernel16 := fun m g _ => by
  rw [Cert.Twin.defs_eq16, Cert.Twin.main_eq16]
  exact Cert.Kernel16Ideal.Gen.frame (F := Bits) m g

theorem frame_ideal16 : Cert.quiescent_Kernel16Ideal := fun m g _ => Cert.Kernel16Ideal.Gen.frame m g

theorem frame_reference16 : Cert.quiescent_Reference16Ideal := fun m g _ =>
  (θ_run _ _ _).mono (fun r h => ⟨fun c => (h c).2.2.2, sem_eq_zero_of_no_sems (sig := Cert.Reference16Ideal.sig) (by decide) r.2⟩)
    (Cert.Reference16Ideal.Value.run m g)

theorem algebraic17 : Cert.algebraic_Kernel17Ideal_Reference17Ideal := by
  pair_intro
  · run_from Cert.Kernel17Ideal.Value.run m g
  · run_from Cert.Reference17Ideal.Value.run m' g'
    · exact Cert.Adam.change _ _ _ _ _
    · exact Cert.Adam.first _ _ _
    · exact Cert.Adam.second _ _ _

theorem frame17 : Cert.quiescent_Kernel17 := fun m g _ => by
  rw [Cert.Twin.defs_eq17, Cert.Twin.main_eq17]
  exact Cert.Kernel17Ideal.Gen.frame (F := Bits) m g

theorem frame_ideal17 : Cert.quiescent_Kernel17Ideal := fun m g _ => Cert.Kernel17Ideal.Gen.frame m g

theorem frame_reference17 : Cert.quiescent_Reference17Ideal := fun m g _ =>
  (θ_run _ _ _).mono (fun r h => ⟨fun c => (h c).2.2.2, sem_eq_zero_of_no_sems (sig := Cert.Reference17Ideal.sig) (by decide) r.2⟩)
    (Cert.Reference17Ideal.Value.run m g)

theorem algebraic18 : Cert.algebraic_Kernel18Ideal_Reference18Ideal := by
  pair_intro
  · run_from Cert.Kernel18Ideal.Value.run m g
  · run_from Cert.Reference18Ideal.Value.run m' g'
    · exact Cert.Adam.change _ _ _ _ _
    · exact Cert.Adam.first _ _ _
    · exact Cert.Adam.second _ _ _

theorem frame18 : Cert.quiescent_Kernel18 := fun m g _ => by
  rw [Cert.Twin.defs_eq18, Cert.Twin.main_eq18]
  exact Cert.Kernel18Ideal.Gen.frame (F := Bits) m g

theorem frame_ideal18 : Cert.quiescent_Kernel18Ideal := fun m g _ => Cert.Kernel18Ideal.Gen.frame m g

theorem frame_reference18 : Cert.quiescent_Reference18Ideal := fun m g _ =>
  (θ_run _ _ _).mono (fun r h => ⟨fun c => (h c).2.2.2, sem_eq_zero_of_no_sems (sig := Cert.Reference18Ideal.sig) (by decide) r.2⟩)
    (Cert.Reference18Ideal.Value.run m g)

theorem algebraic19 : Cert.algebraic_Kernel19Ideal_Reference19Ideal := by
  pair_intro
  · run_from Cert.Kernel19Ideal.Value.run m g
  · run_from Cert.Reference19Ideal.Value.run m' g'
    · exact Cert.Adam.change _ _ _ _ _
    · exact Cert.Adam.first _ _ _
    · exact Cert.Adam.second _ _ _

theorem frame19 : Cert.quiescent_Kernel19 := fun m g _ => by
  rw [Cert.Twin.defs_eq19, Cert.Twin.main_eq19]
  exact Cert.Kernel19Ideal.Gen.frame (F := Bits) m g

theorem frame_ideal19 : Cert.quiescent_Kernel19Ideal := fun m g _ => Cert.Kernel19Ideal.Gen.frame m g

theorem frame_reference19 : Cert.quiescent_Reference19Ideal := fun m g _ =>
  (θ_run _ _ _).mono (fun r h => ⟨fun c => (h c).2.2.2, sem_eq_zero_of_no_sems (sig := Cert.Reference19Ideal.sig) (by decide) r.2⟩)
    (Cert.Reference19Ideal.Value.run m g)

theorem algebraic20 : Cert.algebraic_Kernel20Ideal_Reference20Ideal := by
  pair_intro
  · run_from Cert.Kernel20Ideal.Value.run m g
  · run_from Cert.Reference20Ideal.Value.run m' g'
    · exact Cert.Adam.change _ _ _ _ _
    · exact Cert.Adam.first _ _ _
    · exact Cert.Adam.second _ _ _

theorem frame20 : Cert.quiescent_Kernel20 := fun m g _ => by
  rw [Cert.Twin.defs_eq20, Cert.Twin.main_eq20]
  exact Cert.Kernel20Ideal.Gen.frame (F := Bits) m g

theorem frame_ideal20 : Cert.quiescent_Kernel20Ideal := fun m g _ => Cert.Kernel20Ideal.Gen.frame m g

theorem frame_reference20 : Cert.quiescent_Reference20Ideal := fun m g _ =>
  (θ_run _ _ _).mono (fun r h => ⟨fun c => (h c).2.2.2, sem_eq_zero_of_no_sems (sig := Cert.Reference20Ideal.sig) (by decide) r.2⟩)
    (Cert.Reference20Ideal.Value.run m g)

theorem algebraic21 : Cert.algebraic_Kernel21Ideal_Reference21Ideal := by
  pair_intro
  · run_from Cert.Kernel21Ideal.Value.run m g
  · run_from Cert.Reference21Ideal.Value.run m' g'
    · exact Cert.Adam.change _ _ _ _ _
    · exact Cert.Adam.first _ _ _
    · exact Cert.Adam.second _ _ _

theorem frame21 : Cert.quiescent_Kernel21 := fun m g _ => by
  rw [Cert.Twin.defs_eq21, Cert.Twin.main_eq21]
  exact Cert.Kernel21Ideal.Gen.frame (F := Bits) m g

theorem frame_ideal21 : Cert.quiescent_Kernel21Ideal := fun m g _ => Cert.Kernel21Ideal.Gen.frame m g

theorem frame_reference21 : Cert.quiescent_Reference21Ideal := fun m g _ =>
  (θ_run _ _ _).mono (fun r h => ⟨fun c => (h c).2.2.2, sem_eq_zero_of_no_sems (sig := Cert.Reference21Ideal.sig) (by decide) r.2⟩)
    (Cert.Reference21Ideal.Value.run m g)

theorem algebraic22 : Cert.algebraic_Kernel22Ideal_Reference22Ideal := by
  pair_intro
  · run_from Cert.Kernel22Ideal.Value.run m g
  · run_from Cert.Reference22Ideal.Value.run m' g'
    · exact Cert.Adam.change _ _ _ _ _
    · exact Cert.Adam.first _ _ _
    · exact Cert.Adam.second _ _ _

theorem frame22 : Cert.quiescent_Kernel22 := fun m g _ => by
  rw [Cert.Twin.defs_eq22, Cert.Twin.main_eq22]
  exact Cert.Kernel22Ideal.Gen.frame (F := Bits) m g

theorem frame_ideal22 : Cert.quiescent_Kernel22Ideal := fun m g _ => Cert.Kernel22Ideal.Gen.frame m g

theorem frame_reference22 : Cert.quiescent_Reference22Ideal := fun m g _ =>
  (θ_run _ _ _).mono (fun r h => ⟨fun c => (h c).2.2.2, sem_eq_zero_of_no_sems (sig := Cert.Reference22Ideal.sig) (by decide) r.2⟩)
    (Cert.Reference22Ideal.Value.run m g)

theorem algebraic23 : Cert.algebraic_Kernel23Ideal_Reference23Ideal := by
  pair_intro
  · run_from Cert.Kernel23Ideal.Value.run m g
  · run_from Cert.Reference23Ideal.Value.run m' g'
    · exact Cert.Adam.change _ _ _ _ _
    · exact Cert.Adam.first _ _ _
    · exact Cert.Adam.second _ _ _

theorem frame23 : Cert.quiescent_Kernel23 := fun m g _ => by
  rw [Cert.Twin.defs_eq23, Cert.Twin.main_eq23]
  exact Cert.Kernel23Ideal.Gen.frame (F := Bits) m g

theorem frame_ideal23 : Cert.quiescent_Kernel23Ideal := fun m g _ => Cert.Kernel23Ideal.Gen.frame m g

theorem frame_reference23 : Cert.quiescent_Reference23Ideal := fun m g _ =>
  (θ_run _ _ _).mono (fun r h => ⟨fun c => (h c).2.2.2, sem_eq_zero_of_no_sems (sig := Cert.Reference23Ideal.sig) (by decide) r.2⟩)
    (Cert.Reference23Ideal.Value.run m g)

theorem algebraic24 : Cert.algebraic_Kernel24Ideal_Reference24Ideal := by
  pair_intro
  · run_from Cert.Kernel24Ideal.Value.run m g
  · run_from Cert.Reference24Ideal.Value.run m' g'
    · exact Cert.Adam.change _ _ _ _ _
    · exact Cert.Adam.first _ _ _
    · exact Cert.Adam.second _ _ _

theorem frame24 : Cert.quiescent_Kernel24 := fun m g _ => by
  rw [Cert.Twin.defs_eq24, Cert.Twin.main_eq24]
  exact Cert.Kernel24Ideal.Gen.frame (F := Bits) m g

theorem frame_ideal24 : Cert.quiescent_Kernel24Ideal := fun m g _ => Cert.Kernel24Ideal.Gen.frame m g

theorem frame_reference24 : Cert.quiescent_Reference24Ideal := fun m g _ =>
  (θ_run _ _ _).mono (fun r h => ⟨fun c => (h c).2.2.2, sem_eq_zero_of_no_sems (sig := Cert.Reference24Ideal.sig) (by decide) r.2⟩)
    (Cert.Reference24Ideal.Value.run m g)

theorem algebraic25 : Cert.algebraic_Kernel25Ideal_Reference25Ideal := by
  pair_intro
  · run_from Cert.Kernel25Ideal.Value.run m g
  · run_from Cert.Reference25Ideal.Value.run m' g'
    · exact Cert.Adam.change _ _ _ _ _
    · exact Cert.Adam.first _ _ _
    · exact Cert.Adam.second _ _ _

theorem frame25 : Cert.quiescent_Kernel25 := fun m g _ => by
  rw [Cert.Twin.defs_eq25, Cert.Twin.main_eq25]
  exact Cert.Kernel25Ideal.Gen.frame (F := Bits) m g

theorem frame_ideal25 : Cert.quiescent_Kernel25Ideal := fun m g _ => Cert.Kernel25Ideal.Gen.frame m g

theorem frame_reference25 : Cert.quiescent_Reference25Ideal := fun m g _ =>
  (θ_run _ _ _).mono (fun r h => ⟨fun c => (h c).2.2.2, sem_eq_zero_of_no_sems (sig := Cert.Reference25Ideal.sig) (by decide) r.2⟩)
    (Cert.Reference25Ideal.Value.run m g)

theorem algebraic26 : Cert.algebraic_Kernel26Ideal_Reference26Ideal := by
  pair_intro
  · run_from Cert.Kernel26Ideal.Value.run m g
  · run_from Cert.Reference26Ideal.Value.run m' g'
    · exact Cert.Adam.change _ _ _ _ _
    · exact Cert.Adam.first _ _ _
    · exact Cert.Adam.second _ _ _

theorem frame26 : Cert.quiescent_Kernel26 := fun m g _ => by
  rw [Cert.Twin.defs_eq26, Cert.Twin.main_eq26]
  exact Cert.Kernel26Ideal.Gen.frame (F := Bits) m g

theorem frame_ideal26 : Cert.quiescent_Kernel26Ideal := fun m g _ => Cert.Kernel26Ideal.Gen.frame m g

theorem frame_reference26 : Cert.quiescent_Reference26Ideal := fun m g _ =>
  (θ_run _ _ _).mono (fun r h => ⟨fun c => (h c).2.2.2, sem_eq_zero_of_no_sems (sig := Cert.Reference26Ideal.sig) (by decide) r.2⟩)
    (Cert.Reference26Ideal.Value.run m g)

end Cert.Proof

end
-- ==== Proof.Sums.lean ====
/-
  A sum over the devices: each device's part of a gradient, added up entry by entry.
-/
module

public import proofs.«01_k».proof.Proof.Facts
public import proofs.«01_k».proof.Proof.Twins
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem

namespace Cert.Sums

/-- The eight devices' parts added up. -/
def total {R : ℕ} (P : FVec Ideal ⟨3, ![8, R, 1024]⟩ .f32) : FVec Ideal ⟨2, ![R, 1024]⟩ .f32 :=
  fun j => ∑ k : Fin 8, P (ix3 k ⟨(j 0).val, (j 0).isLt⟩ ⟨(j 1).val, (j 1).isLt⟩)

/-- Two totals agree part by part. -/
theorem same {f g : Fin 8 → EReal} (h : ∀ k, f k = g k) : ∑ k, f k = ∑ k, g k := Finset.sum_congr rfl fun k _ => h k

end Cert.Sums

namespace Cert.Kernel27Ideal.Total

open Cert.Kernel27Ideal Cert.Kernel27Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x192x1024 .f32) (r : Fin 192) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 192) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel27Ideal.Total

namespace Cert.Proof

theorem algebraic27 : Cert.algebraic_Kernel27Ideal_Reference27Ideal := by
  pair_intro
  · run_from Cert.Kernel27Ideal.Value.run_blocks m g
  · refine θ_run_mono (Cert.Reference27Ideal.Value.run m' g') fun r hr c => ⟨(hr c).1.trans ?_, (hr c).2⟩
    rw [hagree c, Cert.Kernel27Ideal.Total.final]
    funext j
    unfold Cert.Sums.total
    pointwise

theorem frame27 : Cert.quiescent_Kernel27 := fun m g _ => by
  rw [Cert.Twin.defs_eq27, Cert.Twin.main_eq27]
  exact Cert.Kernel27Ideal.Gen.frame (F := Bits) m g

theorem frame_ideal27 : Cert.quiescent_Kernel27Ideal := fun m g _ => Cert.Kernel27Ideal.Gen.frame m g

theorem frame_reference27 : Cert.quiescent_Reference27Ideal := fun m g _ =>
  (θ_run _ _ _).mono (fun r h => ⟨fun c => (h c).2, sem_eq_zero_of_no_sems (sig := Cert.Reference27Ideal.sig) (by decide) r.2⟩)
    (Cert.Reference27Ideal.Value.run m g)

end Cert.Proof

namespace Cert.Kernel28Ideal.Total

open Cert.Kernel28Ideal Cert.Kernel28Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x128x1024 .f32) (r : Fin 128) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 128) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel28Ideal.Total

namespace Cert.Proof

theorem algebraic28 : Cert.algebraic_Kernel28Ideal_Reference28Ideal := by
  pair_intro
  · run_from Cert.Kernel28Ideal.Value.run_blocks m g
  · refine θ_run_mono (Cert.Reference28Ideal.Value.run m' g') fun r hr c => ⟨(hr c).1.trans ?_, (hr c).2⟩
    rw [hagree c, Cert.Kernel28Ideal.Total.final]
    funext j
    unfold Cert.Sums.total
    pointwise

theorem frame28 : Cert.quiescent_Kernel28 := fun m g _ => by
  rw [Cert.Twin.defs_eq28, Cert.Twin.main_eq28]
  exact Cert.Kernel28Ideal.Gen.frame (F := Bits) m g

theorem frame_ideal28 : Cert.quiescent_Kernel28Ideal := fun m g _ => Cert.Kernel28Ideal.Gen.frame m g

theorem frame_reference28 : Cert.quiescent_Reference28Ideal := fun m g _ =>
  (θ_run _ _ _).mono (fun r h => ⟨fun c => (h c).2, sem_eq_zero_of_no_sems (sig := Cert.Reference28Ideal.sig) (by decide) r.2⟩)
    (Cert.Reference28Ideal.Value.run m g)

end Cert.Proof

namespace Cert.Kernel29Ideal.Total

open Cert.Kernel29Ideal Cert.Kernel29Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x160x1024 .f32) (r : Fin 160) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 160) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel29Ideal.Total

namespace Cert.Proof

theorem algebraic29 : Cert.algebraic_Kernel29Ideal_Reference29Ideal := by
  pair_intro
  · run_from Cert.Kernel29Ideal.Value.run_blocks m g
  · refine θ_run_mono (Cert.Reference29Ideal.Value.run m' g') fun r hr c => ⟨(hr c).1.trans ?_, (hr c).2⟩
    rw [hagree c, Cert.Kernel29Ideal.Total.final]
    funext j
    unfold Cert.Sums.total
    pointwise

theorem frame29 : Cert.quiescent_Kernel29 := fun m g _ => by
  rw [Cert.Twin.defs_eq29, Cert.Twin.main_eq29]
  exact Cert.Kernel29Ideal.Gen.frame (F := Bits) m g

theorem frame_ideal29 : Cert.quiescent_Kernel29Ideal := fun m g _ => Cert.Kernel29Ideal.Gen.frame m g

theorem frame_reference29 : Cert.quiescent_Reference29Ideal := fun m g _ =>
  (θ_run _ _ _).mono (fun r h => ⟨fun c => (h c).2, sem_eq_zero_of_no_sems (sig := Cert.Reference29Ideal.sig) (by decide) r.2⟩)
    (Cert.Reference29Ideal.Value.run m g)

end Cert.Proof

namespace Cert.Kernel30Ideal.Total

open Cert.Kernel30Ideal Cert.Kernel30Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x160x1024 .f32) (r : Fin 160) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 160) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel30Ideal.Total

namespace Cert.Proof

theorem algebraic30 : Cert.algebraic_Kernel30Ideal_Reference30Ideal := by
  pair_intro
  · run_from Cert.Kernel30Ideal.Value.run_blocks m g
  · refine θ_run_mono (Cert.Reference30Ideal.Value.run m' g') fun r hr c => ⟨(hr c).1.trans ?_, (hr c).2⟩
    rw [hagree c, Cert.Kernel30Ideal.Total.final]
    funext j
    unfold Cert.Sums.total
    pointwise

theorem frame30 : Cert.quiescent_Kernel30 := fun m g _ => by
  rw [Cert.Twin.defs_eq30, Cert.Twin.main_eq30]
  exact Cert.Kernel30Ideal.Gen.frame (F := Bits) m g

theorem frame_ideal30 : Cert.quiescent_Kernel30Ideal := fun m g _ => Cert.Kernel30Ideal.Gen.frame m g

theorem frame_reference30 : Cert.quiescent_Reference30Ideal := fun m g _ =>
  (θ_run _ _ _).mono (fun r h => ⟨fun c => (h c).2, sem_eq_zero_of_no_sems (sig := Cert.Reference30Ideal.sig) (by decide) r.2⟩)
    (Cert.Reference30Ideal.Value.run m g)

end Cert.Proof

namespace Cert.Kernel31Ideal.Total

open Cert.Kernel31Ideal Cert.Kernel31Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x176x1024 .f32) (r : Fin 176) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 176) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel31Ideal.Total

namespace Cert.Proof

theorem algebraic31 : Cert.algebraic_Kernel31Ideal_Reference31Ideal := by
  pair_intro
  · run_from Cert.Kernel31Ideal.Value.run_blocks m g
  · refine θ_run_mono (Cert.Reference31Ideal.Value.run m' g') fun r hr c => ⟨(hr c).1.trans ?_, (hr c).2⟩
    rw [hagree c, Cert.Kernel31Ideal.Total.final]
    funext j
    unfold Cert.Sums.total
    pointwise

theorem frame31 : Cert.quiescent_Kernel31 := fun m g _ => by
  rw [Cert.Twin.defs_eq31, Cert.Twin.main_eq31]
  exact Cert.Kernel31Ideal.Gen.frame (F := Bits) m g

theorem frame_ideal31 : Cert.quiescent_Kernel31Ideal := fun m g _ => Cert.Kernel31Ideal.Gen.frame m g

theorem frame_reference31 : Cert.quiescent_Reference31Ideal := fun m g _ =>
  (θ_run _ _ _).mono (fun r h => ⟨fun c => (h c).2, sem_eq_zero_of_no_sems (sig := Cert.Reference31Ideal.sig) (by decide) r.2⟩)
    (Cert.Reference31Ideal.Value.run m g)

end Cert.Proof

namespace Cert.Kernel32Ideal.Total

open Cert.Kernel32Ideal Cert.Kernel32Ideal.Gen

/-- A grid point reads and writes the row tile of its own number. -/
theorem idx : ∀ t : Fin cfg0.N, win0_0.index t = ![0, t.val, 0] ∧ win0_1.index t = ![t.val, 0] := (by decide +kernel : ∀ t : Fin grid0.N, _)

/-- What a point stores: the eight parts of its tile added up. -/
theorem out_at (x : Vec Ideal S8x64x1024 .f32) (r : Fin 64) (d : Fin 1024) : out0_1 x (ix2 r d) = ∑ k : Fin 8, x (ix3 k r d) := by
  unfold out0_1
  frame_out
  rw [Fin.sum_univ_eight]
  pointwise [k0_pay1]

/-- The array the call leaves. -/
theorem final (m : (ℓ : Loc nD τ sig) → Buf (Elt Ideal) ℓ) (c : Dev nD) :
    (dats m 0 c).arrAt 1 cfg0.N = Cert.Sums.total (m ((c : Thread nD τ).loc main_arg0)) := by
  refine (dats m 0 c).arrAt_eq_of_covers 1 _ (by decide +kernel) fun t hf y => ?_
  obtain ⟨i0, i1⟩ := idx t
  blk_simp [i1]
  rw [after0_1]
  obtain ⟨r, d, rfl⟩ : ∃ (r : Fin 64) (d : Fin 1024), y = ix2 r d :=
    ⟨⟨(y 0).val, (y 0).isLt⟩, ⟨(y 1).val, (y 1).isLt⟩, by idx_ext⟩
  rw [out_at]
  unfold Cert.Sums.total
  refine Cert.Sums.same fun k => ?_
  blk_point [iblk, V, idx t]

end Cert.Kernel32Ideal.Total

namespace Cert.Proof

theorem algebraic32 : Cert.algebraic_Kernel32Ideal_Reference32Ideal := by
  pair_intro
  · run_from Cert.Kernel32Ideal.Value.run_blocks m g
  · refine θ_run_mono (Cert.Reference32Ideal.Value.run m' g') fun r hr c => ⟨(hr c).1.trans ?_, (hr c).2⟩
    rw [hagree c, Cert.Kernel32Ideal.Total.final]
    funext j
    unfold Cert.Sums.total
    pointwise

theorem frame32 : Cert.quiescent_Kernel32 := fun m g _ => by
  rw [Cert.Twin.defs_eq32, Cert.Twin.main_eq32]
  exact Cert.Kernel32Ideal.Gen.frame (F := Bits) m g

theorem frame_ideal32 : Cert.quiescent_Kernel32Ideal := fun m g _ => Cert.Kernel32Ideal.Gen.frame m g

theorem frame_reference32 : Cert.quiescent_Reference32Ideal := fun m g _ =>
  (θ_run _ _ _).mono (fun r h => ⟨fun c => (h c).2, sem_eq_zero_of_no_sems (sig := Cert.Reference32Ideal.sig) (by decide) r.2⟩)
    (Cert.Reference32Ideal.Value.run m g)

end Cert.Proof

end
-- ==== Proof.lean ====
module

public import proofs.«01_k».proof.Defs
public import proofs.«01_k».proof.Proof.Facts
public import proofs.«01_k».proof.Proof.Body
public import proofs.«01_k».proof.Proof.Twin
public import proofs.«01_k».proof.Proof.Finite
public import proofs.«01_k».proof.Proof.Ref
public import proofs.«01_k».proof.Proof.Final
public import proofs.«01_k».proof.Proof.Norm
public import proofs.«01_k».proof.Proof.Wgrads
public import proofs.«01_k».proof.Proof.Resid
public import proofs.«01_k».proof.Proof.Up
public import proofs.«01_k».proof.Proof.Hold
public import proofs.«01_k».proof.Proof.Adam
public import proofs.«01_k».proof.Proof.Sums
public import proofs.«01_k».proof.Proof.Gen.Kernel
public import proofs.«01_k».proof.Proof.Gen.ReferenceIdeal.Run
public import Idealize.ShloMosaic.Lib.Claim
public import Idealize.ShloMosaic.Lib.Quiescent
public import Idealize.ShloMosaic.Lib.Pipeline.ValueKit

@[expose] public section

set_option maxRecDepth 16384

noncomputable section

namespace Cert.Proof

open Idealize.ShloMosaic Idealize.ShloMosaic.TcCoe Idealize.SL.Sem

/-- The frame of the kernel as printed: the ideal reading's run, at the machine's float values. -/
theorem frame_kernel : Cert.quiescent_Kernel := fun m g _ => by
  rw [Cert.Twin.defs_eq, Cert.Twin.main_eq]
  exact Cert.KernelIdeal.Body.frame (F := Bits) m g

set_option maxRecDepth 100000 in
theorem algebraic : Cert.algebraic_KernelIdeal_ReferenceIdeal_pre_finite := by
  pair_intro
  · run_from Cert.KernelIdeal.Body.run_main m g
    · exact Cert.KernelIdeal.Gen.W_main_arg0 m (Cert.KernelIdeal.Body.dats m) c
    · exact Cert.KernelIdeal.Gen.W_main_arg1 m (Cert.KernelIdeal.Body.dats m) c
    · exact Cert.KernelIdeal.Gen.W_main_arg2 m (Cert.KernelIdeal.Body.dats m) c
  · run_from Cert.ReferenceIdeal.Value.run m' g'
    all_goals obtain ⟨h0, h1, h2, h3⟩ := Cert.Finite.real_args (hpre c)
    all_goals obtain ⟨e0, e1, e2, e3⟩ := hagree c
    · rw [Cert.ReferenceIdeal.Read.val_main_v70_eq, e0, e1, e2, e3]
      funext j
      idx_vars j
      exact (Cert.ReferenceIdeal.Read.da_at _ _ _ _ h0 h1 h2 h3 j0 j1).trans (Cert.KernelIdeal.Val.res_da m c j0 j1).symm
    · funext j
      idx_vars j
      exact (Cert.KernelIdeal.Val.res_dhb m c j0 j1).symm
    · rw [Cert.ReferenceIdeal.Read.val_main_v64_eq, e0, e1, e2, e3, Cert.KernelIdeal.Val.arr8]
      funext j
      idx_vars j
      exact Cert.ReferenceIdeal.Read.dw_at _ _ _ _ h0 h1 h2 h3 j0 j1

theorem frame_reference : Cert.quiescent_ReferenceIdeal := fun m g _ =>
  (θ_run _ _ _).mono (fun r h => ⟨fun c => (h c).2.2.2, sem_eq_zero_of_no_sems (sig := Cert.ReferenceIdeal.sig) (by decide) r.2⟩)
    (Cert.ReferenceIdeal.Value.run m g)

theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance,
    inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    inferInstance, inferInstance, inferInstance, inferInstance, inferInstance, inferInstance, inferInstance, inferInstance, inferInstance, inferInstance, inferInstance, inferInstance, inferInstance, inferInstance, inferInstance, inferInstance, inferInstance, inferInstance,
    frame_kernel, fun m g _ => Cert.KernelIdeal.Body.frame m g, fun m g _ => Cert.KernelIdeal.Body.frame m g, frame_reference,
    fun m g _ => frame_reference m g trivial,
    frame2, frame_ideal2, frame_reference2, frame3, frame_ideal3, frame_reference3,
    frame4, frame_ideal4, frame_reference4, frame5, frame_ideal5, frame_reference5,
    frame6, frame_ideal6, frame_reference6, frame7, frame_ideal7, frame_reference7,
    frame8, frame_ideal8, frame_reference8, frame9, frame_ideal9, frame_reference9,
    frame10, frame_ideal10, frame_reference10, frame11, frame_ideal11, frame_reference11,
    frame12, frame_ideal12, frame_reference12,
    frame13, frame_ideal13, frame_reference13, frame14, frame_ideal14, frame_reference14,
    frame15, frame_ideal15, frame_reference15, frame16, frame_ideal16, frame_reference16,
    frame17, frame_ideal17, frame_reference17, frame18, frame_ideal18, frame_reference18,
    frame19, frame_ideal19, frame_reference19, frame20, frame_ideal20, frame_reference20,
    frame21, frame_ideal21, frame_reference21, frame22, frame_ideal22, frame_reference22,
    frame23, frame_ideal23, frame_reference23, frame24, frame_ideal24, frame_reference24,
    frame25, frame_ideal25, frame_reference25, frame26, frame_ideal26, frame_reference26,
    frame27, frame_ideal27, frame_reference27,
    frame28, frame_ideal28, frame_reference28,
    frame29, frame_ideal29, frame_reference29,
    frame30, frame_ideal30, frame_reference30,
    frame31, frame_ideal31, frame_reference31,
    frame32, frame_ideal32, frame_reference32,
    trivial, algebraic, trivial, algebraic2, trivial, algebraic3, trivial, algebraic4, trivial, algebraic5, trivial, algebraic6,
    trivial, algebraic7, trivial, algebraic8, trivial, algebraic9, trivial, algebraic10, trivial, algebraic11, trivial, algebraic12,
    trivial, algebraic13, trivial, algebraic14, trivial, algebraic15, trivial, algebraic16, trivial, algebraic17, trivial, algebraic18, trivial, algebraic19,
    trivial, algebraic20, trivial, algebraic21, trivial, algebraic22, trivial, algebraic23, trivial, algebraic24, trivial, algebraic25, trivial, algebraic26,
    trivial, algebraic27, trivial, algebraic28, trivial, algebraic29, trivial, algebraic30, trivial, algebraic31, trivial, algebraic32⟩

end Cert.Proof

end
